-- ==== Defs.lean ====
def Pre_Kernel (m : (ℓ : Loc Cert.Kernel.nD Cert.Kernel.τ Cert.Kernel.sig) → Buf (Elt Bits) ℓ) : Prop :=
  True

def Pre_WideK (m : (ℓ : Loc Cert.WideK.nD Cert.WideK.τ Cert.WideK.sig) → Buf (Elt Bits) ℓ) : Prop :=
  True

def Pre_WideKIdeal (m : (ℓ : Loc Cert.WideKIdeal.nD Cert.WideKIdeal.τ Cert.WideKIdeal.sig) → Buf (Elt Ideal) ℓ) : Prop :=
  True

def Pre_WideRIdeal (m : (ℓ : Loc Cert.WideRIdeal.nD Cert.WideRIdeal.τ Cert.WideRIdeal.sig) → Buf (Elt Ideal) ℓ) : Prop :=
  True

def Pre_MergeK (m : (ℓ : Loc Cert.MergeK.nD Cert.MergeK.τ Cert.MergeK.sig) → Buf (Elt Bits) ℓ) : Prop :=
  True

def Pre_MergeKIdeal (m : (ℓ : Loc Cert.MergeKIdeal.nD Cert.MergeKIdeal.τ Cert.MergeKIdeal.sig) → Buf (Elt Ideal) ℓ) : Prop :=
  True

def Pre_MergeRIdeal (m : (ℓ : Loc Cert.MergeRIdeal.nD Cert.MergeRIdeal.τ Cert.MergeRIdeal.sig) → Buf (Elt Ideal) ℓ) : Prop :=
  True

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_ConfK (m : (ℓ : Loc Cert.ConfK.nD Cert.ConfK.τ Cert.ConfK.sig) → Buf (Elt Bits) ℓ) : Prop :=
  True

def Pre_ConfKIdeal (m : (ℓ : Loc Cert.ConfKIdeal.nD Cert.ConfKIdeal.τ Cert.ConfKIdeal.sig) → Buf (Elt Ideal) ℓ) : Prop :=
  True

def Pre_ConfRIdeal (m : (ℓ : Loc Cert.ConfRIdeal.nD Cert.ConfRIdeal.τ Cert.ConfRIdeal.sig) → Buf (Elt Ideal) ℓ) : Prop :=
  True

def Pre_NarrowK (m : (ℓ : Loc Cert.NarrowK.nD Cert.NarrowK.τ Cert.NarrowK.sig) → Buf (Elt Bits) ℓ) : Prop :=
  True

def Pre_NarrowKIdeal (m : (ℓ : Loc Cert.NarrowKIdeal.nD Cert.NarrowKIdeal.τ Cert.NarrowKIdeal.sig) → Buf (Elt Ideal) ℓ) : Prop :=
  True

def Pre_NarrowRIdeal (m : (ℓ : Loc Cert.NarrowRIdeal.nD Cert.NarrowRIdeal.τ Cert.NarrowRIdeal.sig) → Buf (Elt Ideal) ℓ) : Prop :=
  True

def Pre_NormK (m : (ℓ : Loc Cert.NormK.nD Cert.NormK.τ Cert.NormK.sig) → Buf (Elt Bits) ℓ) : Prop :=
  True

def Pre_NormKIdeal (m : (ℓ : Loc Cert.NormKIdeal.nD Cert.NormKIdeal.τ Cert.NormKIdeal.sig) → Buf (Elt Ideal) ℓ) : Prop :=
  True

def Pre_NormRIdeal (m : (ℓ : Loc Cert.NormRIdeal.nD Cert.NormRIdeal.τ Cert.NormRIdeal.sig) → Buf (Elt Ideal) ℓ) : Prop :=
  True

def Pre_AdaK (m : (ℓ : Loc Cert.AdaK.nD Cert.AdaK.τ Cert.AdaK.sig) → Buf (Elt Bits) ℓ) : Prop :=
  True

def Pre_AdaKIdeal (m : (ℓ : Loc Cert.AdaKIdeal.nD Cert.AdaKIdeal.τ Cert.AdaKIdeal.sig) → Buf (Elt Ideal) ℓ) : Prop :=
  True

def Pre_AdaKIdeal_finite_modulation [hPre_finite_modulation : Cert.Pre_finite_modulation.Facts] (m : (ℓ : Loc Cert.AdaKIdeal.nD Cert.AdaKIdeal.τ Cert.AdaKIdeal.sig) → Buf (Elt Ideal) ℓ) : Prop :=
  ∀ c : Dev Cert.AdaKIdeal.nD,
    (Cert.Pre_finite_modulation.fn (F := Ideal) (m ((c.tc : Thread Cert.AdaKIdeal.nD Cert.AdaKIdeal.τ).loc Cert.AdaKIdeal.main_arg0)) (m ((c.tc : Thread Cert.AdaKIdeal.nD Cert.AdaKIdeal.τ).loc Cert.AdaKIdeal.main_arg1)) (m ((c.tc : Thread Cert.AdaKIdeal.nD Cert.AdaKIdeal.τ).loc Cert.AdaKIdeal.main_arg2))) = (fun _ => 1#1)

def Pre_AdaRIdeal (m : (ℓ : Loc Cert.AdaRIdeal.nD Cert.AdaRIdeal.τ Cert.AdaRIdeal.sig) → Buf (Elt Ideal) ℓ) : Prop :=
  True

def Pre_AdaRIdeal_finite_modulation [hPre_finite_modulation : Cert.Pre_finite_modulation.Facts] (m : (ℓ : Loc Cert.AdaRIdeal.nD Cert.AdaRIdeal.τ Cert.AdaRIdeal.sig) → Buf (Elt Ideal) ℓ) : Prop :=
  ∀ c : Dev Cert.AdaRIdeal.nD,
    (Cert.Pre_finite_modulation.fn (F := Ideal) (m ((c.tc : Thread Cert.AdaRIdeal.nD Cert.AdaRIdeal.τ).loc Cert.AdaRIdeal.main_arg0)) (m ((c.tc : Thread Cert.AdaRIdeal.nD Cert.AdaRIdeal.τ).loc Cert.AdaRIdeal.main_arg1)) (m ((c.tc : Thread Cert.AdaRIdeal.nD Cert.AdaRIdeal.τ).loc Cert.AdaRIdeal.main_arg2))) = (fun _ => 1#1)

def Pre_BiasK (m : (ℓ : Loc Cert.BiasK.nD Cert.BiasK.τ Cert.BiasK.sig) → Buf (Elt Bits) ℓ) : Prop :=
  True

def Pre_BiasKIdeal (m : (ℓ : Loc Cert.BiasKIdeal.nD Cert.BiasKIdeal.τ Cert.BiasKIdeal.sig) → Buf (Elt Ideal) ℓ) : Prop :=
  True

def Pre_BiasRIdeal (m : (ℓ : Loc Cert.BiasRIdeal.nD Cert.BiasRIdeal.τ Cert.BiasRIdeal.sig) → Buf (Elt Ideal) ℓ) : Prop :=
  True

def Pre_GdnK (m : (ℓ : Loc Cert.GdnK.nD Cert.GdnK.τ Cert.GdnK.sig) → Buf (Elt Bits) ℓ) : Prop :=
  True

def Pre_GdnKIdeal (m : (ℓ : Loc Cert.GdnKIdeal.nD Cert.GdnKIdeal.τ Cert.GdnKIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_WideK [hWideK : Cert.WideK.Facts] : Prop :=
  ∀ (m : (ℓ : Loc Cert.WideK.nD Cert.WideK.τ Cert.WideK.sig) → Buf (Elt Bits) ℓ) (g : Dev Cert.WideK.nD → PrngReg), Pre_WideK m →
    θ_run (Cert.WideK.defs (F := Bits)) (onTc (τ := Cert.WideK.τ) (Cert.WideK.main (F := Bits))) ⟨m, fun _ => 0, g⟩ (fun r => (∀ c : Dev Cert.WideK.nD,
      r.2.mem ((c.tc : Thread Cert.WideK.nD Cert.WideK.τ).loc Cert.WideK.main_arg0) = m ((c.tc : Thread Cert.WideK.nD Cert.WideK.τ).loc Cert.WideK.main_arg0)
      ∧ r.2.mem ((c.tc : Thread Cert.WideK.nD Cert.WideK.τ).loc Cert.WideK.main_arg1) = m ((c.tc : Thread Cert.WideK.nD Cert.WideK.τ).loc Cert.WideK.main_arg1))
      ∧ r.2.sem = fun _ => 0)

def quiescent_WideKIdeal [hWideKIdeal : Cert.WideKIdeal.Facts] : Prop :=
  ∀ (m : (ℓ : Loc Cert.WideKIdeal.nD Cert.WideKIdeal.τ Cert.WideKIdeal.sig) → Buf (Elt Ideal) ℓ) (g : Dev Cert.WideKIdeal.nD → PrngReg), Pre_WideKIdeal m →
    θ_run (Cert.WideKIdeal.defs (F := Ideal)) (onTc (τ := Cert.WideKIdeal.τ) (Cert.WideKIdeal.main (F := Ideal))) ⟨m, fun _ => 0, g⟩ (fun r => (∀ c : Dev Cert.WideKIdeal.nD,
      r.2.mem ((c.tc : Thread Cert.WideKIdeal.nD Cert.WideKIdeal.τ).loc Cert.WideKIdeal.main_arg0) = m ((c.tc : Thread Cert.WideKIdeal.nD Cert.WideKIdeal.τ).loc Cert.WideKIdeal.main_arg0)
      ∧ r.2.mem ((c.tc : Thread Cert.WideKIdeal.nD Cert.WideKIdeal.τ).loc Cert.WideKIdeal.main_arg1) = m ((c.tc : Thread Cert.WideKIdeal.nD Cert.WideKIdeal.τ).loc Cert.WideKIdeal.main_arg1))
      ∧ r.2.sem = fun _ => 0)

def quiescent_WideRIdeal [hWideRIdeal : Cert.WideRIdeal.Facts] : Prop :=
  ∀ (m : (ℓ : Loc Cert.WideRIdeal.nD Cert.WideRIdeal.τ Cert.WideRIdeal.sig) → Buf (Elt Ideal) ℓ) (g : Dev Cert.WideRIdeal.nD → PrngReg), Pre_WideRIdeal m →
    θ_run (Cert.WideRIdeal.defs (F := Ideal)) (onTc (τ := Cert.WideRIdeal.τ) (Cert.WideRIdeal.main (F := Ideal))) ⟨m, fun _ => 0, g⟩ (fun r => (∀ c : Dev Cert.WideRIdeal.nD,
      r.2.mem ((c.tc : Thread Cert.WideRIdeal.nD Cert.WideRIdeal.τ).loc Cert.WideRIdeal.main_arg0) = m ((c.tc : Thread Cert.WideRIdeal.nD Cert.WideRIdeal.τ).loc Cert.WideRIdeal.main_arg0)
      ∧ r.2.mem ((c.tc : Thread Cert.WideRIdeal.nD Cert.WideRIdeal.τ).loc Cert.WideRIdeal.main_arg1) = m ((c.tc : Thread Cert.WideRIdeal.nD Cert.WideRIdeal.τ).loc Cert.WideRIdeal.main_arg1))
      ∧ r.2.sem = fun _ => 0)

def quiescent_MergeK [hMergeK : Cert.MergeK.Facts] : Prop :=
  ∀ (m : (ℓ : Loc Cert.MergeK.nD Cert.MergeK.τ Cert.MergeK.sig) → Buf (Elt Bits) ℓ) (g : Dev Cert.MergeK.nD → PrngReg), Pre_MergeK m →
    θ_run (Cert.MergeK.defs (F := Bits)) (onTc (τ := Cert.MergeK.τ) (Cert.MergeK.main (F := Bits))) ⟨m, fun _ => 0, g⟩ (fun r => (∀ c : Dev Cert.MergeK.nD,
      r.2.mem ((c.tc : Thread Cert.MergeK.nD Cert.MergeK.τ).loc Cert.MergeK.main_arg0) = m ((c.tc : Thread Cert.MergeK.nD Cert.MergeK.τ).loc Cert.MergeK.main_arg0)
      ∧ r.2.mem ((c.tc : Thread Cert.MergeK.nD Cert.MergeK.τ).loc Cert.MergeK.main_arg1) = m ((c.tc : Thread Cert.MergeK.nD Cert.MergeK.τ).loc Cert.MergeK.main_arg1)
      ∧ r.2.mem ((c.tc : Thread Cert.MergeK.nD Cert.MergeK.τ).loc Cert.MergeK.main_arg2) = m ((c.tc : Thread Cert.MergeK.nD Cert.MergeK.τ).loc Cert.MergeK.main_arg2)
      ∧ r.2.mem ((c.tc : Thread Cert.MergeK.nD Cert.MergeK.τ).loc Cert.MergeK.main_arg3) = m ((c.tc : Thread Cert.MergeK.nD Cert.MergeK.τ).loc Cert.MergeK.main_arg3)
      ∧ r.2.mem ((c.tc : Thread Cert.MergeK.nD Cert.MergeK.τ).loc Cert.MergeK.main_arg4) = m ((c.tc : Thread Cert.MergeK.nD Cert.MergeK.τ).loc Cert.MergeK.main_arg4)
      ∧ r.2.mem ((c.tc : Thread Cert.MergeK.nD Cert.MergeK.τ).loc Cert.MergeK.main_arg5) = m ((c.tc : Thread Cert.MergeK.nD Cert.MergeK.τ).loc Cert.MergeK.main_arg5)
      ∧ r.2.mem ((c.tc : Thread Cert.MergeK.nD Cert.MergeK.τ).loc Cert.MergeK.main_arg6) = m ((c.tc : Thread Cert.MergeK.nD Cert.MergeK.τ).loc Cert.MergeK.main_arg6)
      ∧ r.2.mem ((c.tc : Thread Cert.MergeK.nD Cert.MergeK.τ).loc Cert.MergeK.main_arg7) = m ((c.tc : Thread Cert.MergeK.nD Cert.MergeK.τ).loc Cert.MergeK.main_arg7))
      ∧ r.2.sem = fun _ => 0)

def quiescent_MergeKIdeal [hMergeKIdeal : Cert.MergeKIdeal.Facts] : Prop :=
  ∀ (m : (ℓ : Loc Cert.MergeKIdeal.nD Cert.MergeKIdeal.τ Cert.MergeKIdeal.sig) → Buf (Elt Ideal) ℓ) (g : Dev Cert.MergeKIdeal.nD → PrngReg), Pre_MergeKIdeal m →
    θ_run (Cert.MergeKIdeal.defs (F := Ideal)) (onTc (τ := Cert.MergeKIdeal.τ) (Cert.MergeKIdeal.main (F := Ideal))) ⟨m, fun _ => 0, g⟩ (fun r => (∀ c : Dev Cert.MergeKIdeal.nD,
      r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
      ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
      ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
      ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
      ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
      ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
      ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
      ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7))
      ∧ r.2.sem = fun _ => 0)

def quiescent_MergeRIdeal [hMergeRIdeal : Cert.MergeRIdeal.Facts] : Prop :=
  ∀ (m : (ℓ : Loc Cert.MergeRIdeal.nD Cert.MergeRIdeal.τ Cert.MergeRIdeal.sig) → Buf (Elt Ideal) ℓ) (g : Dev Cert.MergeRIdeal.nD → PrngReg), Pre_MergeRIdeal m →
    θ_run (Cert.MergeRIdeal.defs (F := Ideal)) (onTc (τ := Cert.MergeRIdeal.τ) (Cert.MergeRIdeal.main (F := Ideal))) ⟨m, fun _ => 0, g⟩ (fun r => (∀ c : Dev Cert.MergeRIdeal.nD,
      r.2.mem ((c.tc : Thread Cert.MergeRIdeal.nD Cert.MergeRIdeal.τ).loc Cert.MergeRIdeal.main_arg0) = m ((c.tc : Thread Cert.MergeRIdeal.nD Cert.MergeRIdeal.τ).loc Cert.MergeRIdeal.main_arg0)
      ∧ r.2.mem ((c.tc : Thread Cert.MergeRIdeal.nD Cert.MergeRIdeal.τ).loc Cert.MergeRIdeal.main_arg1) = m ((c.tc : Thread Cert.MergeRIdeal.nD Cert.MergeRIdeal.τ).loc Cert.MergeRIdeal.main_arg1)
      ∧ r.2.mem ((c.tc : Thread Cert.MergeRIdeal.nD Cert.MergeRIdeal.τ).loc Cert.MergeRIdeal.main_arg2) = m ((c.tc : Thread Cert.MergeRIdeal.nD Cert.MergeRIdeal.τ).loc Cert.MergeRIdeal.main_arg2)
      ∧ r.2.mem ((c.tc : Thread Cert.MergeRIdeal.nD Cert.MergeRIdeal.τ).loc Cert.MergeRIdeal.main_arg3) = m ((c.tc : Thread Cert.MergeRIdeal.nD Cert.MergeRIdeal.τ).loc Cert.MergeRIdeal.main_arg3)
      ∧ r.2.mem ((c.tc : Thread Cert.MergeRIdeal.nD Cert.MergeRIdeal.τ).loc Cert.MergeRIdeal.main_arg4) = m ((c.tc : Thread Cert.MergeRIdeal.nD Cert.MergeRIdeal.τ).loc Cert.MergeRIdeal.main_arg4)
      ∧ r.2.mem ((c.tc : Thread Cert.MergeRIdeal.nD Cert.MergeRIdeal.τ).loc Cert.MergeRIdeal.main_arg5) = m ((c.tc : Thread Cert.MergeRIdeal.nD Cert.MergeRIdeal.τ).loc Cert.MergeRIdeal.main_arg5)
      ∧ r.2.mem ((c.tc : Thread Cert.MergeRIdeal.nD Cert.MergeRIdeal.τ).loc Cert.MergeRIdeal.main_arg6) = m ((c.tc : Thread Cert.MergeRIdeal.nD Cert.MergeRIdeal.τ).loc Cert.MergeRIdeal.main_arg6)
      ∧ r.2.mem ((c.tc : Thread Cert.MergeRIdeal.nD Cert.MergeRIdeal.τ).loc Cert.MergeRIdeal.main_arg7) = m ((c.tc : Thread Cert.MergeRIdeal.nD Cert.MergeRIdeal.τ).loc Cert.MergeRIdeal.main_arg7))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1)
      ∧ r.2.mem ((c.tc : Thread Cert.OutK.nD Cert.OutK.τ).loc Cert.OutK.main_arg2) = m ((c.tc : Thread Cert.OutK.nD Cert.OutK.τ).loc Cert.OutK.main_arg2)
      ∧ r.2.mem ((c.tc : Thread Cert.OutK.nD Cert.OutK.τ).loc Cert.OutK.main_arg3) = m ((c.tc : Thread Cert.OutK.nD Cert.OutK.τ).loc Cert.OutK.main_arg3))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
      ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
      ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1)
      ∧ r.2.mem ((c.tc : Thread Cert.OutRIdeal.nD Cert.OutRIdeal.τ).loc Cert.OutRIdeal.main_arg2) = m ((c.tc : Thread Cert.OutRIdeal.nD Cert.OutRIdeal.τ).loc Cert.OutRIdeal.main_arg2)
      ∧ r.2.mem ((c.tc : Thread Cert.OutRIdeal.nD Cert.OutRIdeal.τ).loc Cert.OutRIdeal.main_arg3) = m ((c.tc : Thread Cert.OutRIdeal.nD Cert.OutRIdeal.τ).loc Cert.OutRIdeal.main_arg3))
      ∧ r.2.sem = fun _ => 0)

def quiescent_ConfK [hConfK : Cert.ConfK.Facts] : Prop :=
  ∀ (m : (ℓ : Loc Cert.ConfK.nD Cert.ConfK.τ Cert.ConfK.sig) → Buf (Elt Bits) ℓ) (g : Dev Cert.ConfK.nD → PrngReg), Pre_ConfK m →
    θ_run (Cert.ConfK.defs (F := Bits)) (onTc (τ := Cert.ConfK.τ) (Cert.ConfK.main (F := Bits))) ⟨m, fun _ => 0, g⟩ (fun r => (∀ c : Dev Cert.ConfK.nD,
      r.2.mem ((c.tc : Thread Cert.ConfK.nD Cert.ConfK.τ).loc Cert.ConfK.main_arg0) = m ((c.tc : Thread Cert.ConfK.nD Cert.ConfK.τ).loc Cert.ConfK.main_arg0)
      ∧ r.2.mem ((c.tc : Thread Cert.ConfK.nD Cert.ConfK.τ).loc Cert.ConfK.main_arg1) = m ((c.tc : Thread Cert.ConfK.nD Cert.ConfK.τ).loc Cert.ConfK.main_arg1)
      ∧ r.2.mem ((c.tc : Thread Cert.ConfK.nD Cert.ConfK.τ).loc Cert.ConfK.main_arg2) = m ((c.tc : Thread Cert.ConfK.nD Cert.ConfK.τ).loc Cert.ConfK.main_arg2)
      ∧ r.2.mem ((c.tc : Thread Cert.ConfK.nD Cert.ConfK.τ).loc Cert.ConfK.main_arg3) = m ((c.tc : Thread Cert.ConfK.nD Cert.ConfK.τ).loc Cert.ConfK.main_arg3)
      ∧ r.2.mem ((c.tc : Thread Cert.ConfK.nD Cert.ConfK.τ).loc Cert.ConfK.main_arg4) = m ((c.tc : Thread Cert.ConfK.nD Cert.ConfK.τ).loc Cert.ConfK.main_arg4))
      ∧ r.2.sem = fun _ => 0)

def quiescent_ConfKIdeal [hConfKIdeal : Cert.ConfKIdeal.Facts] : Prop :=
  ∀ (m : (ℓ : Loc Cert.ConfKIdeal.nD Cert.ConfKIdeal.τ Cert.ConfKIdeal.sig) → Buf (Elt Ideal) ℓ) (g : Dev Cert.ConfKIdeal.nD → PrngReg), Pre_ConfKIdeal m →
    θ_run (Cert.ConfKIdeal.defs (F := Ideal)) (onTc (τ := Cert.ConfKIdeal.τ) (Cert.ConfKIdeal.main (F := Ideal))) ⟨m, fun _ => 0, g⟩ (fun r => (∀ c : Dev Cert.ConfKIdeal.nD,
      r.2.mem ((c.tc : Thread Cert.ConfKIdeal.nD Cert.ConfKIdeal.τ).loc Cert.ConfKIdeal.main_arg0) = m ((c.tc : Thread Cert.ConfKIdeal.nD Cert.ConfKIdeal.τ).loc Cert.ConfKIdeal.main_arg0)
      ∧ r.2.mem ((c.tc : Thread Cert.ConfKIdeal.nD Cert.ConfKIdeal.τ).loc Cert.ConfKIdeal.main_arg1) = m ((c.tc : Thread Cert.ConfKIdeal.nD Cert.ConfKIdeal.τ).loc Cert.ConfKIdeal.main_arg1)
      ∧ r.2.mem ((c.tc : Thread Cert.ConfKIdeal.nD Cert.ConfKIdeal.τ).loc Cert.ConfKIdeal.main_arg2) = m ((c.tc : Thread Cert.ConfKIdeal.nD Cert.ConfKIdeal.τ).loc Cert.ConfKIdeal.main_arg2)
      ∧ r.2.mem ((c.tc : Thread Cert.ConfKIdeal.nD Cert.ConfKIdeal.τ).loc Cert.ConfKIdeal.main_arg3) = m ((c.tc : Thread Cert.ConfKIdeal.nD Cert.ConfKIdeal.τ).loc Cert.ConfKIdeal.main_arg3)
      ∧ r.2.mem ((c.tc : Thread Cert.ConfKIdeal.nD Cert.ConfKIdeal.τ).loc Cert.ConfKIdeal.main_arg4) = m ((c.tc : Thread Cert.ConfKIdeal.nD Cert.ConfKIdeal.τ).loc Cert.ConfKIdeal.main_arg4))
      ∧ r.2.sem = fun _ => 0)

def quiescent_ConfRIdeal [hConfRIdeal : Cert.ConfRIdeal.Facts] : Prop :=
  ∀ (m : (ℓ : Loc Cert.ConfRIdeal.nD Cert.ConfRIdeal.τ Cert.ConfRIdeal.sig) → Buf (Elt Ideal) ℓ) (g : Dev Cert.ConfRIdeal.nD → PrngReg), Pre_ConfRIdeal m →
    θ_run (Cert.ConfRIdeal.defs (F := Ideal)) (onTc (τ := Cert.ConfRIdeal.τ) (Cert.ConfRIdeal.main (F := Ideal))) ⟨m, fun _ => 0, g⟩ (fun r => (∀ c : Dev Cert.ConfRIdeal.nD,
      r.2.mem ((c.tc : Thread Cert.ConfRIdeal.nD Cert.ConfRIdeal.τ).loc Cert.ConfRIdeal.main_arg0) = m ((c.tc : Thread Cert.ConfRIdeal.nD Cert.ConfRIdeal.τ).loc Cert.ConfRIdeal.main_arg0)
      ∧ r.2.mem ((c.tc : Thread Cert.ConfRIdeal.nD Cert.ConfRIdeal.τ).loc Cert.ConfRIdeal.main_arg1) = m ((c.tc : Thread Cert.ConfRIdeal.nD Cert.ConfRIdeal.τ).loc Cert.ConfRIdeal.main_arg1)
      ∧ r.2.mem ((c.tc : Thread Cert.ConfRIdeal.nD Cert.ConfRIdeal.τ).loc Cert.ConfRIdeal.main_arg2) = m ((c.tc : Thread Cert.ConfRIdeal.nD Cert.ConfRIdeal.τ).loc Cert.ConfRIdeal.main_arg2)
      ∧ r.2.mem ((c.tc : Thread Cert.ConfRIdeal.nD Cert.ConfRIdeal.τ).loc Cert.ConfRIdeal.main_arg3) = m ((c.tc : Thread Cert.ConfRIdeal.nD Cert.ConfRIdeal.τ).loc Cert.ConfRIdeal.main_arg3)
      ∧ r.2.mem ((c.tc : Thread Cert.ConfRIdeal.nD Cert.ConfRIdeal.τ).loc Cert.ConfRIdeal.main_arg4) = m ((c.tc : Thread Cert.ConfRIdeal.nD Cert.ConfRIdeal.τ).loc Cert.ConfRIdeal.main_arg4))
      ∧ r.2.sem = fun _ => 0)

def quiescent_NarrowK [hNarrowK : Cert.NarrowK.Facts] : Prop :=
  ∀ (m : (ℓ : Loc Cert.NarrowK.nD Cert.NarrowK.τ Cert.NarrowK.sig) → Buf (Elt Bits) ℓ) (g : Dev Cert.NarrowK.nD → PrngReg), Pre_NarrowK m →
    θ_run (Cert.NarrowK.defs (F := Bits)) (onTc (τ := Cert.NarrowK.τ) (Cert.NarrowK.main (F := Bits))) ⟨m, fun _ => 0, g⟩ (fun r => (∀ c : Dev Cert.NarrowK.nD,
      r.2.mem ((c.tc : Thread Cert.NarrowK.nD Cert.NarrowK.τ).loc Cert.NarrowK.main_arg0) = m ((c.tc : Thread Cert.NarrowK.nD Cert.NarrowK.τ).loc Cert.NarrowK.main_arg0)
      ∧ r.2.mem ((c.tc : Thread Cert.NarrowK.nD Cert.NarrowK.τ).loc Cert.NarrowK.main_arg1) = m ((c.tc : Thread Cert.NarrowK.nD Cert.NarrowK.τ).loc Cert.NarrowK.main_arg1))
      ∧ r.2.sem = fun _ => 0)

def quiescent_NarrowKIdeal [hNarrowKIdeal : Cert.NarrowKIdeal.Facts] : Prop :=
  ∀ (m : (ℓ : Loc Cert.NarrowKIdeal.nD Cert.NarrowKIdeal.τ Cert.NarrowKIdeal.sig) → Buf (Elt Ideal) ℓ) (g : Dev Cert.NarrowKIdeal.nD → PrngReg), Pre_NarrowKIdeal m →
    θ_run (Cert.NarrowKIdeal.defs (F := Ideal)) (onTc (τ := Cert.NarrowKIdeal.τ) (Cert.NarrowKIdeal.main (F := Ideal))) ⟨m, fun _ => 0, g⟩ (fun r => (∀ c : Dev Cert.NarrowKIdeal.nD,
      r.2.mem ((c.tc : Thread Cert.NarrowKIdeal.nD Cert.NarrowKIdeal.τ).loc Cert.NarrowKIdeal.main_arg0) = m ((c.tc : Thread Cert.NarrowKIdeal.nD Cert.NarrowKIdeal.τ).loc Cert.NarrowKIdeal.main_arg0)
      ∧ r.2.mem ((c.tc : Thread Cert.NarrowKIdeal.nD Cert.NarrowKIdeal.τ).loc Cert.NarrowKIdeal.main_arg1) = m ((c.tc : Thread Cert.NarrowKIdeal.nD Cert.NarrowKIdeal.τ).loc Cert.NarrowKIdeal.main_arg1))
      ∧ r.2.sem = fun _ => 0)

def quiescent_NarrowRIdeal [hNarrowRIdeal : Cert.NarrowRIdeal.Facts] : Prop :=
  ∀ (m : (ℓ : Loc Cert.NarrowRIdeal.nD Cert.NarrowRIdeal.τ Cert.NarrowRIdeal.sig) → Buf (Elt Ideal) ℓ) (g : Dev Cert.NarrowRIdeal.nD → PrngReg), Pre_NarrowRIdeal m →
    θ_run (Cert.NarrowRIdeal.defs (F := Ideal)) (onTc (τ := Cert.NarrowRIdeal.τ) (Cert.NarrowRIdeal.main (F := Ideal))) ⟨m, fun _ => 0, g⟩ (fun r => (∀ c : Dev Cert.NarrowRIdeal.nD,
      r.2.mem ((c.tc : Thread Cert.NarrowRIdeal.nD Cert.NarrowRIdeal.τ).loc Cert.NarrowRIdeal.main_arg0) = m ((c.tc : Thread Cert.NarrowRIdeal.nD Cert.NarrowRIdeal.τ).loc Cert.NarrowRIdeal.main_arg0)
      ∧ r.2.mem ((c.tc : Thread Cert.NarrowRIdeal.nD Cert.NarrowRIdeal.τ).loc Cert.NarrowRIdeal.main_arg1) = m ((c.tc : Thread Cert.NarrowRIdeal.nD Cert.NarrowRIdeal.τ).loc Cert.NarrowRIdeal.main_arg1))
      ∧ r.2.sem = fun _ => 0)

def quiescent_NormK [hNormK : Cert.NormK.Facts] : Prop :=
  ∀ (m : (ℓ : Loc Cert.NormK.nD Cert.NormK.τ Cert.NormK.sig) → Buf (Elt Bits) ℓ) (g : Dev Cert.NormK.nD → PrngReg), Pre_NormK m →
    θ_run (Cert.NormK.defs (F := Bits)) (onTc (τ := Cert.NormK.τ) (Cert.NormK.main (F := Bits))) ⟨m, fun _ => 0, g⟩ (fun r => (∀ c : Dev Cert.NormK.nD,
      r.2.mem ((c.tc : Thread Cert.NormK.nD Cert.NormK.τ).loc Cert.NormK.main_arg0) = m ((c.tc : Thread Cert.NormK.nD Cert.NormK.τ).loc Cert.NormK.main_arg0)
      ∧ r.2.mem ((c.tc : Thread Cert.NormK.nD Cert.NormK.τ).loc Cert.NormK.main_arg1) = m ((c.tc : Thread Cert.NormK.nD Cert.NormK.τ).loc Cert.NormK.main_arg1)
      ∧ r.2.mem ((c.tc : Thread Cert.NormK.nD Cert.NormK.τ).loc Cert.NormK.main_arg2) = m ((c.tc : Thread Cert.NormK.nD Cert.NormK.τ).loc Cert.NormK.main_arg2))
      ∧ r.2.sem = fun _ => 0)

def quiescent_NormKIdeal [hNormKIdeal : Cert.NormKIdeal.Facts] : Prop :=
  ∀ (m : (ℓ : Loc Cert.NormKIdeal.nD Cert.NormKIdeal.τ Cert.NormKIdeal.sig) → Buf (Elt Ideal) ℓ) (g : Dev Cert.NormKIdeal.nD → PrngReg), Pre_NormKIdeal m →
    θ_run (Cert.NormKIdeal.defs (F := Ideal)) (onTc (τ := Cert.NormKIdeal.τ) (Cert.NormKIdeal.main (F := Ideal))) ⟨m, fun _ => 0, g⟩ (fun r => (∀ c : Dev Cert.NormKIdeal.nD,
      r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
      ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
      ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2))
      ∧ r.2.sem = fun _ => 0)

def quiescent_NormRIdeal [hNormRIdeal : Cert.NormRIdeal.Facts] : Prop :=
  ∀ (m : (ℓ : Loc Cert.NormRIdeal.nD Cert.NormRIdeal.τ Cert.NormRIdeal.sig) → Buf (Elt Ideal) ℓ) (g : Dev Cert.NormRIdeal.nD → PrngReg), Pre_NormRIdeal m →
    θ_run (Cert.NormRIdeal.defs (F := Ideal)) (onTc (τ := Cert.NormRIdeal.τ) (Cert.NormRIdeal.main (F := Ideal))) ⟨m, fun _ => 0, g⟩ (fun r => (∀ c : Dev Cert.NormRIdeal.nD,
      r.2.mem ((c.tc : Thread Cert.NormRIdeal.nD Cert.NormRIdeal.τ).loc Cert.NormRIdeal.main_arg0) = m ((c.tc : Thread Cert.NormRIdeal.nD Cert.NormRIdeal.τ).loc Cert.NormRIdeal.main_arg0)
      ∧ r.2.mem ((c.tc : Thread Cert.NormRIdeal.nD Cert.NormRIdeal.τ).loc Cert.NormRIdeal.main_arg1) = m ((c.tc : Thread Cert.NormRIdeal.nD Cert.NormRIdeal.τ).loc Cert.NormRIdeal.main_arg1)
      ∧ r.2.mem ((c.tc : Thread Cert.NormRIdeal.nD Cert.NormRIdeal.τ).loc Cert.NormRIdeal.main_arg2) = m ((c.tc : Thread Cert.NormRIdeal.nD Cert.NormRIdeal.τ).loc Cert.NormRIdeal.main_arg2))
      ∧ r.2.sem = fun _ => 0)

def quiescent_AdaK [hAdaK : Cert.AdaK.Facts] : Prop :=
  ∀ (m : (ℓ : Loc Cert.AdaK.nD Cert.AdaK.τ Cert.AdaK.sig) → Buf (Elt Bits) ℓ) (g : Dev Cert.AdaK.nD → PrngReg), Pre_AdaK m →
    θ_run (Cert.AdaK.defs (F := Bits)) (onTc (τ := Cert.AdaK.τ) (Cert.AdaK.main (F := Bits))) ⟨m, fun _ => 0, g⟩ (fun r => (∀ c : Dev Cert.AdaK.nD,
      r.2.mem ((c.tc : Thread Cert.AdaK.nD Cert.AdaK.τ).loc Cert.AdaK.main_arg0) = m ((c.tc : Thread Cert.AdaK.nD Cert.AdaK.τ).loc Cert.AdaK.main_arg0)
      ∧ r.2.mem ((c.tc : Thread Cert.AdaK.nD Cert.AdaK.τ).loc Cert.AdaK.main_arg1) = m ((c.tc : Thread Cert.AdaK.nD Cert.AdaK.τ).loc Cert.AdaK.main_arg1)
      ∧ r.2.mem ((c.tc : Thread Cert.AdaK.nD Cert.AdaK.τ).loc Cert.AdaK.main_arg2) = m ((c.tc : Thread Cert.AdaK.nD Cert.AdaK.τ).loc Cert.AdaK.main_arg2))
      ∧ r.2.sem = fun _ => 0)

def quiescent_AdaKIdeal [hAdaKIdeal : Cert.AdaKIdeal.Facts] : Prop :=
  ∀ (m : (ℓ : Loc Cert.AdaKIdeal.nD Cert.AdaKIdeal.τ Cert.AdaKIdeal.sig) → Buf (Elt Ideal) ℓ) (g : Dev Cert.AdaKIdeal.nD → PrngReg), Pre_AdaKIdeal m →
    θ_run (Cert.AdaKIdeal.defs (F := Ideal)) (onTc (τ := Cert.AdaKIdeal.τ) (Cert.AdaKIdeal.main (F := Ideal))) ⟨m, fun _ => 0, g⟩ (fun r => (∀ c : Dev Cert.AdaKIdeal.nD,
      r.2.mem ((c.tc : Thread Cert.AdaKIdeal.nD Cert.AdaKIdeal.τ).loc Cert.AdaKIdeal.main_arg0) = m ((c.tc : Thread Cert.AdaKIdeal.nD Cert.AdaKIdeal.τ).loc Cert.AdaKIdeal.main_arg0)
      ∧ r.2.mem ((c.tc : Thread Cert.AdaKIdeal.nD Cert.AdaKIdeal.τ).loc Cert.AdaKIdeal.main_arg1) = m ((c.tc : Thread Cert.AdaKIdeal.nD Cert.AdaKIdeal.τ).loc Cert.AdaKIdeal.main_arg1)
      ∧ r.2.mem ((c.tc : Thread Cert.AdaKIdeal.nD Cert.AdaKIdeal.τ).loc Cert.AdaKIdeal.main_arg2) = m ((c.tc : Thread Cert.AdaKIdeal.nD Cert.AdaKIdeal.τ).loc Cert.AdaKIdeal.main_arg2))
      ∧ r.2.sem = fun _ => 0)

def quiescent_AdaKIdeal_pre_finite_modulation [hAdaKIdeal : Cert.AdaKIdeal.Facts] [hPre_finite_modulation : Cert.Pre_finite_modulation.Facts] : Prop :=
  ∀ (m : (ℓ : Loc Cert.AdaKIdeal.nD Cert.AdaKIdeal.τ Cert.AdaKIdeal.sig) → Buf (Elt Ideal) ℓ) (g : Dev Cert.AdaKIdeal.nD → PrngReg), Pre_AdaKIdeal_finite_modulation m →
    θ_run (Cert.AdaKIdeal.defs (F := Ideal)) (onTc (τ := Cert.AdaKIdeal.τ) (Cert.AdaKIdeal.main (F := Ideal))) ⟨m, fun _ => 0, g⟩ (fun r => (∀ c : Dev Cert.AdaKIdeal.nD,
      r.2.mem ((c.tc : Thread Cert.AdaKIdeal.nD Cert.AdaKIdeal.τ).loc Cert.AdaKIdeal.main_arg0) = m ((c.tc : Thread Cert.AdaKIdeal.nD Cert.AdaKIdeal.τ).loc Cert.AdaKIdeal.main_arg0)
      ∧ r.2.mem ((c.tc : Thread Cert.AdaKIdeal.nD Cert.AdaKIdeal.τ).loc Cert.AdaKIdeal.main_arg1) = m ((c.tc : Thread Cert.AdaKIdeal.nD Cert.AdaKIdeal.τ).loc Cert.AdaKIdeal.main_arg1)
      ∧ r.2.mem ((c.tc : Thread Cert.AdaKIdeal.nD Cert.AdaKIdeal.τ).loc Cert.AdaKIdeal.main_arg2) = m ((c.tc : Thread Cert.AdaKIdeal.nD Cert.AdaKIdeal.τ).loc Cert.AdaKIdeal.main_arg2))
      ∧ r.2.sem = fun _ => 0)

def quiescent_AdaRIdeal [hAdaRIdeal : Cert.AdaRIdeal.Facts] : Prop :=
  ∀ (m : (ℓ : Loc Cert.AdaRIdeal.nD Cert.AdaRIdeal.τ Cert.AdaRIdeal.sig) → Buf (Elt Ideal) ℓ) (g : Dev Cert.AdaRIdeal.nD → PrngReg), Pre_AdaRIdeal m →
    θ_run (Cert.AdaRIdeal.defs (F := Ideal)) (onTc (τ := Cert.AdaRIdeal.τ) (Cert.AdaRIdeal.main (F := Ideal))) ⟨m, fun _ => 0, g⟩ (fun r => (∀ c : Dev Cert.AdaRIdeal.nD,
      r.2.mem ((c.tc : Thread Cert.AdaRIdeal.nD Cert.AdaRIdeal.τ).loc Cert.AdaRIdeal.main_arg0) = m ((c.tc : Thread Cert.AdaRIdeal.nD Cert.AdaRIdeal.τ).loc Cert.AdaRIdeal.main_arg0)
      ∧ r.2.mem ((c.tc : Thread Cert.AdaRIdeal.nD Cert.AdaRIdeal.τ).loc Cert.AdaRIdeal.main_arg1) = m ((c.tc : Thread Cert.AdaRIdeal.nD Cert.AdaRIdeal.τ).loc Cert.AdaRIdeal.main_arg1)
      ∧ r.2.mem ((c.tc : Thread Cert.AdaRIdeal.nD Cert.AdaRIdeal.τ).loc Cert.AdaRIdeal.main_arg2) = m ((c.tc : Thread Cert.AdaRIdeal.nD Cert.AdaRIdeal.τ).loc Cert.AdaRIdeal.main_arg2))
      ∧ r.2.sem = fun _ => 0)

def quiescent_AdaRIdeal_pre_finite_modulation [hAdaRIdeal : Cert.AdaRIdeal.Facts] [hPre_finite_modulation : Cert.Pre_finite_modulation.Facts] : Prop :=
  ∀ (m : (ℓ : Loc Cert.AdaRIdeal.nD Cert.AdaRIdeal.τ Cert.AdaRIdeal.sig) → Buf (Elt Ideal) ℓ) (g : Dev Cert.AdaRIdeal.nD → PrngReg), Pre_AdaRIdeal_finite_modulation m →
    θ_run (Cert.AdaRIdeal.defs (F := Ideal)) (onTc (τ := Cert.AdaRIdeal.τ) (Cert.AdaRIdeal.main (F := Ideal))) ⟨m, fun _ => 0, g⟩ (fun r => (∀ c : Dev Cert.AdaRIdeal.nD,
      r.2.mem ((c.tc : Thread Cert.AdaRIdeal.nD Cert.AdaRIdeal.τ).loc Cert.AdaRIdeal.main_arg0) = m ((c.tc : Thread Cert.AdaRIdeal.nD Cert.AdaRIdeal.τ).loc Cert.AdaRIdeal.main_arg0)
      ∧ r.2.mem ((c.tc : Thread Cert.AdaRIdeal.nD Cert.AdaRIdeal.τ).loc Cert.AdaRIdeal.main_arg1) = m ((c.tc : Thread Cert.AdaRIdeal.nD Cert.AdaRIdeal.τ).loc Cert.AdaRIdeal.main_arg1)
      ∧ r.2.mem ((c.tc : Thread Cert.AdaRIdeal.nD Cert.AdaRIdeal.τ).loc Cert.AdaRIdeal.main_arg2) = m ((c.tc : Thread Cert.AdaRIdeal.nD Cert.AdaRIdeal.τ).loc Cert.AdaRIdeal.main_arg2))
      ∧ r.2.sem = fun _ => 0)

def quiescent_BiasK [hBiasK : Cert.BiasK.Facts] : Prop :=
  ∀ (m : (ℓ : Loc Cert.BiasK.nD Cert.BiasK.τ Cert.BiasK.sig) → Buf (Elt Bits) ℓ) (g : Dev Cert.BiasK.nD → PrngReg), Pre_BiasK m →
    θ_run (Cert.BiasK.defs (F := Bits)) (onTc (τ := Cert.BiasK.τ) (Cert.BiasK.main (F := Bits))) ⟨m, fun _ => 0, g⟩ (fun r => (∀ c : Dev Cert.BiasK.nD,
      r.2.mem ((c.tc : Thread Cert.BiasK.nD Cert.BiasK.τ).loc Cert.BiasK.main_arg0) = m ((c.tc : Thread Cert.BiasK.nD Cert.BiasK.τ).loc Cert.BiasK.main_arg0))
      ∧ r.2.sem = fun _ => 0)

def quiescent_BiasKIdeal [hBiasKIdeal : Cert.BiasKIdeal.Facts] : Prop :=
  ∀ (m : (ℓ : Loc Cert.BiasKIdeal.nD Cert.BiasKIdeal.τ Cert.BiasKIdeal.sig) → Buf (Elt Ideal) ℓ) (g : Dev Cert.BiasKIdeal.nD → PrngReg), Pre_BiasKIdeal m →
    θ_run (Cert.BiasKIdeal.defs (F := Ideal)) (onTc (τ := Cert.BiasKIdeal.τ) (Cert.BiasKIdeal.main (F := Ideal))) ⟨m, fun _ => 0, g⟩ (fun r => (∀ c : Dev Cert.BiasKIdeal.nD,
      r.2.mem ((c.tc : Thread Cert.BiasKIdeal.nD Cert.BiasKIdeal.τ).loc Cert.BiasKIdeal.main_arg0) = m ((c.tc : Thread Cert.BiasKIdeal.nD Cert.BiasKIdeal.τ).loc Cert.BiasKIdeal.main_arg0))
      ∧ r.2.sem = fun _ => 0)

def quiescent_BiasRIdeal [hBiasRIdeal : Cert.BiasRIdeal.Facts] : Prop :=
  ∀ (m : (ℓ : Loc Cert.BiasRIdeal.nD Cert.BiasRIdeal.τ Cert.BiasRIdeal.sig) → Buf (Elt Ideal) ℓ) (g : Dev Cert.BiasRIdeal.nD → PrngReg), Pre_BiasRIdeal m →
    θ_run (Cert.BiasRIdeal.defs (F := Ideal)) (onTc (τ := Cert.BiasRIdeal.τ) (Cert.BiasRIdeal.main (F := Ideal))) ⟨m, fun _ => 0, g⟩ (fun r => (∀ c : Dev Cert.BiasRIdeal.nD,
      r.2.mem ((c.tc : Thread Cert.BiasRIdeal.nD Cert.BiasRIdeal.τ).loc Cert.BiasRIdeal.main_arg0) = m ((c.tc : Thread Cert.BiasRIdeal.nD Cert.BiasRIdeal.τ).loc Cert.BiasRIdeal.main_arg0))
      ∧ r.2.sem = fun _ => 0)

def quiescent_GdnK [hGdnK : Cert.GdnK.Facts] : Prop :=
  ∀ (m : (ℓ : Loc Cert.GdnK.nD Cert.GdnK.τ Cert.GdnK.sig) → Buf (Elt Bits) ℓ) (g : Dev Cert.GdnK.nD → PrngReg), Pre_GdnK m →
    θ_run (Cert.GdnK.defs (F := Bits)) (onTc (τ := Cert.GdnK.τ) (Cert.GdnK.main (F := Bits))) ⟨m, fun _ => 0, g⟩ (fun r => (∀ c : Dev Cert.GdnK.nD,
      r.2.mem ((c.tc : Thread Cert.GdnK.nD Cert.GdnK.τ).loc Cert.GdnK.main_arg0) = m ((c.tc : Thread Cert.GdnK.nD Cert.GdnK.τ).loc Cert.GdnK.main_arg0)
      ∧ r.2.mem ((c.tc : Thread Cert.GdnK.nD Cert.GdnK.τ).loc Cert.GdnK.main_arg1) = m ((c.tc : Thread Cert.GdnK.nD Cert.GdnK.τ).loc Cert.GdnK.main_arg1)
      ∧ r.2.mem ((c.tc : Thread Cert.GdnK.nD Cert.GdnK.τ).loc Cert.GdnK.main_arg2) = m ((c.tc : Thread Cert.GdnK.nD Cert.GdnK.τ).loc Cert.GdnK.main_arg2)
      ∧ r.2.mem ((c.tc : Thread Cert.GdnK.nD Cert.GdnK.τ).loc Cert.GdnK.main_arg3) = m ((c.tc : Thread Cert.GdnK.nD Cert.GdnK.τ).loc Cert.GdnK.main_arg3)
      ∧ r.2.mem ((c.tc : Thread Cert.GdnK.nD Cert.GdnK.τ).loc Cert.GdnK.main_arg4) = m ((c.tc : Thread Cert.GdnK.nD Cert.GdnK.τ).loc Cert.GdnK.main_arg4)
      ∧ r.2.mem ((c.tc : Thread Cert.GdnK.nD Cert.GdnK.τ).loc Cert.GdnK.main_arg5) = m ((c.tc : Thread Cert.GdnK.nD Cert.GdnK.τ).loc Cert.GdnK.main_arg5))
      ∧ r.2.sem = fun _ => 0)

def quiescent_GdnKIdeal [hGdnKIdeal : Cert.GdnKIdeal.Facts] : Prop :=
  ∀ (m : (ℓ : Loc Cert.GdnKIdeal.nD Cert.GdnKIdeal.τ Cert.GdnKIdeal.sig) → Buf (Elt Ideal) ℓ) (g : Dev Cert.GdnKIdeal.nD → PrngReg), Pre_GdnKIdeal m →
    θ_run (Cert.GdnKIdeal.defs (F := Ideal)) (onTc (τ := Cert.GdnKIdeal.τ) (Cert.GdnKIdeal.main (F := Ideal))) ⟨m, fun _ => 0, g⟩ (fun r => (∀ c : Dev Cert.GdnKIdeal.nD,
      r.2.mem ((c.tc : Thread Cert.GdnKIdeal.nD Cert.GdnKIdeal.τ).loc Cert.GdnKIdeal.main_arg0) = m ((c.tc : Thread Cert.GdnKIdeal.nD Cert.GdnKIdeal.τ).loc Cert.GdnKIdeal.main_arg0)
      ∧ r.2.mem ((c.tc : Thread Cert.GdnKIdeal.nD Cert.GdnKIdeal.τ).loc Cert.GdnKIdeal.main_arg1) = m ((c.tc : Thread Cert.GdnKIdeal.nD Cert.GdnKIdeal.τ).loc Cert.GdnKIdeal.main_arg1)
      ∧ r.2.mem ((c.tc : Thread Cert.GdnKIdeal.nD Cert.GdnKIdeal.τ).loc Cert.GdnKIdeal.main_arg2) = m ((c.tc : Thread Cert.GdnKIdeal.nD Cert.GdnKIdeal.τ).loc Cert.GdnKIdeal.main_arg2)
      ∧ r.2.mem ((c.tc : Thread Cert.GdnKIdeal.nD Cert.GdnKIdeal.τ).loc Cert.GdnKIdeal.main_arg3) = m ((c.tc : Thread Cert.GdnKIdeal.nD Cert.GdnKIdeal.τ).loc Cert.GdnKIdeal.main_arg3)
      ∧ r.2.mem ((c.tc : Thread Cert.GdnKIdeal.nD Cert.GdnKIdeal.τ).loc Cert.GdnKIdeal.main_arg4) = m ((c.tc : Thread Cert.GdnKIdeal.nD Cert.GdnKIdeal.τ).loc Cert.GdnKIdeal.main_arg4)
      ∧ r.2.mem ((c.tc : Thread Cert.GdnKIdeal.nD Cert.GdnKIdeal.τ).loc Cert.GdnKIdeal.main_arg5) = m ((c.tc : Thread Cert.GdnKIdeal.nD Cert.GdnKIdeal.τ).loc Cert.GdnKIdeal.main_arg5))
      ∧ r.2.sem = fun _ => 0)

def preserves_WideK_WideKIdeal : Prop :=
  True

def algebraic_WideKIdeal_WideRIdeal [hWideKIdeal : Cert.WideKIdeal.Facts] [hWideRIdeal : Cert.WideRIdeal.Facts] : Prop :=
  ∀ (m : (ℓ : Loc Cert.WideKIdeal.nD Cert.WideKIdeal.τ Cert.WideKIdeal.sig) → Buf (Elt Ideal) ℓ) (g : Dev Cert.WideKIdeal.nD → PrngReg)
    (m' : (ℓ : Loc Cert.WideRIdeal.nD Cert.WideRIdeal.τ Cert.WideRIdeal.sig) → Buf (Elt Ideal) ℓ) (g' : Dev Cert.WideRIdeal.nD → PrngReg), Pre_WideKIdeal m →
    (∀ c : Dev Cert.WideKIdeal.nD,
      m' ((c.tc : Thread Cert.WideRIdeal.nD Cert.WideRIdeal.τ).loc Cert.WideRIdeal.main_arg0) = m ((c.tc : Thread Cert.WideKIdeal.nD Cert.WideKIdeal.τ).loc Cert.WideKIdeal.main_arg0)
      ∧ m' ((c.tc : Thread Cert.WideRIdeal.nD Cert.WideRIdeal.τ).loc Cert.WideRIdeal.main_arg1) = m ((c.tc : Thread Cert.WideKIdeal.nD Cert.WideKIdeal.τ).loc Cert.WideKIdeal.main_arg1)) →
    ∃ (v0 : (c : Dev Cert.WideKIdeal.nD) → Buf (Elt Ideal) ((c.tc : Thread Cert.WideKIdeal.nD Cert.WideKIdeal.τ).loc Cert.WideKIdeal.main_v29)),
      θ_run (Cert.WideKIdeal.defs (F := Ideal)) (onTc (τ := Cert.WideKIdeal.τ) (Cert.WideKIdeal.main (F := Ideal))) ⟨m, fun _ => 0, g⟩ (fun r => ∀ c : Dev Cert.WideKIdeal.nD,
          r.2.mem ((c.tc : Thread Cert.WideKIdeal.nD Cert.WideKIdeal.τ).loc Cert.WideKIdeal.main_v29) = v0 c
          ∧ r.2.mem ((c.tc : Thread Cert.WideKIdeal.nD Cert.WideKIdeal.τ).loc Cert.WideKIdeal.main_arg0) = m ((c.tc : Thread Cert.WideKIdeal.nD Cert.WideKIdeal.τ).loc Cert.WideKIdeal.main_arg0)
          ∧ r.2.mem ((c.tc : Thread Cert.WideKIdeal.nD Cert.WideKIdeal.τ).loc Cert.WideKIdeal.main_arg1) = m ((c.tc : Thread Cert.WideKIdeal.nD Cert.WideKIdeal.τ).loc Cert.WideKIdeal.main_arg1))
      ∧ θ_run (Cert.WideRIdeal.defs (F := Ideal)) (onTc (τ := Cert.WideRIdeal.τ) (Cert.WideRIdeal.main (F := Ideal))) ⟨m', fun _ => 0, g'⟩ (fun r => ∀ c : Dev Cert.WideRIdeal.nD,
          r.2.mem ((c.tc : Thread Cert.WideRIdeal.nD Cert.WideRIdeal.τ).loc Cert.WideRIdeal.main_v17) = v0 c
          ∧ r.2.mem ((c.tc : Thread Cert.WideRIdeal.nD Cert.WideRIdeal.τ).loc Cert.WideRIdeal.main_arg0) = m' ((c.tc : Thread Cert.WideRIdeal.nD Cert.WideRIdeal.τ).loc Cert.WideRIdeal.main_arg0)
          ∧ r.2.mem ((c.tc : Thread Cert.WideRIdeal.nD Cert.WideRIdeal.τ).loc Cert.WideRIdeal.main_arg1) = m' ((c.tc : Thread Cert.WideRIdeal.nD Cert.WideRIdeal.τ).loc Cert.WideRIdeal.main_arg1))

def preserves_MergeK_MergeKIdeal : Prop :=
  True

def algebraic_MergeKIdeal_MergeRIdeal [hMergeKIdeal : Cert.MergeKIdeal.Facts] [hMergeRIdeal : Cert.MergeRIdeal.Facts] : Prop :=
  ∀ (m : (ℓ : Loc Cert.MergeKIdeal.nD Cert.MergeKIdeal.τ Cert.MergeKIdeal.sig) → Buf (Elt Ideal) ℓ) (g : Dev Cert.MergeKIdeal.nD → PrngReg)
    (m' : (ℓ : Loc Cert.MergeRIdeal.nD Cert.MergeRIdeal.τ Cert.MergeRIdeal.sig) → Buf (Elt Ideal) ℓ) (g' : Dev Cert.MergeRIdeal.nD → PrngReg), Pre_MergeKIdeal m →
    (∀ c : Dev Cert.MergeKIdeal.nD,
      m' ((c.tc : Thread Cert.MergeRIdeal.nD Cert.MergeRIdeal.τ).loc Cert.MergeRIdeal.main_arg0) = m ((c.tc : Thread Cert.MergeKIdeal.nD Cert.MergeKIdeal.τ).loc Cert.MergeKIdeal.main_arg0)
      ∧ m' ((c.tc : Thread Cert.MergeRIdeal.nD Cert.MergeRIdeal.τ).loc Cert.MergeRIdeal.main_arg1) = m ((c.tc : Thread Cert.MergeKIdeal.nD Cert.MergeKIdeal.τ).loc Cert.MergeKIdeal.main_arg1)
      ∧ m' ((c.tc : Thread Cert.MergeRIdeal.nD Cert.MergeRIdeal.τ).loc Cert.MergeRIdeal.main_arg2) = m ((c.tc : Thread Cert.MergeKIdeal.nD Cert.MergeKIdeal.τ).loc Cert.MergeKIdeal.main_arg2)
      ∧ m' ((c.tc : Thread Cert.MergeRIdeal.nD Cert.MergeRIdeal.τ).loc Cert.MergeRIdeal.main_arg3) = m ((c.tc : Thread Cert.MergeKIdeal.nD Cert.MergeKIdeal.τ).loc Cert.MergeKIdeal.main_arg3)
      ∧ m' ((c.tc : Thread Cert.MergeRIdeal.nD Cert.MergeRIdeal.τ).loc Cert.MergeRIdeal.main_arg4) = m ((c.tc : Thread Cert.MergeKIdeal.nD Cert.MergeKIdeal.τ).loc Cert.MergeKIdeal.main_arg4)
      ∧ m' ((c.tc : Thread Cert.MergeRIdeal.nD Cert.MergeRIdeal.τ).loc Cert.MergeRIdeal.main_arg5) = m ((c.tc : Thread Cert.MergeKIdeal.nD Cert.MergeKIdeal.τ).loc Cert.MergeKIdeal.main_arg5)
      ∧ m' ((c.tc : Thread Cert.MergeRIdeal.nD Cert.MergeRIdeal.τ).loc Cert.MergeRIdeal.main_arg6) = m ((c.tc : Thread Cert.MergeKIdeal.nD Cert.MergeKIdeal.τ).loc Cert.MergeKIdeal.main_arg6)
      ∧ m' ((c.tc : Thread Cert.MergeRIdeal.nD Cert.MergeRIdeal.τ).loc Cert.MergeRIdeal.main_arg7) = m ((c.tc : Thread Cert.MergeKIdeal.nD Cert.MergeKIdeal.τ).loc Cert.MergeKIdeal.main_arg7)) →
    ∃ (v0 : (c : Dev Cert.MergeKIdeal.nD) → Buf (Elt Ideal) ((c.tc : Thread Cert.MergeKIdeal.nD Cert.MergeKIdeal.τ).loc Cert.MergeKIdeal.main_v4)),
      θ_run (Cert.MergeKIdeal.defs (F := Ideal)) (onTc (τ := Cert.MergeKIdeal.τ) (Cert.MergeKIdeal.main (F := Ideal))) ⟨m, fun _ => 0, g⟩ (fun r => ∀ c : Dev Cert.MergeKIdeal.nD,
          r.2.mem ((c.tc : Thread Cert.MergeKIdeal.nD Cert.MergeKIdeal.τ).loc Cert.MergeKIdeal.main_v4) = v0 c
          ∧ r.2.mem ((c.tc : Thread Cert.MergeKIdeal.nD Cert.MergeKIdeal.τ).loc Cert.MergeKIdeal.main_arg0) = m ((c.tc : Thread Cert.MergeKIdeal.nD Cert.MergeKIdeal.τ).loc Cert.MergeKIdeal.main_arg0)
          ∧ r.2.mem ((c.tc : Thread Cert.MergeKIdeal.nD Cert.MergeKIdeal.τ).loc Cert.MergeKIdeal.main_arg1) = m ((c.tc : Thread Cert.MergeKIdeal.nD Cert.MergeKIdeal.τ).loc Cert.MergeKIdeal.main_arg1)
          ∧ r.2.mem ((c.tc : Thread Cert.MergeKIdeal.nD Cert.MergeKIdeal.τ).loc Cert.MergeKIdeal.main_arg2) = m ((c.tc : Thread Cert.MergeKIdeal.nD Cert.MergeKIdeal.τ).loc Cert.MergeKIdeal.main_arg2)
          ∧ r.2.mem ((c.tc : Thread Cert.MergeKIdeal.nD Cert.MergeKIdeal.τ).loc Cert.MergeKIdeal.main_arg3) = m ((c.tc : Thread Cert.MergeKIdeal.nD Cert.MergeKIdeal.τ).loc Cert.MergeKIdeal.main_arg3)
          ∧ r.2.mem ((c.tc : Thread Cert.MergeKIdeal.nD Cert.MergeKIdeal.τ).loc Cert.MergeKIdeal.main_arg4) = m ((c.tc : Thread Cert.MergeKIdeal.nD Cert.MergeKIdeal.τ).loc Cert.MergeKIdeal.main_arg4)
          ∧ r.2.mem ((c.tc : Thread Cert.MergeKIdeal.nD Cert.MergeKIdeal.τ).loc Cert.MergeKIdeal.main_arg5) = m ((c.tc : Thread Cert.MergeKIdeal.nD Cert.MergeKIdeal.τ).loc Cert.MergeKIdeal.main_arg5)
          ∧ r.2.mem ((c.tc : Thread Cert.MergeKIdeal.nD Cert.MergeKIdeal.τ).loc Cert.MergeKIdeal.main_arg6) = m ((c.tc : Thread Cert.MergeKIdeal.nD Cert.MergeKIdeal.τ).loc Cert.MergeKIdeal.main_arg6)
          ∧ r.2.mem ((c.tc : Thread Cert.MergeKIdeal.nD Cert.MergeKIdeal.τ).loc Cert.MergeKIdeal.main_arg7) = m ((c.tc : Thread Cert.MergeKIdeal.nD Cert.MergeKIdeal.τ).loc Cert.MergeKIdeal.main_arg7))
      ∧ θ_run (Cert.MergeRIdeal.defs (F := Ideal)) (onTc (τ := Cert.MergeRIdeal.τ) (Cert.MergeRIdeal.main (F := Ideal))) ⟨m', fun _ => 0, g'⟩ (fun r => ∀ c : Dev Cert.MergeRIdeal.nD,
          r.2.mem ((c.tc : Thread Cert.MergeRIdeal.nD Cert.MergeRIdeal.τ).loc Cert.MergeRIdeal.main_v25) = v0 c
          ∧ r.2.mem ((c.tc : Thread Cert.MergeRIdeal.nD Cert.MergeRIdeal.τ).loc Cert.MergeRIdeal.main_arg0) = m' ((c.tc : Thread Cert.MergeRIdeal.nD Cert.MergeRIdeal.τ).loc Cert.MergeRIdeal.main_arg0)
          ∧ r.2.mem ((c.tc : Thread Cert.MergeRIdeal.nD Cert.MergeRIdeal.τ).loc Cert.MergeRIdeal.main_arg1) = m' ((c.tc : Thread Cert.MergeRIdeal.nD Cert.MergeRIdeal.τ).loc Cert.MergeRIdeal.main_arg1)
          ∧ r.2.mem ((c.tc : Thread Cert.MergeRIdeal.nD Cert.MergeRIdeal.τ).loc Cert.MergeRIdeal.main_arg2) = m' ((c.tc : Thread Cert.MergeRIdeal.nD Cert.MergeRIdeal.τ).loc Cert.MergeRIdeal.main_arg2)
          ∧ r.2.mem ((c.tc : Thread Cert.MergeRIdeal.nD Cert.MergeRIdeal.τ).loc Cert.MergeRIdeal.main_arg3) = m' ((c.tc : Thread Cert.MergeRIdeal.nD Cert.MergeRIdeal.τ).loc Cert.MergeRIdeal.main_arg3)
          ∧ r.2.mem ((c.tc : Thread Cert.MergeRIdeal.nD Cert.MergeRIdeal.τ).loc Cert.MergeRIdeal.main_arg4) = m' ((c.tc : Thread Cert.MergeRIdeal.nD Cert.MergeRIdeal.τ).loc Cert.MergeRIdeal.main_arg4)
          ∧ r.2.mem ((c.tc : Thread Cert.MergeRIdeal.nD Cert.MergeRIdeal.τ).loc Cert.MergeRIdeal.main_arg5) = m' ((c.tc : Thread Cert.MergeRIdeal.nD Cert.MergeRIdeal.τ).loc Cert.MergeRIdeal.main_arg5)
          ∧ r.2.mem ((c.tc : Thread Cert.MergeRIdeal.nD Cert.MergeRIdeal.τ).loc Cert.MergeRIdeal.main_arg6) = m' ((c.tc : Thread Cert.MergeRIdeal.nD Cert.MergeRIdeal.τ).loc Cert.MergeRIdeal.main_arg6)
          ∧ r.2.mem ((c.tc : Thread Cert.MergeRIdeal.nD Cert.MergeRIdeal.τ).loc Cert.MergeRIdeal.main_arg7) = m' ((c.tc : Thread Cert.MergeRIdeal.nD Cert.MergeRIdeal.τ).loc Cert.MergeRIdeal.main_arg7))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)
      ∧ m' ((c.tc : Thread Cert.OutRIdeal.nD Cert.OutRIdeal.τ).loc Cert.OutRIdeal.main_arg2) = m ((c.tc : Thread Cert.OutKIdeal.nD Cert.OutKIdeal.τ).loc Cert.OutKIdeal.main_arg2)
      ∧ m' ((c.tc : Thread Cert.OutRIdeal.nD Cert.OutRIdeal.τ).loc Cert.OutRIdeal.main_arg3) = m ((c.tc : Thread Cert.OutKIdeal.nD Cert.OutKIdeal.τ).loc Cert.OutKIdeal.main_arg3)) →
    ∃ (v0 : (c : Dev Cert.OutKIdeal.nD) → Buf (Elt Ideal) ((c.tc : Thread Cert.OutKIdeal.nD Cert.OutKIdeal.τ).loc Cert.OutKIdeal.main_v2)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v2) = v0 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1)
          ∧ r.2.mem ((c.tc : Thread Cert.OutKIdeal.nD Cert.OutKIdeal.τ).loc Cert.OutKIdeal.main_arg2) = m ((c.tc : Thread Cert.OutKIdeal.nD Cert.OutKIdeal.τ).loc Cert.OutKIdeal.main_arg2)
          ∧ r.2.mem ((c.tc : Thread Cert.OutKIdeal.nD Cert.OutKIdeal.τ).loc Cert.OutKIdeal.main_arg3) = m ((c.tc : Thread Cert.OutKIdeal.nD Cert.OutKIdeal.τ).loc Cert.OutKIdeal.main_arg3))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v9) = v0 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1)
          ∧ r.2.mem ((c.tc : Thread Cert.OutRIdeal.nD Cert.OutRIdeal.τ).loc Cert.OutRIdeal.main_arg2) = m' ((c.tc : Thread Cert.OutRIdeal.nD Cert.OutRIdeal.τ).loc Cert.OutRIdeal.main_arg2)
          ∧ r.2.mem ((c.tc : Thread Cert.OutRIdeal.nD Cert.OutRIdeal.τ).loc Cert.OutRIdeal.main_arg3) = m' ((c.tc : Thread Cert.OutRIdeal.nD Cert.OutRIdeal.τ).loc Cert.OutRIdeal.main_arg3))

def preserves_ConfK_ConfKIdeal : Prop :=
  True

def algebraic_ConfKIdeal_ConfRIdeal [hConfKIdeal : Cert.ConfKIdeal.Facts] [hConfRIdeal : Cert.ConfRIdeal.Facts] : Prop :=
  ∀ (m : (ℓ : Loc Cert.ConfKIdeal.nD Cert.ConfKIdeal.τ Cert.ConfKIdeal.sig) → Buf (Elt Ideal) ℓ) (g : Dev Cert.ConfKIdeal.nD → PrngReg)
    (m' : (ℓ : Loc Cert.ConfRIdeal.nD Cert.ConfRIdeal.τ Cert.ConfRIdeal.sig) → Buf (Elt Ideal) ℓ) (g' : Dev Cert.ConfRIdeal.nD → PrngReg), Pre_ConfKIdeal m →
    (∀ c : Dev Cert.ConfKIdeal.nD,
      m' ((c.tc : Thread Cert.ConfRIdeal.nD Cert.ConfRIdeal.τ).loc Cert.ConfRIdeal.main_arg0) = m ((c.tc : Thread Cert.ConfKIdeal.nD Cert.ConfKIdeal.τ).loc Cert.ConfKIdeal.main_arg0)
      ∧ m' ((c.tc : Thread Cert.ConfRIdeal.nD Cert.ConfRIdeal.τ).loc Cert.ConfRIdeal.main_arg1) = m ((c.tc : Thread Cert.ConfKIdeal.nD Cert.ConfKIdeal.τ).loc Cert.ConfKIdeal.main_arg1)
      ∧ m' ((c.tc : Thread Cert.ConfRIdeal.nD Cert.ConfRIdeal.τ).loc Cert.ConfRIdeal.main_arg2) = m ((c.tc : Thread Cert.ConfKIdeal.nD Cert.ConfKIdeal.τ).loc Cert.ConfKIdeal.main_arg2)
      ∧ m' ((c.tc : Thread Cert.ConfRIdeal.nD Cert.ConfRIdeal.τ).loc Cert.ConfRIdeal.main_arg3) = m ((c.tc : Thread Cert.ConfKIdeal.nD Cert.ConfKIdeal.τ).loc Cert.ConfKIdeal.main_arg3)
      ∧ m' ((c.tc : Thread Cert.ConfRIdeal.nD Cert.ConfRIdeal.τ).loc Cert.ConfRIdeal.main_arg4) = m ((c.tc : Thread Cert.ConfKIdeal.nD Cert.ConfKIdeal.τ).loc Cert.ConfKIdeal.main_arg4)) →
    ∃ (v0 : (c : Dev Cert.ConfKIdeal.nD) → Buf (Elt Ideal) ((c.tc : Thread Cert.ConfKIdeal.nD Cert.ConfKIdeal.τ).loc Cert.ConfKIdeal.main_v5)),
      θ_run (Cert.ConfKIdeal.defs (F := Ideal)) (onTc (τ := Cert.ConfKIdeal.τ) (Cert.ConfKIdeal.main (F := Ideal))) ⟨m, fun _ => 0, g⟩ (fun r => ∀ c : Dev Cert.ConfKIdeal.nD,
          r.2.mem ((c.tc : Thread Cert.ConfKIdeal.nD Cert.ConfKIdeal.τ).loc Cert.ConfKIdeal.main_v5) = v0 c
          ∧ r.2.mem ((c.tc : Thread Cert.ConfKIdeal.nD Cert.ConfKIdeal.τ).loc Cert.ConfKIdeal.main_arg0) = m ((c.tc : Thread Cert.ConfKIdeal.nD Cert.ConfKIdeal.τ).loc Cert.ConfKIdeal.main_arg0)
          ∧ r.2.mem ((c.tc : Thread Cert.ConfKIdeal.nD Cert.ConfKIdeal.τ).loc Cert.ConfKIdeal.main_arg1) = m ((c.tc : Thread Cert.ConfKIdeal.nD Cert.ConfKIdeal.τ).loc Cert.ConfKIdeal.main_arg1)
          ∧ r.2.mem ((c.tc : Thread Cert.ConfKIdeal.nD Cert.ConfKIdeal.τ).loc Cert.ConfKIdeal.main_arg2) = m ((c.tc : Thread Cert.ConfKIdeal.nD Cert.ConfKIdeal.τ).loc Cert.ConfKIdeal.main_arg2)
          ∧ r.2.mem ((c.tc : Thread Cert.ConfKIdeal.nD Cert.ConfKIdeal.τ).loc Cert.ConfKIdeal.main_arg3) = m ((c.tc : Thread Cert.ConfKIdeal.nD Cert.ConfKIdeal.τ).loc Cert.ConfKIdeal.main_arg3)
          ∧ r.2.mem ((c.tc : Thread Cert.ConfKIdeal.nD Cert.ConfKIdeal.τ).loc Cert.ConfKIdeal.main_arg4) = m ((c.tc : Thread Cert.ConfKIdeal.nD Cert.ConfKIdeal.τ).loc Cert.ConfKIdeal.main_arg4))
      ∧ θ_run (Cert.ConfRIdeal.defs (F := Ideal)) (onTc (τ := Cert.ConfRIdeal.τ) (Cert.ConfRIdeal.main (F := Ideal))) ⟨m', fun _ => 0, g'⟩ (fun r => ∀ c : Dev Cert.ConfRIdeal.nD,
          r.2.mem ((c.tc : Thread Cert.ConfRIdeal.nD Cert.ConfRIdeal.τ).loc Cert.ConfRIdeal.main_v260) = v0 c
          ∧ r.2.mem ((c.tc : Thread Cert.ConfRIdeal.nD Cert.ConfRIdeal.τ).loc Cert.ConfRIdeal.main_arg0) = m' ((c.tc : Thread Cert.ConfRIdeal.nD Cert.ConfRIdeal.τ).loc Cert.ConfRIdeal.main_arg0)
          ∧ r.2.mem ((c.tc : Thread Cert.ConfRIdeal.nD Cert.ConfRIdeal.τ).loc Cert.ConfRIdeal.main_arg1) = m' ((c.tc : Thread Cert.ConfRIdeal.nD Cert.ConfRIdeal.τ).loc Cert.ConfRIdeal.main_arg1)
          ∧ r.2.mem ((c.tc : Thread Cert.ConfRIdeal.nD Cert.ConfRIdeal.τ).loc Cert.ConfRIdeal.main_arg2) = m' ((c.tc : Thread Cert.ConfRIdeal.nD Cert.ConfRIdeal.τ).loc Cert.ConfRIdeal.main_arg2)
          ∧ r.2.mem ((c.tc : Thread Cert.ConfRIdeal.nD Cert.ConfRIdeal.τ).loc Cert.ConfRIdeal.main_arg3) = m' ((c.tc : Thread Cert.ConfRIdeal.nD Cert.ConfRIdeal.τ).loc Cert.ConfRIdeal.main_arg3)
          ∧ r.2.mem ((c.tc : Thread Cert.ConfRIdeal.nD Cert.ConfRIdeal.τ).loc Cert.ConfRIdeal.main_arg4) = m' ((c.tc : Thread Cert.ConfRIdeal.nD Cert.ConfRIdeal.τ).loc Cert.ConfRIdeal.main_arg4))

def preserves_NarrowK_NarrowKIdeal : Prop :=
  True

def algebraic_NarrowKIdeal_NarrowRIdeal [hNarrowKIdeal : Cert.NarrowKIdeal.Facts] [hNarrowRIdeal : Cert.NarrowRIdeal.Facts] : Prop :=
  ∀ (m : (ℓ : Loc Cert.NarrowKIdeal.nD Cert.NarrowKIdeal.τ Cert.NarrowKIdeal.sig) → Buf (Elt Ideal) ℓ) (g : Dev Cert.NarrowKIdeal.nD → PrngReg)
    (m' : (ℓ : Loc Cert.NarrowRIdeal.nD Cert.NarrowRIdeal.τ Cert.NarrowRIdeal.sig) → Buf (Elt Ideal) ℓ) (g' : Dev Cert.NarrowRIdeal.nD → PrngReg), Pre_NarrowKIdeal m →
    (∀ c : Dev Cert.NarrowKIdeal.nD,
      m' ((c.tc : Thread Cert.NarrowRIdeal.nD Cert.NarrowRIdeal.τ).loc Cert.NarrowRIdeal.main_arg0) = m ((c.tc : Thread Cert.NarrowKIdeal.nD Cert.NarrowKIdeal.τ).loc Cert.NarrowKIdeal.main_arg0)
      ∧ m' ((c.tc : Thread Cert.NarrowRIdeal.nD Cert.NarrowRIdeal.τ).loc Cert.NarrowRIdeal.main_arg1) = m ((c.tc : Thread Cert.NarrowKIdeal.nD Cert.NarrowKIdeal.τ).loc Cert.NarrowKIdeal.main_arg1)) →
    ∃ (v0 : (c : Dev Cert.NarrowKIdeal.nD) → Buf (Elt Ideal) ((c.tc : Thread Cert.NarrowKIdeal.nD Cert.NarrowKIdeal.τ).loc Cert.NarrowKIdeal.main_v18)),
      θ_run (Cert.NarrowKIdeal.defs (F := Ideal)) (onTc (τ := Cert.NarrowKIdeal.τ) (Cert.NarrowKIdeal.main (F := Ideal))) ⟨m, fun _ => 0, g⟩ (fun r => ∀ c : Dev Cert.NarrowKIdeal.nD,
          r.2.mem ((c.tc : Thread Cert.NarrowKIdeal.nD Cert.NarrowKIdeal.τ).loc Cert.NarrowKIdeal.main_v18) = v0 c
          ∧ r.2.mem ((c.tc : Thread Cert.NarrowKIdeal.nD Cert.NarrowKIdeal.τ).loc Cert.NarrowKIdeal.main_arg0) = m ((c.tc : Thread Cert.NarrowKIdeal.nD Cert.NarrowKIdeal.τ).loc Cert.NarrowKIdeal.main_arg0)
          ∧ r.2.mem ((c.tc : Thread Cert.NarrowKIdeal.nD Cert.NarrowKIdeal.τ).loc Cert.NarrowKIdeal.main_arg1) = m ((c.tc : Thread Cert.NarrowKIdeal.nD Cert.NarrowKIdeal.τ).loc Cert.NarrowKIdeal.main_arg1))
      ∧ θ_run (Cert.NarrowRIdeal.defs (F := Ideal)) (onTc (τ := Cert.NarrowRIdeal.τ) (Cert.NarrowRIdeal.main (F := Ideal))) ⟨m', fun _ => 0, g'⟩ (fun r => ∀ c : Dev Cert.NarrowRIdeal.nD,
          r.2.mem ((c.tc : Thread Cert.NarrowRIdeal.nD Cert.NarrowRIdeal.τ).loc Cert.NarrowRIdeal.main_v17) = v0 c
          ∧ r.2.mem ((c.tc : Thread Cert.NarrowRIdeal.nD Cert.NarrowRIdeal.τ).loc Cert.NarrowRIdeal.main_arg0) = m' ((c.tc : Thread Cert.NarrowRIdeal.nD Cert.NarrowRIdeal.τ).loc Cert.NarrowRIdeal.main_arg0)
          ∧ r.2.mem ((c.tc : Thread Cert.NarrowRIdeal.nD Cert.NarrowRIdeal.τ).loc Cert.NarrowRIdeal.main_arg1) = m' ((c.tc : Thread Cert.NarrowRIdeal.nD Cert.NarrowRIdeal.τ).loc Cert.NarrowRIdeal.main_arg1))

def preserves_NormK_NormKIdeal : Prop :=
  True

def algebraic_NormKIdeal_NormRIdeal [hNormKIdeal : Cert.NormKIdeal.Facts] [hNormRIdeal : Cert.NormRIdeal.Facts] : Prop :=
  ∀ (m : (ℓ : Loc Cert.NormKIdeal.nD Cert.NormKIdeal.τ Cert.NormKIdeal.sig) → Buf (Elt Ideal) ℓ) (g : Dev Cert.NormKIdeal.nD → PrngReg)
    (m' : (ℓ : Loc Cert.NormRIdeal.nD Cert.NormRIdeal.τ Cert.NormRIdeal.sig) → Buf (Elt Ideal) ℓ) (g' : Dev Cert.NormRIdeal.nD → PrngReg), Pre_NormKIdeal m →
    (∀ c : Dev Cert.NormKIdeal.nD,
      m' ((c.tc : Thread Cert.NormRIdeal.nD Cert.NormRIdeal.τ).loc Cert.NormRIdeal.main_arg0) = m ((c.tc : Thread Cert.NormKIdeal.nD Cert.NormKIdeal.τ).loc Cert.NormKIdeal.main_arg0)
      ∧ m' ((c.tc : Thread Cert.NormRIdeal.nD Cert.NormRIdeal.τ).loc Cert.NormRIdeal.main_arg1) = m ((c.tc : Thread Cert.NormKIdeal.nD Cert.NormKIdeal.τ).loc Cert.NormKIdeal.main_arg1)
      ∧ m' ((c.tc : Thread Cert.NormRIdeal.nD Cert.NormRIdeal.τ).loc Cert.NormRIdeal.main_arg2) = m ((c.tc : Thread Cert.NormKIdeal.nD Cert.NormKIdeal.τ).loc Cert.NormKIdeal.main_arg2)) →
    ∃ (v0 : (c : Dev Cert.NormKIdeal.nD) → Buf (Elt Ideal) ((c.tc : Thread Cert.NormKIdeal.nD Cert.NormKIdeal.τ).loc Cert.NormKIdeal.main_v2)),
      θ_run (Cert.NormKIdeal.defs (F := Ideal)) (onTc (τ := Cert.NormKIdeal.τ) (Cert.NormKIdeal.main (F := Ideal))) ⟨m, fun _ => 0, g⟩ (fun r => ∀ c : Dev Cert.NormKIdeal.nD,
          r.2.mem ((c.tc : Thread Cert.NormKIdeal.nD Cert.NormKIdeal.τ).loc Cert.NormKIdeal.main_v2) = v0 c
          ∧ r.2.mem ((c.tc : Thread Cert.NormKIdeal.nD Cert.NormKIdeal.τ).loc Cert.NormKIdeal.main_arg0) = m ((c.tc : Thread Cert.NormKIdeal.nD Cert.NormKIdeal.τ).loc Cert.NormKIdeal.main_arg0)
          ∧ r.2.mem ((c.tc : Thread Cert.NormKIdeal.nD Cert.NormKIdeal.τ).loc Cert.NormKIdeal.main_arg1) = m ((c.tc : Thread Cert.NormKIdeal.nD Cert.NormKIdeal.τ).loc Cert.NormKIdeal.main_arg1)
          ∧ r.2.mem ((c.tc : Thread Cert.NormKIdeal.nD Cert.NormKIdeal.τ).loc Cert.NormKIdeal.main_arg2) = m ((c.tc : Thread Cert.NormKIdeal.nD Cert.NormKIdeal.τ).loc Cert.NormKIdeal.main_arg2))
      ∧ θ_run (Cert.NormRIdeal.defs (F := Ideal)) (onTc (τ := Cert.NormRIdeal.τ) (Cert.NormRIdeal.main (F := Ideal))) ⟨m', fun _ => 0, g'⟩ (fun r => ∀ c : Dev Cert.NormRIdeal.nD,
          r.2.mem ((c.tc : Thread Cert.NormRIdeal.nD Cert.NormRIdeal.τ).loc Cert.NormRIdeal.main_v23) = v0 c
          ∧ r.2.mem ((c.tc : Thread Cert.NormRIdeal.nD Cert.NormRIdeal.τ).loc Cert.NormRIdeal.main_arg0) = m' ((c.tc : Thread Cert.NormRIdeal.nD Cert.NormRIdeal.τ).loc Cert.NormRIdeal.main_arg0)
          ∧ r.2.mem ((c.tc : Thread Cert.NormRIdeal.nD Cert.NormRIdeal.τ).loc Cert.NormRIdeal.main_arg1) = m' ((c.tc : Thread Cert.NormRIdeal.nD Cert.NormRIdeal.τ).loc Cert.NormRIdeal.main_arg1)
          ∧ r.2.mem ((c.tc : Thread Cert.NormRIdeal.nD Cert.NormRIdeal.τ).loc Cert.NormRIdeal.main_arg2) = m' ((c.tc : Thread Cert.NormRIdeal.nD Cert.NormRIdeal.τ).loc Cert.NormRIdeal.main_arg2))

def preserves_AdaK_AdaKIdeal : Prop :=
  True

def algebraic_AdaKIdeal_AdaRIdeal_pre_finite_modulation [hAdaKIdeal : Cert.AdaKIdeal.Facts] [hAdaRIdeal : Cert.AdaRIdeal.Facts] [hPre_finite_modulation : Cert.Pre_finite_modulation.Facts] : Prop :=
  ∀ (m : (ℓ : Loc Cert.AdaKIdeal.nD Cert.AdaKIdeal.τ Cert.AdaKIdeal.sig) → Buf (Elt Ideal) ℓ) (g : Dev Cert.AdaKIdeal.nD → PrngReg)
    (m' : (ℓ : Loc Cert.AdaRIdeal.nD Cert.AdaRIdeal.τ Cert.AdaRIdeal.sig) → Buf (Elt Ideal) ℓ) (g' : Dev Cert.AdaRIdeal.nD → PrngReg), Pre_AdaKIdeal_finite_modulation m →
    (∀ c : Dev Cert.AdaKIdeal.nD,
      m' ((c.tc : Thread Cert.AdaRIdeal.nD Cert.AdaRIdeal.τ).loc Cert.AdaRIdeal.main_arg0) = m ((c.tc : Thread Cert.AdaKIdeal.nD Cert.AdaKIdeal.τ).loc Cert.AdaKIdeal.main_arg0)
      ∧ m' ((c.tc : Thread Cert.AdaRIdeal.nD Cert.AdaRIdeal.τ).loc Cert.AdaRIdeal.main_arg1) = m ((c.tc : Thread Cert.AdaKIdeal.nD Cert.AdaKIdeal.τ).loc Cert.AdaKIdeal.main_arg1)
      ∧ m' ((c.tc : Thread Cert.AdaRIdeal.nD Cert.AdaRIdeal.τ).loc Cert.AdaRIdeal.main_arg2) = m ((c.tc : Thread Cert.AdaKIdeal.nD Cert.AdaKIdeal.τ).loc Cert.AdaKIdeal.main_arg2)) →
    ∃ (v0 : (c : Dev Cert.AdaKIdeal.nD) → Buf (Elt Ideal) ((c.tc : Thread Cert.AdaKIdeal.nD Cert.AdaKIdeal.τ).loc Cert.AdaKIdeal.main_v1)),
      θ_run (Cert.AdaKIdeal.defs (F := Ideal)) (onTc (τ := Cert.AdaKIdeal.τ) (Cert.AdaKIdeal.main (F := Ideal))) ⟨m, fun _ => 0, g⟩ (fun r => ∀ c : Dev Cert.AdaKIdeal.nD,
          r.2.mem ((c.tc : Thread Cert.AdaKIdeal.nD Cert.AdaKIdeal.τ).loc Cert.AdaKIdeal.main_v1) = v0 c
          ∧ r.2.mem ((c.tc : Thread Cert.AdaKIdeal.nD Cert.AdaKIdeal.τ).loc Cert.AdaKIdeal.main_arg0) = m ((c.tc : Thread Cert.AdaKIdeal.nD Cert.AdaKIdeal.τ).loc Cert.AdaKIdeal.main_arg0)
          ∧ r.2.mem ((c.tc : Thread Cert.AdaKIdeal.nD Cert.AdaKIdeal.τ).loc Cert.AdaKIdeal.main_arg1) = m ((c.tc : Thread Cert.AdaKIdeal.nD Cert.AdaKIdeal.τ).loc Cert.AdaKIdeal.main_arg1)
          ∧ r.2.mem ((c.tc : Thread Cert.AdaKIdeal.nD Cert.AdaKIdeal.τ).loc Cert.AdaKIdeal.main_arg2) = m ((c.tc : Thread Cert.AdaKIdeal.nD Cert.AdaKIdeal.τ).loc Cert.AdaKIdeal.main_arg2))
      ∧ θ_run (Cert.AdaRIdeal.defs (F := Ideal)) (onTc (τ := Cert.AdaRIdeal.τ) (Cert.AdaRIdeal.main (F := Ideal))) ⟨m', fun _ => 0, g'⟩ (fun r => ∀ c : Dev Cert.AdaRIdeal.nD,
          r.2.mem ((c.tc : Thread Cert.AdaRIdeal.nD Cert.AdaRIdeal.τ).loc Cert.AdaRIdeal.main_v37) = v0 c
          ∧ r.2.mem ((c.tc : Thread Cert.AdaRIdeal.nD Cert.AdaRIdeal.τ).loc Cert.AdaRIdeal.main_arg0) = m' ((c.tc : Thread Cert.AdaRIdeal.nD Cert.AdaRIdeal.τ).loc Cert.AdaRIdeal.main_arg0)
          ∧ r.2.mem ((c.tc : Thread Cert.AdaRIdeal.nD Cert.AdaRIdeal.τ).loc Cert.AdaRIdeal.main_arg1) = m' ((c.tc : Thread Cert.AdaRIdeal.nD Cert.AdaRIdeal.τ).loc Cert.AdaRIdeal.main_arg1)
          ∧ r.2.mem ((c.tc : Thread Cert.AdaRIdeal.nD Cert.AdaRIdeal.τ).loc Cert.AdaRIdeal.main_arg2) = m' ((c.tc : Thread Cert.AdaRIdeal.nD Cert.AdaRIdeal.τ).loc Cert.AdaRIdeal.main_arg2))

def preserves_BiasK_BiasKIdeal : Prop :=
  True

def algebraic_BiasKIdeal_BiasRIdeal [hBiasKIdeal : Cert.BiasKIdeal.Facts] [hBiasRIdeal : Cert.BiasRIdeal.Facts] : Prop :=
  ∀ (m : (ℓ : Loc Cert.BiasKIdeal.nD Cert.BiasKIdeal.τ Cert.BiasKIdeal.sig) → Buf (Elt Ideal) ℓ) (g : Dev Cert.BiasKIdeal.nD → PrngReg)
    (m' : (ℓ : Loc Cert.BiasRIdeal.nD Cert.BiasRIdeal.τ Cert.BiasRIdeal.sig) → Buf (Elt Ideal) ℓ) (g' : Dev Cert.BiasRIdeal.nD → PrngReg), Pre_BiasKIdeal m →
    (∀ c : Dev Cert.BiasKIdeal.nD,
      m' ((c.tc : Thread Cert.BiasRIdeal.nD Cert.BiasRIdeal.τ).loc Cert.BiasRIdeal.main_arg0) = m ((c.tc : Thread Cert.BiasKIdeal.nD Cert.BiasKIdeal.τ).loc Cert.BiasKIdeal.main_arg0)) →
    ∃ (v0 : (c : Dev Cert.BiasKIdeal.nD) → Buf (Elt Ideal) ((c.tc : Thread Cert.BiasKIdeal.nD Cert.BiasKIdeal.τ).loc Cert.BiasKIdeal.main_v0)),
      θ_run (Cert.BiasKIdeal.defs (F := Ideal)) (onTc (τ := Cert.BiasKIdeal.τ) (Cert.BiasKIdeal.main (F := Ideal))) ⟨m, fun _ => 0, g⟩ (fun r => ∀ c : Dev Cert.BiasKIdeal.nD,
          r.2.mem ((c.tc : Thread Cert.BiasKIdeal.nD Cert.BiasKIdeal.τ).loc Cert.BiasKIdeal.main_v0) = v0 c
          ∧ r.2.mem ((c.tc : Thread Cert.BiasKIdeal.nD Cert.BiasKIdeal.τ).loc Cert.BiasKIdeal.main_arg0) = m ((c.tc : Thread Cert.BiasKIdeal.nD Cert.BiasKIdeal.τ).loc Cert.BiasKIdeal.main_arg0))
      ∧ θ_run (Cert.BiasRIdeal.defs (F := Ideal)) (onTc (τ := Cert.BiasRIdeal.τ) (Cert.BiasRIdeal.main (F := Ideal))) ⟨m', fun _ => 0, g'⟩ (fun r => ∀ c : Dev Cert.BiasRIdeal.nD,
          r.2.mem ((c.tc : Thread Cert.BiasRIdeal.nD Cert.BiasRIdeal.τ).loc Cert.BiasRIdeal.main_v49) = v0 c
          ∧ r.2.mem ((c.tc : Thread Cert.BiasRIdeal.nD Cert.BiasRIdeal.τ).loc Cert.BiasRIdeal.main_arg0) = m' ((c.tc : Thread Cert.BiasRIdeal.nD Cert.BiasRIdeal.τ).loc Cert.BiasRIdeal.main_arg0))

def preserves_GdnK_GdnKIdeal : Prop :=
  True

def Claim : Prop :=
  ∃ (hKernel : Cert.Kernel.Facts) (hWideK : Cert.WideK.Facts) (hWideKIdeal : Cert.WideKIdeal.Facts) (hWideRIdeal : Cert.WideRIdeal.Facts) (hMergeK : Cert.MergeK.Facts) (hMergeKIdeal : Cert.MergeKIdeal.Facts) (hMergeRIdeal : Cert.MergeRIdeal.Facts) (hOutK : Cert.OutK.Facts) (hOutKIdeal : Cert.OutKIdeal.Facts) (hOutRIdeal : Cert.OutRIdeal.Facts) (hConfK : Cert.ConfK.Facts) (hConfKIdeal : Cert.ConfKIdeal.Facts) (hConfRIdeal : Cert.ConfRIdeal.Facts) (hNarrowK : Cert.NarrowK.Facts) (hNarrowKIdeal : Cert.NarrowKIdeal.Facts) (hNarrowRIdeal : Cert.NarrowRIdeal.Facts) (hNormK : Cert.NormK.Facts) (hNormKIdeal : Cert.NormKIdeal.Facts) (hNormRIdeal : Cert.NormRIdeal.Facts) (hAdaK : Cert.AdaK.Facts) (hAdaKIdeal : Cert.AdaKIdeal.Facts) (hAdaRIdeal : Cert.AdaRIdeal.Facts) (hBiasK : Cert.BiasK.Facts) (hBiasKIdeal : Cert.BiasKIdeal.Facts) (hBiasRIdeal : Cert.BiasRIdeal.Facts) (hGdnK : Cert.GdnK.Facts) (hGdnKIdeal : Cert.GdnKIdeal.Facts) (hPre_finite_modulation : Cert.Pre_finite_modulation.Facts),
    quiescent_Kernel (hKernel := hKernel)
    ∧ quiescent_WideK (hWideK := hWideK)
    ∧ quiescent_WideKIdeal (hWideKIdeal := hWideKIdeal)
    ∧ quiescent_WideRIdeal (hWideRIdeal := hWideRIdeal)
    ∧ quiescent_MergeK (hMergeK := hMergeK)
    ∧ quiescent_MergeKIdeal (hMergeKIdeal := hMergeKIdeal)
    ∧ quiescent_MergeRIdeal (hMergeRIdeal := hMergeRIdeal)
    ∧ quiescent_OutK (hOutK := hOutK)
    ∧ quiescent_OutKIdeal (hOutKIdeal := hOutKIdeal)
    ∧ quiescent_OutRIdeal (hOutRIdeal := hOutRIdeal)
    ∧ quiescent_ConfK (hConfK := hConfK)
    ∧ quiescent_ConfKIdeal (hConfKIdeal := hConfKIdeal)
    ∧ quiescent_ConfRIdeal (hConfRIdeal := hConfRIdeal)
    ∧ quiescent_NarrowK (hNarrowK := hNarrowK)
    ∧ quiescent_NarrowKIdeal (hNarrowKIdeal := hNarrowKIdeal)
    ∧ quiescent_NarrowRIdeal (hNarrowRIdeal := hNarrowRIdeal)
    ∧ quiescent_NormK (hNormK := hNormK)
    ∧ quiescent_NormKIdeal (hNormKIdeal := hNormKIdeal)
    ∧ quiescent_NormRIdeal (hNormRIdeal := hNormRIdeal)
    ∧ quiescent_AdaK (hAdaK := hAdaK)
    ∧ quiescent_AdaKIdeal (hAdaKIdeal := hAdaKIdeal)
    ∧ quiescent_AdaKIdeal_pre_finite_modulation (hAdaKIdeal := hAdaKIdeal) (hPre_finite_modulation := hPre_finite_modulation)
    ∧ quiescent_AdaRIdeal (hAdaRIdeal := hAdaRIdeal)
    ∧ quiescent_AdaRIdeal_pre_finite_modulation (hAdaRIdeal := hAdaRIdeal) (hPre_finite_modulation := hPre_finite_modulation)
    ∧ quiescent_BiasK (hBiasK := hBiasK)
    ∧ quiescent_BiasKIdeal (hBiasKIdeal := hBiasKIdeal)
    ∧ quiescent_BiasRIdeal (hBiasRIdeal := hBiasRIdeal)
    ∧ quiescent_GdnK (hGdnK := hGdnK)
    ∧ quiescent_GdnKIdeal (hGdnKIdeal := hGdnKIdeal)
    ∧ preserves_WideK_WideKIdeal
    ∧ algebraic_WideKIdeal_WideRIdeal (hWideKIdeal := hWideKIdeal) (hWideRIdeal := hWideRIdeal)
    ∧ preserves_MergeK_MergeKIdeal
    ∧ algebraic_MergeKIdeal_MergeRIdeal (hMergeKIdeal := hMergeKIdeal) (hMergeRIdeal := hMergeRIdeal)
    ∧ preserves_OutK_OutKIdeal
    ∧ algebraic_OutKIdeal_OutRIdeal (hOutKIdeal := hOutKIdeal) (hOutRIdeal := hOutRIdeal)
    ∧ preserves_ConfK_ConfKIdeal
    ∧ algebraic_ConfKIdeal_ConfRIdeal (hConfKIdeal := hConfKIdeal) (hConfRIdeal := hConfRIdeal)
    ∧ preserves_NarrowK_NarrowKIdeal
    ∧ algebraic_NarrowKIdeal_NarrowRIdeal (hNarrowKIdeal := hNarrowKIdeal) (hNarrowRIdeal := hNarrowRIdeal)
    ∧ preserves_NormK_NormKIdeal
    ∧ algebraic_NormKIdeal_NormRIdeal (hNormKIdeal := hNormKIdeal) (hNormRIdeal := hNormRIdeal)
    ∧ preserves_AdaK_AdaKIdeal
    ∧ algebraic_AdaKIdeal_AdaRIdeal_pre_finite_modulation (hAdaKIdeal := hAdaKIdeal) (hAdaRIdeal := hAdaRIdeal) (hPre_finite_modulation := hPre_finite_modulation)
    ∧ preserves_BiasK_BiasKIdeal
    ∧ algebraic_BiasKIdeal_BiasRIdeal (hBiasKIdeal := hBiasKIdeal) (hBiasRIdeal := hBiasRIdeal)
    ∧ preserves_GdnK_GdnKIdeal
-- ==== Pre_finite_modulation.lean ====
abbrev S8x2048 : Shape := ⟨2, ![8, 2048]⟩
abbrev S4x2048x6144 : Shape := ⟨3, ![4, 2048, 6144]⟩
abbrev S4x6144 : Shape := ⟨2, ![4, 6144]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S4x2048x6144 : S_.BroadcastsInDim S4x2048x6144 (![] : Fin 0 → Fin S4x2048x6144.rank)
  reducesTo_S4x2048x6144_S_d0_1_2 : S4x2048x6144.ReducesTo [0, 1, 2] S_

variable [Facts]

def fn {F : FTy → Type} [FloatOps F] (main_arg0 : FVec F S8x2048 .f32) (main_arg1 : FVec F S4x2048x6144 .f32) (main_arg2 : FVec F S4x6144 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S4x2048x6144 .f32 := Host.absf main_arg1
  let main_cst_0 : FVec F S_ .f32 := constant S_ .f32 0x7F800000#32
  let main_v5 : FVec F S4x2048x6144 .f32 := broadcastInDim S4x2048x6144 ![] bcast_S_S4x2048x6144 main_cst_0
  let main_v6 : IVec S4x2048x6144 1 := cmpf .olt main_v4 main_v5
  let main_c_1 : IVec S_ 1 := constantI S_ 1 1#1
  let main_v7 : IVec S_ 1 := (fun x v => Host.reduce IntOp.andi x v reducesTo_S4x2048x6144_S_d0_1_2 h_S_) main_v6 main_c_1
  let main_v8 : IVec S_ 1 := andi main_v3 main_v7
  main_v8
-- ==== Kernel.lean ====
abbrev S8x2048x15872 : Shape := ⟨3, ![8, 2048, 15872]⟩
abbrev S8x2048x640 : Shape := ⟨3, ![8, 2048, 640]⟩
abbrev S1x128 : Shape := ⟨2, ![1, 128]⟩
abbrev S4x8x256x128 : Shape := ⟨4, ![4, 8, 256, 128]⟩
abbrev S8x2048x8 : Shape := ⟨3, ![8, 2048, 8]⟩
abbrev S8x8x2048 : Shape := ⟨3, ![8, 8, 2048]⟩
abbrev S8x2048x1024 : Shape := ⟨3, ![8, 2048, 1024]⟩
abbrev S1x256x512 : Shape := ⟨3, ![1, 256, 512]⟩
abbrev S1x2048x128 : Shape := ⟨3, ![1, 2048, 128]⟩
abbrev S1x8x256 : Shape := ⟨3, ![1, 8, 256]⟩
abbrev S1x256x1024 : Shape := ⟨3, ![1, 256, 1024]⟩
abbrev S1x2048x256 : Shape := ⟨3, ![1, 2048, 256]⟩
abbrev S2048x256 : Shape := ⟨2, ![2048, 256]⟩
abbrev S8x2x144x256 : Shape := ⟨4, ![8, 2, 144, 256]⟩
abbrev S8x256x256 : Shape := ⟨3, ![8, 256, 256]⟩
abbrev S2x512x128 : Shape := ⟨3, ![2, 512, 128]⟩
abbrev S8x2x256x512 : Shape := ⟨4, ![8, 2, 256, 512]⟩
abbrev S2x8x512 : Shape := ⟨3, ![2, 8, 512]⟩
abbrev S2x144x512 : Shape := ⟨3, ![2, 144, 512]⟩
abbrev S128x128 : Shape := ⟨2, ![128, 128]⟩
abbrev S256x128 : Shape := ⟨2, ![256, 128]⟩
abbrev S1x256x128 : Shape := ⟨3, ![1, 256, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S1x1x128x256 : Shape := ⟨4, ![1, 1, 128, 256]⟩
abbrev S16x256 : Shape := ⟨2, ![16, 256]⟩
abbrev S1x1x16x256 : Shape := ⟨4, ![1, 1, 16, 256]⟩
abbrev S8x256 : Shape := ⟨2, ![8, 256]⟩
abbrev S256x2048 : Shape := ⟨2, ![256, 2048]⟩
abbrev S1x256 : Shape := ⟨2, ![1, 256]⟩
abbrev S32x8x256 : Shape := ⟨3, ![32, 8, 256]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S1x512x128 : Shape := ⟨3, ![1, 512, 128]⟩
abbrev S512x128 : Shape := ⟨2, ![512, 128]⟩
abbrev S256x512 : Shape := ⟨2, ![256, 512]⟩
abbrev S1x8x512 : Shape := ⟨3, ![1, 8, 512]⟩
abbrev S8x512 : Shape := ⟨2, ![8, 512]⟩
abbrev S1x1x256x128 : Shape := ⟨4, ![1, 1, 256, 128]⟩
abbrev S1x1x256x512 : Shape := ⟨4, ![1, 1, 256, 512]⟩
abbrev S32x8x512 : Shape := ⟨3, ![32, 8, 512]⟩
abbrev S512 : Shape := ⟨1, ![512]⟩
abbrev S1x512 : Shape := ⟨2, ![1, 512]⟩
abbrev S1x1x512 : Shape := ⟨3, ![1, 1, 512]⟩
abbrev S1x1x144x256 : Shape := ⟨4, ![1, 1, 144, 256]⟩
abbrev S144x256 : Shape := ⟨2, ![144, 256]⟩
abbrev S144x512 : Shape := ⟨2, ![144, 512]⟩
abbrev S1x144x512 : Shape := ⟨3, ![1, 144, 512]⟩
abbrev S1x1x128 : Shape := ⟨3, ![1, 1, 128]⟩

abbrev nBuf : Space → Nat
  | .hbm => 8
  | .vmem => 29
  | .smem => 0
  | _ => 0

abbrev bufTy : (tb : Table) → Fin (tcTables nBuf tb) → BufTy
  | .hbm, ⟨0, _⟩ => ⟨S8x2048x15872, .bf16⟩
  | .hbm, ⟨1, _⟩ => ⟨S8x2048x640, .f32⟩
  | .hbm, ⟨2, _⟩ => ⟨S1x128, .f32⟩
  | .hbm, ⟨3, _⟩ => ⟨S1x128, .f32⟩
  | .hbm, ⟨4, _⟩ => ⟨S4x8x256x128, .f32⟩
  | .hbm, ⟨5, _⟩ => ⟨S8x2048x8, .f32⟩
  | .hbm, ⟨6, _⟩ => ⟨S8x8x2048, .f32⟩
  | .hbm, ⟨7, _⟩ => ⟨S8x2048x1024, .bf16⟩
  | .local _ .vmem, ⟨0, _⟩ => ⟨S1x256x512, .f32⟩
  | .local _ .vmem, ⟨1, _⟩ => ⟨S1x256x512, .f32⟩
  | .local _ .vmem, ⟨2, _⟩ => ⟨S1x2048x128, .f32⟩
  | .local _ .vmem, ⟨3, _⟩ => ⟨S1x2048x128, .f32⟩
  | .local _ .vmem, ⟨4, _⟩ => ⟨S1x8x256, .f32⟩
  | .local _ .vmem, ⟨5, _⟩ => ⟨S1x8x256, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x128, .f32⟩
  | .local _ .vmem, ⟨15, _⟩ => ⟨S1x128, .f32⟩
  | .local _ .vmem, ⟨16, _⟩ => ⟨S4x8x256x128, .f32⟩
  | .local _ .vmem, ⟨17, _⟩ => ⟨S1x256x1024, .bf16⟩
  | .local _ .vmem, ⟨18, _⟩ => ⟨S1x256x1024, .bf16⟩
  | .local _ .vmem, ⟨19, _⟩ => ⟨S2048x256, .bf16⟩
  | .local _ .vmem, ⟨20, _⟩ => ⟨S2048x256, .bf16⟩
  | .local _ .vmem, ⟨21, _⟩ => ⟨S8x2x144x256, .bf16⟩
  | .local _ .vmem, ⟨22, _⟩ => ⟨S2048x256, .bf16⟩
  | .local _ .vmem, ⟨23, _⟩ => ⟨S8x256x256, .i32⟩
  | .local _ .vmem, ⟨24, _⟩ => ⟨S8x256x256, .f32⟩
  | .local _ .vmem, ⟨25, _⟩ => ⟨S2x512x128, .bf16⟩
  | .local _ .vmem, ⟨26, _⟩ => ⟨S8x2x256x512, .f32⟩
  | .local _ .vmem, ⟨27, _⟩ => ⟨S2x8x512, .f32⟩
  | .local _ .vmem, ⟨28, _⟩ => ⟨S2x144x512, .f32⟩
  | _, _ => ⟨S8x2048x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [BitOps F]

abbrev grid0 : Pipeline.Grid := ⟨2, ![8, 8], ![false, false]⟩

@[reducible] def k0_t1_loop (i : grid0.Coords) : Scf.Loop 32 :=
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_79 : BitVec 32 := 1#32
  ⟨c0_i32_77, v202, c1_i32_79⟩
def k0_mult1 (i : grid0.Coords) (k0_t1 : Fin (k0_t1_loop i).trips) : BitVec 32 :=
  let c2_i32_592 : BitVec 32 := 2#32
  let c0_i32_77 : BitVec 32 := 0#32
  let c1_i32_79 : BitVec 32 := 1#32
  let arg23 : BitVec 32 := Scf.iv c0_i32_77 c1_i32_79 k0_t1
  let v1059 : BitVec 32 := Scalar.muli c2_i32_592 arg23
  let c256_i32_597 : BitVec 32 := 256#32
  let v1063 : BitVec 32 := Scalar.muli v1059 c256_i32_597
  v1063
def k0_off1 (i : grid0.Coords) (k0_t1 : Fin (k0_t1_loop i).trips) : Fin 2 → Nat :=
  let c2_i32_592 : BitVec 32 := 2#32
  let c0_i32_77 : BitVec 32 := 0#32
  let c1_i32_79 : BitVec 32 := 1#32
  let arg23 : BitVec 32 := Scf.iv c0_i32_77 c1_i32_79 k0_t1
  let v1059 : BitVec 32 := Scalar.muli c2_i32_592 arg23
  let c256_i32_597 : BitVec 32 := 256#32
  let v1063 : BitVec 32 := Scalar.muli v1059 c256_i32_597
  let v1064 : BitVec 32 := v1063
  let v1065 : Index := Scalar.indexCast v1064
  let c0_598 : Index := 0#32
  ![v1065.toNat, 0]
def k0_mult2 (i : grid0.Coords) (k0_t1 : Fin (k0_t1_loop i).trips) : BitVec 32 :=
  let c2_i32_593 : BitVec 32 := 2#32
  let c0_i32_77 : BitVec 32 := 0#32
  let c1_i32_79 : BitVec 32 := 1#32
  let arg23 : BitVec 32 := Scf.iv c0_i32_77 c1_i32_79 k0_t1
  let v1060 : BitVec 32 := Scalar.muli c2_i32_593 arg23
  let c1_i32_594 : BitVec 32 := 1#32
  let v1061 : BitVec 32 := Scalar.addi v1060 c1_i32_594
  let c256_i32_600 : BitVec 32 := 256#32
  let v1068 : BitVec 32 := Scalar.muli v1061 c256_i32_600
  v1068
def k0_off2 (i : grid0.Coords) (k0_t1 : Fin (k0_t1_loop i).trips) : Fin 2 → Nat :=
  let c2_i32_593 : BitVec 32 := 2#32
  let c0_i32_77 : BitVec 32 := 0#32
  let c1_i32_79 : BitVec 32 := 1#32
  let arg23 : BitVec 32 := Scf.iv c0_i32_77 c1_i32_79 k0_t1
  let v1060 : BitVec 32 := Scalar.muli c2_i32_593 arg23
  let c1_i32_594 : BitVec 32 := 1#32
  let v1061 : BitVec 32 := Scalar.addi v1060 c1_i32_594
  let c256_i32_600 : BitVec 32 := 256#32
  let v1068 : BitVec 32 := Scalar.muli v1061 c256_i32_600
  let v1069 : BitVec 32 := v1068
  let v1070 : Index := Scalar.indexCast v1069
  let c0_601 : Index := 0#32
  ![v1070.toNat, 0]
def k0_off3 (i : grid0.Coords) (k0_t1 : Fin (k0_t1_loop i).trips) : Fin 3 → Nat :=
  let c2_i32_592 : BitVec 32 := 2#32
  let c0_i32_77 : BitVec 32 := 0#32
  let c1_i32_79 : BitVec 32 := 1#32
  let arg23 : BitVec 32 := Scf.iv c0_i32_77 c1_i32_79 k0_t1
  let v1059 : BitVec 32 := Scalar.muli c2_i32_592 arg23
  let v1144 : Index := Scalar.indexCast v1059
  let c0_616 : Index := 0#32
  let c0_617 : Index := 0#32
  ![v1144.toNat, 0, 0]
def k0_off4 (i : grid0.Coords) (k0_t1 : Fin (k0_t1_loop i).trips) : Fin 3 → Nat :=
  let c2_i32_593 : BitVec 32 := 2#32
  let c0_i32_77 : BitVec 32 := 0#32
  let c1_i32_79 : BitVec 32 := 1#32
  let arg23 : BitVec 32 := Scf.iv c0_i32_77 c1_i32_79 k0_t1
  let v1060 : BitVec 32 := Scalar.muli c2_i32_593 arg23
  let c1_i32_594 : BitVec 32 := 1#32
  let v1061 : BitVec 32 := Scalar.addi v1060 c1_i32_594
  let v1219 : Index := Scalar.indexCast v1061
  let c0_632 : Index := 0#32
  let c0_633 : Index := 0#32
  ![v1219.toNat, 0, 0]
@[reducible] def k0_t2_loop (i : grid0.Coords) : Scf.Loop 32 :=
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let v199 : BitVec 32 := Scalar.addi c0_i32_77 v198
  let c1_i32_80 : BitVec 32 := 1#32
  ⟨v202, v199, c1_i32_80⟩
def k0_mult3 (i : grid0.Coords) (k0_t2 : Fin (k0_t2_loop i).trips) : BitVec 32 :=
  let c2_i32_592 : BitVec 32 := 2#32
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg23 : BitVec 32 := Scf.iv v202 c1_i32_80 k0_t2
  let v1059 : BitVec 32 := Scalar.muli c2_i32_592 arg23
  let c256_i32_597 : BitVec 32 := 256#32
  let v1063 : BitVec 32 := Scalar.muli v1059 c256_i32_597
  v1063
def k0_off5 (i : grid0.Coords) (k0_t2 : Fin (k0_t2_loop i).trips) : Fin 2 → Nat :=
  let c2_i32_592 : BitVec 32 := 2#32
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg23 : BitVec 32 := Scf.iv v202 c1_i32_80 k0_t2
  let v1059 : BitVec 32 := Scalar.muli c2_i32_592 arg23
  let c256_i32_597 : BitVec 32 := 256#32
  let v1063 : BitVec 32 := Scalar.muli v1059 c256_i32_597
  let v1064 : BitVec 32 := v1063
  let v1065 : Index := Scalar.indexCast v1064
  let c0_598 : Index := 0#32
  ![v1065.toNat, 0]
def k0_mult4 (i : grid0.Coords) (k0_t2 : Fin (k0_t2_loop i).trips) : BitVec 32 :=
  let c2_i32_593 : BitVec 32 := 2#32
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg23 : BitVec 32 := Scf.iv v202 c1_i32_80 k0_t2
  let v1060 : BitVec 32 := Scalar.muli c2_i32_593 arg23
  let c1_i32_594 : BitVec 32 := 1#32
  let v1061 : BitVec 32 := Scalar.addi v1060 c1_i32_594
  let c256_i32_600 : BitVec 32 := 256#32
  let v1068 : BitVec 32 := Scalar.muli v1061 c256_i32_600
  v1068
def k0_off6 (i : grid0.Coords) (k0_t2 : Fin (k0_t2_loop i).trips) : Fin 2 → Nat :=
  let c2_i32_593 : BitVec 32 := 2#32
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg23 : BitVec 32 := Scf.iv v202 c1_i32_80 k0_t2
  let v1060 : BitVec 32 := Scalar.muli c2_i32_593 arg23
  let c1_i32_594 : BitVec 32 := 1#32
  let v1061 : BitVec 32 := Scalar.addi v1060 c1_i32_594
  let c256_i32_600 : BitVec 32 := 256#32
  let v1068 : BitVec 32 := Scalar.muli v1061 c256_i32_600
  let v1069 : BitVec 32 := v1068
  let v1070 : Index := Scalar.indexCast v1069
  let c0_601 : Index := 0#32
  ![v1070.toNat, 0]
def k0_off7 (i : grid0.Coords) (k0_t2 : Fin (k0_t2_loop i).trips) : Fin 3 → Nat :=
  let c2_i32_592 : BitVec 32 := 2#32
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg23 : BitVec 32 := Scf.iv v202 c1_i32_80 k0_t2
  let v1059 : BitVec 32 := Scalar.muli c2_i32_592 arg23
  let v1144 : Index := Scalar.indexCast v1059
  let c0_616 : Index := 0#32
  let c0_617 : Index := 0#32
  ![v1144.toNat, 0, 0]
def k0_off8 (i : grid0.Coords) (k0_t2 : Fin (k0_t2_loop i).trips) : Fin 3 → Nat :=
  let c2_i32_593 : BitVec 32 := 2#32
  let c0_i32_77 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_75 : BitVec 32 := 1#32
  let v197 : BitVec 32 := Scalar.shrui v18 c1_i32_75
  let v198 : BitVec 32 := Scalar.subi v197 c0_i32_77
  let c1_i32_78 : BitVec 32 := 1#32
  let v200 : BitVec 32 := Scalar.divsi v198 c1_i32_78
  let v201 : BitVec 32 := Scalar.muli v200 c1_i32_78
  let v202 : BitVec 32 := Scalar.addi c0_i32_77 v201
  let c1_i32_80 : BitVec 32 := 1#32
  let arg23 : BitVec 32 := Scf.iv v202 c1_i32_80 k0_t2
  let v1060 : BitVec 32 := Scalar.muli c2_i32_593 arg23
  let c1_i32_594 : BitVec 32 := 1#32
  let v1061 : BitVec 32 := Scalar.addi v1060 c1_i32_594
  let v1219 : Index := Scalar.indexCast v1061
  let c0_632 : Index := 0#32
  let c0_633 : Index := 0#32
  ![v1219.toNat, 0, 0]
def k0_cond2 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_81 : BitVec 32 := 1#32
  let v203 : BitVec 32 := Scalar.andi v18 c1_i32_81
  let c1_i32_82 : BitVec 32 := 1#32
  let v204 : BitVec 1 := Scalar.cmpi .eq v203 c1_i32_82
  let v205 : BitVec 32 := Scalar.extui v204
  let c0_i32_83 : BitVec 32 := 0#32
  let v206 : BitVec 1 := Scalar.cmpi .ne v205 c0_i32_83
  v206

def k0_mult5 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c256_i32_595 : BitVec 32 := 256#32
  let v1061 : BitVec 32 := Scalar.muli v1059 c256_i32_595
  v1061
def k0_off9 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c256_i32_595 : BitVec 32 := 256#32
  let v1061 : BitVec 32 := Scalar.muli v1059 c256_i32_595
  let v1062 : BitVec 32 := v1061
  let v1063 : Index := Scalar.indexCast v1062
  let c0_596 : Index := 0#32
  ![v1063.toNat, 0]
def k0_off10 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1137 : Index := Scalar.indexCast v1059
  let c0_611 : Index := 0#32
  let c0_612 : Index := 0#32
  ![v1137.toNat, 0, 0]
@[reducible] def k0_t3_loop (i : grid0.Coords) : Scf.Loop 32 :=
  let c0_i32_87 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_85 : BitVec 32 := 1#32
  let v208 : BitVec 32 := Scalar.shrui v18 c1_i32_85
  let v210 : BitVec 32 := Scalar.subi v208 c0_i32_87
  let c1_i32_88 : BitVec 32 := 1#32
  let v212 : BitVec 32 := Scalar.divsi v210 c1_i32_88
  let v213 : BitVec 32 := Scalar.muli v212 c1_i32_88
  let v214 : BitVec 32 := Scalar.addi c0_i32_87 v213
  let c1_i32_89 : BitVec 32 := 1#32
  ⟨c0_i32_87, v214, c1_i32_89⟩
def k0_off11 (i : grid0.Coords) (k0_t3 : Fin (k0_t3_loop i).trips) : Fin 3 → Nat :=
  let c2_i32_592 : BitVec 32 := 2#32
  let c0_i32_87 : BitVec 32 := 0#32
  let c1_i32_89 : BitVec 32 := 1#32
  let arg23 : BitVec 32 := Scf.iv c0_i32_87 c1_i32_89 k0_t3
  let v1059 : BitVec 32 := Scalar.muli c2_i32_592 arg23
  let v1060 : Index := Scalar.indexCast v1059
  let c0_593 : Index := 0#32
  let c0_594 : Index := 0#32
  ![v1060.toNat, 0, 0]
def k0_off12 (i : grid0.Coords) (k0_t3 : Fin (k0_t3_loop i).trips) : Fin 3 → Nat :=
  let c2_i32_598 : BitVec 32 := 2#32
  let c0_i32_87 : BitVec 32 := 0#32
  let c1_i32_89 : BitVec 32 := 1#32
  let arg23 : BitVec 32 := Scf.iv c0_i32_87 c1_i32_89 k0_t3
  let v1070 : BitVec 32 := Scalar.muli c2_i32_598 arg23
  let c1_i32_599 : BitVec 32 := 1#32
  let v1071 : BitVec 32 := Scalar.addi v1070 c1_i32_599
  let v1072 : Index := Scalar.indexCast v1071
  let c0_600 : Index := 0#32
  let c0_601 : Index := 0#32
  ![v1072.toNat, 0, 0]
@[reducible] def k0_t4_loop (i : grid0.Coords) : Scf.Loop 32 :=
  let c0_i32_87 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_85 : BitVec 32 := 1#32
  let v208 : BitVec 32 := Scalar.shrui v18 c1_i32_85
  let v210 : BitVec 32 := Scalar.subi v208 c0_i32_87
  let c1_i32_88 : BitVec 32 := 1#32
  let v212 : BitVec 32 := Scalar.divsi v210 c1_i32_88
  let v213 : BitVec 32 := Scalar.muli v212 c1_i32_88
  let v214 : BitVec 32 := Scalar.addi c0_i32_87 v213
  let v211 : BitVec 32 := Scalar.addi c0_i32_87 v210
  let c1_i32_90 : BitVec 32 := 1#32
  ⟨v214, v211, c1_i32_90⟩
def k0_off13 (i : grid0.Coords) (k0_t4 : Fin (k0_t4_loop i).trips) : Fin 3 → Nat :=
  let c2_i32_592 : BitVec 32 := 2#32
  let c0_i32_87 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_85 : BitVec 32 := 1#32
  let v208 : BitVec 32 := Scalar.shrui v18 c1_i32_85
  let v210 : BitVec 32 := Scalar.subi v208 c0_i32_87
  let c1_i32_88 : BitVec 32 := 1#32
  let v212 : BitVec 32 := Scalar.divsi v210 c1_i32_88
  let v213 : BitVec 32 := Scalar.muli v212 c1_i32_88
  let v214 : BitVec 32 := Scalar.addi c0_i32_87 v213
  let c1_i32_90 : BitVec 32 := 1#32
  let arg23 : BitVec 32 := Scf.iv v214 c1_i32_90 k0_t4
  let v1059 : BitVec 32 := Scalar.muli c2_i32_592 arg23
  let v1060 : Index := Scalar.indexCast v1059
  let c0_593 : Index := 0#32
  let c0_594 : Index := 0#32
  ![v1060.toNat, 0, 0]
def k0_off14 (i : grid0.Coords) (k0_t4 : Fin (k0_t4_loop i).trips) : Fin 3 → Nat :=
  let c2_i32_598 : BitVec 32 := 2#32
  let c0_i32_87 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_85 : BitVec 32 := 1#32
  let v208 : BitVec 32 := Scalar.shrui v18 c1_i32_85
  let v210 : BitVec 32 := Scalar.subi v208 c0_i32_87
  let c1_i32_88 : BitVec 32 := 1#32
  let v212 : BitVec 32 := Scalar.divsi v210 c1_i32_88
  let v213 : BitVec 32 := Scalar.muli v212 c1_i32_88
  let v214 : BitVec 32 := Scalar.addi c0_i32_87 v213
  let c1_i32_90 : BitVec 32 := 1#32
  let arg23 : BitVec 32 := Scf.iv v214 c1_i32_90 k0_t4
  let v1070 : BitVec 32 := Scalar.muli c2_i32_598 arg23
  let c1_i32_599 : BitVec 32 := 1#32
  let v1071 : BitVec 32 := Scalar.addi v1070 c1_i32_599
  let v1072 : Index := Scalar.indexCast v1071
  let c0_600 : Index := 0#32
  let c0_601 : Index := 0#32
  ![v1072.toNat, 0, 0]
def k0_cond3 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_91 : BitVec 32 := 1#32
  let v217 : BitVec 32 := Scalar.andi v18 c1_i32_91
  let c1_i32_92 : BitVec 32 := 1#32
  let v218 : BitVec 1 := Scalar.cmpi .eq v217 c1_i32_92
  let v219 : BitVec 32 := Scalar.extui v218
  let c0_i32_93 : BitVec 32 := 0#32
  let v220 : BitVec 1 := Scalar.cmpi .ne v219 c0_i32_93
  v220

def k0_off15 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1060 : Index := Scalar.indexCast v1059
  let c0_593 : Index := 0#32
  let c0_594 : Index := 0#32
  ![v1060.toNat, 0, 0]
@[reducible] def k0_t5_loop : Scf.Loop 32 :=
  let c0_i32_97 : BitVec 32 := 0#32
  let c31_i32 : BitVec 32 := 31#32
  let v229 : BitVec 32 := Scalar.addi c0_i32_97 c31_i32
  let c1_i32_98 : BitVec 32 := 1#32
  ⟨c0_i32_97, v229, c1_i32_98⟩
@[reducible] def k0_t6_loop (i : grid0.Coords) : Scf.Loop 32 :=
  let c0_i32_595 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_593 : BitVec 32 := 1#32
  let v1063 : BitVec 32 := Scalar.shrui v18 c1_i32_593
  let v1065 : BitVec 32 := Scalar.subi v1063 c0_i32_595
  let c1_i32_596 : BitVec 32 := 1#32
  let v1067 : BitVec 32 := Scalar.divsi v1065 c1_i32_596
  let v1068 : BitVec 32 := Scalar.muli v1067 c1_i32_596
  let v1069 : BitVec 32 := Scalar.addi c0_i32_595 v1068
  let c1_i32_597 : BitVec 32 := 1#32
  ⟨c0_i32_595, v1069, c1_i32_597⟩
def k0_off16 (i : grid0.Coords) (k0_t6 : Fin (k0_t6_loop i).trips) : Fin 3 → Nat :=
  let c2_i32_604 : BitVec 32 := 2#32
  let c0_i32_595 : BitVec 32 := 0#32
  let c1_i32_597 : BitVec 32 := 1#32
  let arg25 : BitVec 32 := Scf.iv c0_i32_595 c1_i32_597 k0_t6
  let v1082 : BitVec 32 := Scalar.muli c2_i32_604 arg25
  let v1083 : Index := Scalar.indexCast v1082
  let c0_605 : Index := 0#32
  let c0_606 : Index := 0#32
  ![v1083.toNat, 0, 0]
def k0_off17 (i : grid0.Coords) (k0_t6 : Fin (k0_t6_loop i).trips) : Fin 3 → Nat :=
  let c2_i32_610 : BitVec 32 := 2#32
  let c0_i32_595 : BitVec 32 := 0#32
  let c1_i32_597 : BitVec 32 := 1#32
  let arg25 : BitVec 32 := Scf.iv c0_i32_595 c1_i32_597 k0_t6
  let v1093 : BitVec 32 := Scalar.muli c2_i32_610 arg25
  let c1_i32_611 : BitVec 32 := 1#32
  let v1094 : BitVec 32 := Scalar.addi v1093 c1_i32_611
  let v1095 : Index := Scalar.indexCast v1094
  let c0_612 : Index := 0#32
  let c0_613 : Index := 0#32
  ![v1095.toNat, 0, 0]
@[reducible] def k0_t7_loop (i : grid0.Coords) : Scf.Loop 32 :=
  let c0_i32_595 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_593 : BitVec 32 := 1#32
  let v1063 : BitVec 32 := Scalar.shrui v18 c1_i32_593
  let v1065 : BitVec 32 := Scalar.subi v1063 c0_i32_595
  let c1_i32_596 : BitVec 32 := 1#32
  let v1067 : BitVec 32 := Scalar.divsi v1065 c1_i32_596
  let v1068 : BitVec 32 := Scalar.muli v1067 c1_i32_596
  let v1069 : BitVec 32 := Scalar.addi c0_i32_595 v1068
  let v1066 : BitVec 32 := Scalar.addi c0_i32_595 v1065
  let c1_i32_598 : BitVec 32 := 1#32
  ⟨v1069, v1066, c1_i32_598⟩
def k0_off18 (i : grid0.Coords) (k0_t7 : Fin (k0_t7_loop i).trips) : Fin 3 → Nat :=
  let c2_i32_604 : BitVec 32 := 2#32
  let c0_i32_595 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_593 : BitVec 32 := 1#32
  let v1063 : BitVec 32 := Scalar.shrui v18 c1_i32_593
  let v1065 : BitVec 32 := Scalar.subi v1063 c0_i32_595
  let c1_i32_596 : BitVec 32 := 1#32
  let v1067 : BitVec 32 := Scalar.divsi v1065 c1_i32_596
  let v1068 : BitVec 32 := Scalar.muli v1067 c1_i32_596
  let v1069 : BitVec 32 := Scalar.addi c0_i32_595 v1068
  let c1_i32_598 : BitVec 32 := 1#32
  let arg25 : BitVec 32 := Scf.iv v1069 c1_i32_598 k0_t7
  let v1082 : BitVec 32 := Scalar.muli c2_i32_604 arg25
  let v1083 : Index := Scalar.indexCast v1082
  let c0_605 : Index := 0#32
  let c0_606 : Index := 0#32
  ![v1083.toNat, 0, 0]
def k0_off19 (i : grid0.Coords) (k0_t7 : Fin (k0_t7_loop i).trips) : Fin 3 → Nat :=
  let c2_i32_610 : BitVec 32 := 2#32
  let c0_i32_595 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_593 : BitVec 32 := 1#32
  let v1063 : BitVec 32 := Scalar.shrui v18 c1_i32_593
  let v1065 : BitVec 32 := Scalar.subi v1063 c0_i32_595
  let c1_i32_596 : BitVec 32 := 1#32
  let v1067 : BitVec 32 := Scalar.divsi v1065 c1_i32_596
  let v1068 : BitVec 32 := Scalar.muli v1067 c1_i32_596
  let v1069 : BitVec 32 := Scalar.addi c0_i32_595 v1068
  let c1_i32_598 : BitVec 32 := 1#32
  let arg25 : BitVec 32 := Scf.iv v1069 c1_i32_598 k0_t7
  let v1093 : BitVec 32 := Scalar.muli c2_i32_610 arg25
  let c1_i32_611 : BitVec 32 := 1#32
  let v1094 : BitVec 32 := Scalar.addi v1093 c1_i32_611
  let v1095 : Index := Scalar.indexCast v1094
  let c0_612 : Index := 0#32
  let c0_613 : Index := 0#32
  ![v1095.toNat, 0, 0]
def k0_cond4 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_599 : BitVec 32 := 1#32
  let v1072 : BitVec 32 := Scalar.andi v18 c1_i32_599
  let c1_i32_600 : BitVec 32 := 1#32
  let v1073 : BitVec 1 := Scalar.cmpi .eq v1072 c1_i32_600
  let v1074 : BitVec 32 := Scalar.extui v1073
  let c0_i32_601 : BitVec 32 := 0#32
  let v1075 : BitVec 1 := Scalar.cmpi .ne v1074 c0_i32_601
  v1075

def k0_off20 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_604 : BitVec 32 := 1#32
  let v1082 : BitVec 32 := Scalar.subi v18 c1_i32_604
  let v1083 : Index := Scalar.indexCast v1082
  let c0_605 : Index := 0#32
  let c0_606 : Index := 0#32
  ![v1083.toNat, 0, 0]
@[reducible] def k0_t8_loop (i : grid0.Coords) : Scf.Loop 32 :=
  let c0_i32_102 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_100 : BitVec 32 := 1#32
  let v231 : BitVec 32 := Scalar.shrui v18 c1_i32_100
  let v233 : BitVec 32 := Scalar.subi v231 c0_i32_102
  let c1_i32_103 : BitVec 32 := 1#32
  let v235 : BitVec 32 := Scalar.divsi v233 c1_i32_103
  let v236 : BitVec 32 := Scalar.muli v235 c1_i32_103
  let v237 : BitVec 32 := Scalar.addi c0_i32_102 v236
  let c1_i32_104 : BitVec 32 := 1#32
  ⟨c0_i32_102, v237, c1_i32_104⟩
def k0_off21 (i : grid0.Coords) (k0_t8 : Fin (k0_t8_loop i).trips) : Fin 3 → Nat :=
  let c2_i32_592 : BitVec 32 := 2#32
  let c0_i32_102 : BitVec 32 := 0#32
  let c1_i32_104 : BitVec 32 := 1#32
  let arg23 : BitVec 32 := Scf.iv c0_i32_102 c1_i32_104 k0_t8
  let v1059 : BitVec 32 := Scalar.muli c2_i32_592 arg23
  let v1060 : Index := Scalar.indexCast v1059
  let c0_593 : Index := 0#32
  let c0_594 : Index := 0#32
  ![v1060.toNat, 0, 0]
def k0_off22 (i : grid0.Coords) (k0_t8 : Fin (k0_t8_loop i).trips) : Fin 3 → Nat :=
  let c2_i32_598 : BitVec 32 := 2#32
  let c0_i32_102 : BitVec 32 := 0#32
  let c1_i32_104 : BitVec 32 := 1#32
  let arg23 : BitVec 32 := Scf.iv c0_i32_102 c1_i32_104 k0_t8
  let v1070 : BitVec 32 := Scalar.muli c2_i32_598 arg23
  let c1_i32_599 : BitVec 32 := 1#32
  let v1071 : BitVec 32 := Scalar.addi v1070 c1_i32_599
  let v1072 : Index := Scalar.indexCast v1071
  let c0_600 : Index := 0#32
  let c0_601 : Index := 0#32
  ![v1072.toNat, 0, 0]
@[reducible] def k0_t9_loop (i : grid0.Coords) : Scf.Loop 32 :=
  let c0_i32_102 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_100 : BitVec 32 := 1#32
  let v231 : BitVec 32 := Scalar.shrui v18 c1_i32_100
  let v233 : BitVec 32 := Scalar.subi v231 c0_i32_102
  let c1_i32_103 : BitVec 32 := 1#32
  let v235 : BitVec 32 := Scalar.divsi v233 c1_i32_103
  let v236 : BitVec 32 := Scalar.muli v235 c1_i32_103
  let v237 : BitVec 32 := Scalar.addi c0_i32_102 v236
  let v234 : BitVec 32 := Scalar.addi c0_i32_102 v233
  let c1_i32_105 : BitVec 32 := 1#32
  ⟨v237, v234, c1_i32_105⟩
def k0_off23 (i : grid0.Coords) (k0_t9 : Fin (k0_t9_loop i).trips) : Fin 3 → Nat :=
  let c2_i32_592 : BitVec 32 := 2#32
  let c0_i32_102 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_100 : BitVec 32 := 1#32
  let v231 : BitVec 32 := Scalar.shrui v18 c1_i32_100
  let v233 : BitVec 32 := Scalar.subi v231 c0_i32_102
  let c1_i32_103 : BitVec 32 := 1#32
  let v235 : BitVec 32 := Scalar.divsi v233 c1_i32_103
  let v236 : BitVec 32 := Scalar.muli v235 c1_i32_103
  let v237 : BitVec 32 := Scalar.addi c0_i32_102 v236
  let c1_i32_105 : BitVec 32 := 1#32
  let arg23 : BitVec 32 := Scf.iv v237 c1_i32_105 k0_t9
  let v1059 : BitVec 32 := Scalar.muli c2_i32_592 arg23
  let v1060 : Index := Scalar.indexCast v1059
  let c0_593 : Index := 0#32
  let c0_594 : Index := 0#32
  ![v1060.toNat, 0, 0]
def k0_off24 (i : grid0.Coords) (k0_t9 : Fin (k0_t9_loop i).trips) : Fin 3 → Nat :=
  let c2_i32_598 : BitVec 32 := 2#32
  let c0_i32_102 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_100 : BitVec 32 := 1#32
  let v231 : BitVec 32 := Scalar.shrui v18 c1_i32_100
  let v233 : BitVec 32 := Scalar.subi v231 c0_i32_102
  let c1_i32_103 : BitVec 32 := 1#32
  let v235 : BitVec 32 := Scalar.divsi v233 c1_i32_103
  let v236 : BitVec 32 := Scalar.muli v235 c1_i32_103
  let v237 : BitVec 32 := Scalar.addi c0_i32_102 v236
  let c1_i32_105 : BitVec 32 := 1#32
  let arg23 : BitVec 32 := Scf.iv v237 c1_i32_105 k0_t9
  let v1070 : BitVec 32 := Scalar.muli c2_i32_598 arg23
  let c1_i32_599 : BitVec 32 := 1#32
  let v1071 : BitVec 32 := Scalar.addi v1070 c1_i32_599
  let v1072 : Index := Scalar.indexCast v1071
  let c0_600 : Index := 0#32
  let c0_601 : Index := 0#32
  ![v1072.toNat, 0, 0]
def k0_cond5 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_106 : BitVec 32 := 1#32
  let v240 : BitVec 32 := Scalar.andi v18 c1_i32_106
  let c1_i32_107 : BitVec 32 := 1#32
  let v241 : BitVec 1 := Scalar.cmpi .eq v240 c1_i32_107
  let v242 : BitVec 32 := Scalar.extui v241
  let c0_i32_108 : BitVec 32 := 0#32
  let v243 : BitVec 1 := Scalar.cmpi .ne v242 c0_i32_108
  v243

def k0_off25 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1060 : Index := Scalar.indexCast v1059
  let c0_593 : Index := 0#32
  let c0_594 : Index := 0#32
  ![v1060.toNat, 0, 0]
@[reducible] def k0_t10_loop (i : grid0.Coords) : Scf.Loop 32 :=
  let c0_i32_115 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_114 : BitVec 32 := 1#32
  let v257 : BitVec 32 := Scalar.shrui v18 c1_i32_114
  let v258 : BitVec 32 := Scalar.subi v257 c0_i32_115
  let c1_i32_116 : BitVec 32 := 1#32
  let v260 : BitVec 32 := Scalar.divsi v258 c1_i32_116
  let v261 : BitVec 32 := Scalar.muli v260 c1_i32_116
  let v262 : BitVec 32 := Scalar.addi c0_i32_115 v261
  let c1_i32_117 : BitVec 32 := 1#32
  ⟨c0_i32_115, v262, c1_i32_117⟩
def k0_off26 (i : grid0.Coords) (k0_t10 : Fin (k0_t10_loop i).trips) : Fin 3 → Nat :=
  let c2_i32_592 : BitVec 32 := 2#32
  let c0_i32_115 : BitVec 32 := 0#32
  let c1_i32_117 : BitVec 32 := 1#32
  let arg23 : BitVec 32 := Scf.iv c0_i32_115 c1_i32_117 k0_t10
  let v1059 : BitVec 32 := Scalar.muli c2_i32_592 arg23
  let v1062 : Index := Scalar.indexCast v1059
  let c0_595 : Index := 0#32
  let c0_596 : Index := 0#32
  ![v1062.toNat, 0, 0]
def k0_off27 (i : grid0.Coords) (k0_t10 : Fin (k0_t10_loop i).trips) : Fin 3 → Nat :=
  let c2_i32_593 : BitVec 32 := 2#32
  let c0_i32_115 : BitVec 32 := 0#32
  let c1_i32_117 : BitVec 32 := 1#32
  let arg23 : BitVec 32 := Scf.iv c0_i32_115 c1_i32_117 k0_t10
  let v1060 : BitVec 32 := Scalar.muli c2_i32_593 arg23
  let c1_i32_594 : BitVec 32 := 1#32
  let v1061 : BitVec 32 := Scalar.addi v1060 c1_i32_594
  let v1065 : Index := Scalar.indexCast v1061
  let c0_597 : Index := 0#32
  let c0_598 : Index := 0#32
  ![v1065.toNat, 0, 0]
@[reducible] def k0_t11_loop (i : grid0.Coords) : Scf.Loop 32 :=
  let c0_i32_115 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_114 : BitVec 32 := 1#32
  let v257 : BitVec 32 := Scalar.shrui v18 c1_i32_114
  let v258 : BitVec 32 := Scalar.subi v257 c0_i32_115
  let c1_i32_116 : BitVec 32 := 1#32
  let v260 : BitVec 32 := Scalar.divsi v258 c1_i32_116
  let v261 : BitVec 32 := Scalar.muli v260 c1_i32_116
  let v262 : BitVec 32 := Scalar.addi c0_i32_115 v261
  let v259 : BitVec 32 := Scalar.addi c0_i32_115 v258
  let c1_i32_118 : BitVec 32 := 1#32
  ⟨v262, v259, c1_i32_118⟩
def k0_off28 (i : grid0.Coords) (k0_t11 : Fin (k0_t11_loop i).trips) : Fin 3 → Nat :=
  let c2_i32_592 : BitVec 32 := 2#32
  let c0_i32_115 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_114 : BitVec 32 := 1#32
  let v257 : BitVec 32 := Scalar.shrui v18 c1_i32_114
  let v258 : BitVec 32 := Scalar.subi v257 c0_i32_115
  let c1_i32_116 : BitVec 32 := 1#32
  let v260 : BitVec 32 := Scalar.divsi v258 c1_i32_116
  let v261 : BitVec 32 := Scalar.muli v260 c1_i32_116
  let v262 : BitVec 32 := Scalar.addi c0_i32_115 v261
  let c1_i32_118 : BitVec 32 := 1#32
  let arg23 : BitVec 32 := Scf.iv v262 c1_i32_118 k0_t11
  let v1059 : BitVec 32 := Scalar.muli c2_i32_592 arg23
  let v1062 : Index := Scalar.indexCast v1059
  let c0_595 : Index := 0#32
  let c0_596 : Index := 0#32
  ![v1062.toNat, 0, 0]
def k0_off29 (i : grid0.Coords) (k0_t11 : Fin (k0_t11_loop i).trips) : Fin 3 → Nat :=
  let c2_i32_593 : BitVec 32 := 2#32
  let c0_i32_115 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_114 : BitVec 32 := 1#32
  let v257 : BitVec 32 := Scalar.shrui v18 c1_i32_114
  let v258 : BitVec 32 := Scalar.subi v257 c0_i32_115
  let c1_i32_116 : BitVec 32 := 1#32
  let v260 : BitVec 32 := Scalar.divsi v258 c1_i32_116
  let v261 : BitVec 32 := Scalar.muli v260 c1_i32_116
  let v262 : BitVec 32 := Scalar.addi c0_i32_115 v261
  let c1_i32_118 : BitVec 32 := 1#32
  let arg23 : BitVec 32 := Scf.iv v262 c1_i32_118 k0_t11
  let v1060 : BitVec 32 := Scalar.muli c2_i32_593 arg23
  let c1_i32_594 : BitVec 32 := 1#32
  let v1061 : BitVec 32 := Scalar.addi v1060 c1_i32_594
  let v1065 : Index := Scalar.indexCast v1061
  let c0_597 : Index := 0#32
  let c0_598 : Index := 0#32
  ![v1065.toNat, 0, 0]
def k0_cond6 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_119 : BitVec 32 := 1#32
  let v265 : BitVec 32 := Scalar.andi v18 c1_i32_119
  let c1_i32_120 : BitVec 32 := 1#32
  let v266 : BitVec 1 := Scalar.cmpi .eq v265 c1_i32_120
  let v267 : BitVec 32 := Scalar.extui v266
  let c0_i32_121 : BitVec 32 := 0#32
  let v268 : BitVec 1 := Scalar.cmpi .ne v267 c0_i32_121
  v268

def k0_off30 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1060 : Index := Scalar.indexCast v1059
  let c0_593 : Index := 0#32
  let c0_594 : Index := 0#32
  ![v1060.toNat, 0, 0]
@[reducible] def k0_t12_loop (i : grid0.Coords) : Scf.Loop 32 :=
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_205 : BitVec 32 := 1#32
  ⟨c0_i32_203, v443, c1_i32_205⟩
def k0_mult6 (i : grid0.Coords) (k0_t12 : Fin (k0_t12_loop i).trips) : BitVec 32 :=
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c256_i32_595 : BitVec 32 := 256#32
  let v1062 : BitVec 32 := Scalar.muli v1059 c256_i32_595
  v1062
def k0_off31 (i : grid0.Coords) (k0_t12 : Fin (k0_t12_loop i).trips) : Fin 2 → Nat :=
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c256_i32_595 : BitVec 32 := 256#32
  let v1062 : BitVec 32 := Scalar.muli v1059 c256_i32_595
  let v1063 : BitVec 32 := v1062
  let v1064 : Index := Scalar.indexCast v1063
  let c0_596 : Index := 0#32
  ![v1064.toNat, 0]
def k0_mult7 (i : grid0.Coords) (k0_t12 : Fin (k0_t12_loop i).trips) : BitVec 32 :=
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  v1066
def k0_off32 (i : grid0.Coords) (k0_t12 : Fin (k0_t12_loop i).trips) : Fin 2 → Nat :=
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  let v1067 : BitVec 32 := v1066
  let v1068 : Index := Scalar.indexCast v1067
  let c0_598 : Index := 0#32
  ![v1068.toNat, 0]
def k0_off33 (i : grid0.Coords) (k0_t12 : Fin (k0_t12_loop i).trips) : Fin 3 → Nat :=
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let v1086 : Index := Scalar.indexCast v1059
  let c0_615 : Index := 0#32
  let c0_616 : Index := 0#32
  ![v1086.toNat, 0, 0]
def k0_off34 (i : grid0.Coords) (k0_t12 : Fin (k0_t12_loop i).trips) : Fin 3 → Nat :=
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let v1090 : Index := Scalar.indexCast v1061
  let c0_617 : Index := 0#32
  let c0_618 : Index := 0#32
  ![v1090.toNat, 0, 0]
def k0_off35 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1108 : Index := Scalar.indexCast v1098
  let c0_632 : Index := 0#32
  let c0_633 : Index := 0#32
  let c0_634 : Index := 0#32
  ![v1108.toNat, 0, 0, 0]
def k0_off36 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1111 : Index := Scalar.indexCast v1098
  let c1_635 : Index := 1#32
  let c0_636 : Index := 0#32
  let c0_637 : Index := 0#32
  ![v1111.toNat, 1, 0, 0]
def k0_off37 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1114 : Index := Scalar.indexCast v1098
  let c2 : Index := 2#32
  let c0_638 : Index := 0#32
  let c0_639 : Index := 0#32
  ![v1114.toNat, 2, 0, 0]
def k0_off38 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1117 : Index := Scalar.indexCast v1098
  let c3 : Index := 3#32
  let c0_640 : Index := 0#32
  let c0_641 : Index := 0#32
  ![v1117.toNat, 3, 0, 0]
def k0_off39 (i : grid0.Coords) (k0_t12 : Fin (k0_t12_loop i).trips) : Fin 4 → Nat :=
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let v1123 : Index := Scalar.indexCast v1059
  let c0_642 : Index := 0#32
  let c0_643 : Index := 0#32
  let c0_644 : Index := 0#32
  ![v1123.toNat, 0, 0, 0]
def k0_off40 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1130 : Index := Scalar.indexCast v1098
  let c4 : Index := 4#32
  let c0_646 : Index := 0#32
  let c0_647 : Index := 0#32
  ![v1130.toNat, 4, 0, 0]
def k0_off41 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1133 : Index := Scalar.indexCast v1098
  let c5 : Index := 5#32
  let c0_648 : Index := 0#32
  let c0_649 : Index := 0#32
  ![v1133.toNat, 5, 0, 0]
def k0_off42 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1136 : Index := Scalar.indexCast v1098
  let c6 : Index := 6#32
  let c0_650 : Index := 0#32
  let c0_651 : Index := 0#32
  ![v1136.toNat, 6, 0, 0]
def k0_off43 (i : grid0.Coords) (k0_t12 : Fin (k0_t12_loop i).trips) : Fin 4 → Nat :=
  let c3_i32_621 : BitVec 32 := 3#32
  let c0_i32_620 : BitVec 32 := 0#32
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1139 : Index := Scalar.indexCast v1098
  let c7 : Index := 7#32
  let c0_652 : Index := 0#32
  let c0_653 : Index := 0#32
  ![v1139.toNat, 7, 0, 0]
def k0_off44 (i : grid0.Coords) (k0_t12 : Fin (k0_t12_loop i).trips) : Fin 4 → Nat :=
  let c2_i32_592 : BitVec 32 := 2#32
  let c0_i32_203 : BitVec 32 := 0#32
  let c1_i32_205 : BitVec 32 := 1#32
  let arg23 : BitVec 32 := Scf.iv c0_i32_203 c1_i32_205 k0_t12
  let v1059 : BitVec 32 := Scalar.muli c2_i32_592 arg23
  let v1145 : Index := Scalar.indexCast v1059
  let c1_654 : Index := 1#32
  let c0_655 : Index := 0#32
  let c0_656 : Index := 0#32
  ![v1145.toNat, 1, 0, 0]
def k0_off45 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1152 : Index := Scalar.indexCast v1103
  let c0_658 : Index := 0#32
  let c0_659 : Index := 0#32
  let c0_660 : Index := 0#32
  ![v1152.toNat, 0, 0, 0]
def k0_off46 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1155 : Index := Scalar.indexCast v1103
  let c1_661 : Index := 1#32
  let c0_662 : Index := 0#32
  let c0_663 : Index := 0#32
  ![v1155.toNat, 1, 0, 0]
def k0_off47 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1158 : Index := Scalar.indexCast v1103
  let c2_664 : Index := 2#32
  let c0_665 : Index := 0#32
  let c0_666 : Index := 0#32
  ![v1158.toNat, 2, 0, 0]
def k0_off48 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1161 : Index := Scalar.indexCast v1103
  let c3_667 : Index := 3#32
  let c0_668 : Index := 0#32
  let c0_669 : Index := 0#32
  ![v1161.toNat, 3, 0, 0]
def k0_off49 (i : grid0.Coords) (k0_t12 : Fin (k0_t12_loop i).trips) : Fin 4 → Nat :=
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let v1167 : Index := Scalar.indexCast v1061
  let c0_670 : Index := 0#32
  let c0_671 : Index := 0#32
  let c0_672 : Index := 0#32
  ![v1167.toNat, 0, 0, 0]
def k0_off50 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1174 : Index := Scalar.indexCast v1103
  let c4_674 : Index := 4#32
  let c0_675 : Index := 0#32
  let c0_676 : Index := 0#32
  ![v1174.toNat, 4, 0, 0]
def k0_off51 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1177 : Index := Scalar.indexCast v1103
  let c5_677 : Index := 5#32
  let c0_678 : Index := 0#32
  let c0_679 : Index := 0#32
  ![v1177.toNat, 5, 0, 0]
def k0_off52 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1180 : Index := Scalar.indexCast v1103
  let c6_680 : Index := 6#32
  let c0_681 : Index := 0#32
  let c0_682 : Index := 0#32
  ![v1180.toNat, 6, 0, 0]
def k0_off53 (i : grid0.Coords) (k0_t12 : Fin (k0_t12_loop i).trips) : Fin 4 → Nat :=
  let c3_i32_625 : BitVec 32 := 3#32
  let c0_i32_624 : BitVec 32 := 0#32
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1183 : Index := Scalar.indexCast v1103
  let c7_683 : Index := 7#32
  let c0_684 : Index := 0#32
  let c0_685 : Index := 0#32
  ![v1183.toNat, 7, 0, 0]
def k0_off54 (i : grid0.Coords) (k0_t12 : Fin (k0_t12_loop i).trips) : Fin 4 → Nat :=
  let c2_i32_593 : BitVec 32 := 2#32
  let c0_i32_203 : BitVec 32 := 0#32
  let c1_i32_205 : BitVec 32 := 1#32
  let arg23 : BitVec 32 := Scf.iv c0_i32_203 c1_i32_205 k0_t12
  let v1060 : BitVec 32 := Scalar.muli c2_i32_593 arg23
  let c1_i32_594 : BitVec 32 := 1#32
  let v1061 : BitVec 32 := Scalar.addi v1060 c1_i32_594
  let v1189 : Index := Scalar.indexCast v1061
  let c1_686 : Index := 1#32
  let c0_687 : Index := 0#32
  let c0_688 : Index := 0#32
  ![v1189.toNat, 1, 0, 0]
@[reducible] def k0_t13_loop (i : grid0.Coords) : Scf.Loop 32 :=
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let v440 : BitVec 32 := Scalar.addi c0_i32_203 v439
  let c1_i32_206 : BitVec 32 := 1#32
  ⟨v443, v440, c1_i32_206⟩
def k0_mult8 (i : grid0.Coords) (k0_t13 : Fin (k0_t13_loop i).trips) : BitVec 32 :=
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c256_i32_595 : BitVec 32 := 256#32
  let v1062 : BitVec 32 := Scalar.muli v1059 c256_i32_595
  v1062
def k0_off55 (i : grid0.Coords) (k0_t13 : Fin (k0_t13_loop i).trips) : Fin 2 → Nat :=
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c256_i32_595 : BitVec 32 := 256#32
  let v1062 : BitVec 32 := Scalar.muli v1059 c256_i32_595
  let v1063 : BitVec 32 := v1062
  let v1064 : Index := Scalar.indexCast v1063
  let c0_596 : Index := 0#32
  ![v1064.toNat, 0]
def k0_mult9 (i : grid0.Coords) (k0_t13 : Fin (k0_t13_loop i).trips) : BitVec 32 :=
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  v1066
def k0_off56 (i : grid0.Coords) (k0_t13 : Fin (k0_t13_loop i).trips) : Fin 2 → Nat :=
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  let v1067 : BitVec 32 := v1066
  let v1068 : Index := Scalar.indexCast v1067
  let c0_598 : Index := 0#32
  ![v1068.toNat, 0]
def k0_off57 (i : grid0.Coords) (k0_t13 : Fin (k0_t13_loop i).trips) : Fin 3 → Nat :=
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let v1086 : Index := Scalar.indexCast v1059
  let c0_615 : Index := 0#32
  let c0_616 : Index := 0#32
  ![v1086.toNat, 0, 0]
def k0_off58 (i : grid0.Coords) (k0_t13 : Fin (k0_t13_loop i).trips) : Fin 3 → Nat :=
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let v1090 : Index := Scalar.indexCast v1061
  let c0_617 : Index := 0#32
  let c0_618 : Index := 0#32
  ![v1090.toNat, 0, 0]
def k0_off59 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1108 : Index := Scalar.indexCast v1098
  let c0_632 : Index := 0#32
  let c0_633 : Index := 0#32
  let c0_634 : Index := 0#32
  ![v1108.toNat, 0, 0, 0]
def k0_off60 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1111 : Index := Scalar.indexCast v1098
  let c1_635 : Index := 1#32
  let c0_636 : Index := 0#32
  let c0_637 : Index := 0#32
  ![v1111.toNat, 1, 0, 0]
def k0_off61 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1114 : Index := Scalar.indexCast v1098
  let c2 : Index := 2#32
  let c0_638 : Index := 0#32
  let c0_639 : Index := 0#32
  ![v1114.toNat, 2, 0, 0]
def k0_off62 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1117 : Index := Scalar.indexCast v1098
  let c3 : Index := 3#32
  let c0_640 : Index := 0#32
  let c0_641 : Index := 0#32
  ![v1117.toNat, 3, 0, 0]
def k0_off63 (i : grid0.Coords) (k0_t13 : Fin (k0_t13_loop i).trips) : Fin 4 → Nat :=
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let v1123 : Index := Scalar.indexCast v1059
  let c0_642 : Index := 0#32
  let c0_643 : Index := 0#32
  let c0_644 : Index := 0#32
  ![v1123.toNat, 0, 0, 0]
def k0_off64 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1130 : Index := Scalar.indexCast v1098
  let c4 : Index := 4#32
  let c0_646 : Index := 0#32
  let c0_647 : Index := 0#32
  ![v1130.toNat, 4, 0, 0]
def k0_off65 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1133 : Index := Scalar.indexCast v1098
  let c5 : Index := 5#32
  let c0_648 : Index := 0#32
  let c0_649 : Index := 0#32
  ![v1133.toNat, 5, 0, 0]
def k0_off66 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1136 : Index := Scalar.indexCast v1098
  let c6 : Index := 6#32
  let c0_650 : Index := 0#32
  let c0_651 : Index := 0#32
  ![v1136.toNat, 6, 0, 0]
def k0_off67 (i : grid0.Coords) (k0_t13 : Fin (k0_t13_loop i).trips) : Fin 4 → Nat :=
  let c3_i32_621 : BitVec 32 := 3#32
  let c0_i32_620 : BitVec 32 := 0#32
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let c2_i32_619 : BitVec 32 := 2#32
  let v1094 : BitVec 32 := Scalar.muli v1059 c2_i32_619
  let c2_i32 : BitVec 32 := 2#32
  let v269 : BitVec 32 := Scalar.muli arg1 c2_i32
  let c0_i32_122 : BitVec 32 := 0#32
  let v270 : BitVec 32 := Scalar.addi v269 c0_i32_122
  let v1095 : BitVec 32 := Scalar.subi v1094 v270
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1139 : Index := Scalar.indexCast v1098
  let c7 : Index := 7#32
  let c0_652 : Index := 0#32
  let c0_653 : Index := 0#32
  ![v1139.toNat, 7, 0, 0]
def k0_off68 (i : grid0.Coords) (k0_t13 : Fin (k0_t13_loop i).trips) : Fin 4 → Nat :=
  let c2_i32_592 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1059 : BitVec 32 := Scalar.muli c2_i32_592 arg23
  let v1145 : Index := Scalar.indexCast v1059
  let c1_654 : Index := 1#32
  let c0_655 : Index := 0#32
  let c0_656 : Index := 0#32
  ![v1145.toNat, 1, 0, 0]
def k0_off69 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1152 : Index := Scalar.indexCast v1103
  let c0_658 : Index := 0#32
  let c0_659 : Index := 0#32
  let c0_660 : Index := 0#32
  ![v1152.toNat, 0, 0, 0]
def k0_off70 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1155 : Index := Scalar.indexCast v1103
  let c1_661 : Index := 1#32
  let c0_662 : Index := 0#32
  let c0_663 : Index := 0#32
  ![v1155.toNat, 1, 0, 0]
def k0_off71 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1158 : Index := Scalar.indexCast v1103
  let c2_664 : Index := 2#32
  let c0_665 : Index := 0#32
  let c0_666 : Index := 0#32
  ![v1158.toNat, 2, 0, 0]
def k0_off72 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1161 : Index := Scalar.indexCast v1103
  let c3_667 : Index := 3#32
  let c0_668 : Index := 0#32
  let c0_669 : Index := 0#32
  ![v1161.toNat, 3, 0, 0]
def k0_off73 (i : grid0.Coords) (k0_t13 : Fin (k0_t13_loop i).trips) : Fin 4 → Nat :=
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let v1167 : Index := Scalar.indexCast v1061
  let c0_670 : Index := 0#32
  let c0_671 : Index := 0#32
  let c0_672 : Index := 0#32
  ![v1167.toNat, 0, 0, 0]
def k0_off74 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1174 : Index := Scalar.indexCast v1103
  let c4_674 : Index := 4#32
  let c0_675 : Index := 0#32
  let c0_676 : Index := 0#32
  ![v1174.toNat, 4, 0, 0]
def k0_off75 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1177 : Index := Scalar.indexCast v1103
  let c5_677 : Index := 5#32
  let c0_678 : Index := 0#32
  let c0_679 : Index := 0#32
  ![v1177.toNat, 5, 0, 0]
def k0_off76 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1180 : Index := Scalar.indexCast v1103
  let c6_680 : Index := 6#32
  let c0_681 : Index := 0#32
  let c0_682 : Index := 0#32
  ![v1180.toNat, 6, 0, 0]
def k0_off77 (i : grid0.Coords) (k0_t13 : Fin (k0_t13_loop i).trips) : Fin 4 → Nat :=
  let c3_i32_625 : BitVec 32 := 3#32
  let c0_i32_624 : BitVec 32 := 0#32
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32 : BitVec 32 := 2#32
  let v269 : BitVec 32 := Scalar.muli arg1 c2_i32
  let c0_i32_122 : BitVec 32 := 0#32
  let v270 : BitVec 32 := Scalar.addi v269 c0_i32_122
  let v1100 : BitVec 32 := Scalar.subi v1099 v270
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1183 : Index := Scalar.indexCast v1103
  let c7_683 : Index := 7#32
  let c0_684 : Index := 0#32
  let c0_685 : Index := 0#32
  ![v1183.toNat, 7, 0, 0]
def k0_off78 (i : grid0.Coords) (k0_t13 : Fin (k0_t13_loop i).trips) : Fin 4 → Nat :=
  let c2_i32_593 : BitVec 32 := 2#32
  let c0_i32_203 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_201 : BitVec 32 := 1#32
  let v438 : BitVec 32 := Scalar.shrui v18 c1_i32_201
  let v439 : BitVec 32 := Scalar.subi v438 c0_i32_203
  let c1_i32_204 : BitVec 32 := 1#32
  let v441 : BitVec 32 := Scalar.divsi v439 c1_i32_204
  let v442 : BitVec 32 := Scalar.muli v441 c1_i32_204
  let v443 : BitVec 32 := Scalar.addi c0_i32_203 v442
  let c1_i32_206 : BitVec 32 := 1#32
  let arg23 : BitVec 32 := Scf.iv v443 c1_i32_206 k0_t13
  let v1060 : BitVec 32 := Scalar.muli c2_i32_593 arg23
  let c1_i32_594 : BitVec 32 := 1#32
  let v1061 : BitVec 32 := Scalar.addi v1060 c1_i32_594
  let v1189 : Index := Scalar.indexCast v1061
  let c1_686 : Index := 1#32
  let c0_687 : Index := 0#32
  let c0_688 : Index := 0#32
  ![v1189.toNat, 1, 0, 0]
def k0_cond7 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_207 : BitVec 32 := 1#32
  let v444 : BitVec 32 := Scalar.andi v18 c1_i32_207
  let c1_i32_208 : BitVec 32 := 1#32
  let v445 : BitVec 1 := Scalar.cmpi .eq v444 c1_i32_208
  let v446 : BitVec 32 := Scalar.extui v445
  let c0_i32_209 : BitVec 32 := 0#32
  let v447 : BitVec 1 := Scalar.cmpi .ne v446 c0_i32_209
  v447

def k0_mult10 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c256_i32_593 : BitVec 32 := 256#32
  let v1060 : BitVec 32 := Scalar.muli v1059 c256_i32_593
  v1060
def k0_off79 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c256_i32_593 : BitVec 32 := 256#32
  let v1060 : BitVec 32 := Scalar.muli v1059 c256_i32_593
  let v1061 : BitVec 32 := v1060
  let v1062 : Index := Scalar.indexCast v1061
  let c0_594 : Index := 0#32
  ![v1062.toNat, 0]
def k0_off80 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1072 : Index := Scalar.indexCast v1059
  let c0_603 : Index := 0#32
  let c0_604 : Index := 0#32
  ![v1072.toNat, 0, 0]
def k0_off81 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1085 : Index := Scalar.indexCast v1080
  let c0_614 : Index := 0#32
  let c0_615 : Index := 0#32
  let c0_616 : Index := 0#32
  ![v1085.toNat, 0, 0, 0]
def k0_off82 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1088 : Index := Scalar.indexCast v1080
  let c1_617 : Index := 1#32
  let c0_618 : Index := 0#32
  let c0_619 : Index := 0#32
  ![v1088.toNat, 1, 0, 0]
def k0_off83 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1091 : Index := Scalar.indexCast v1080
  let c2 : Index := 2#32
  let c0_620 : Index := 0#32
  let c0_621 : Index := 0#32
  ![v1091.toNat, 2, 0, 0]
def k0_off84 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1094 : Index := Scalar.indexCast v1080
  let c3 : Index := 3#32
  let c0_622 : Index := 0#32
  let c0_623 : Index := 0#32
  ![v1094.toNat, 3, 0, 0]
def k0_off85 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1100 : Index := Scalar.indexCast v1059
  let c0_624 : Index := 0#32
  let c0_625 : Index := 0#32
  let c0_626 : Index := 0#32
  ![v1100.toNat, 0, 0, 0]
def k0_off86 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1107 : Index := Scalar.indexCast v1080
  let c4 : Index := 4#32
  let c0_628 : Index := 0#32
  let c0_629 : Index := 0#32
  ![v1107.toNat, 4, 0, 0]
def k0_off87 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1110 : Index := Scalar.indexCast v1080
  let c5 : Index := 5#32
  let c0_630 : Index := 0#32
  let c0_631 : Index := 0#32
  ![v1110.toNat, 5, 0, 0]
def k0_off88 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1113 : Index := Scalar.indexCast v1080
  let c6 : Index := 6#32
  let c0_632 : Index := 0#32
  let c0_633 : Index := 0#32
  ![v1113.toNat, 6, 0, 0]
def k0_off89 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32 : BitVec 32 := 2#32
  let v269 : BitVec 32 := Scalar.muli arg1 c2_i32
  let c0_i32_122 : BitVec 32 := 0#32
  let v270 : BitVec 32 := Scalar.addi v269 c0_i32_122
  let v1077 : BitVec 32 := Scalar.subi v1076 v270
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1116 : Index := Scalar.indexCast v1080
  let c7 : Index := 7#32
  let c0_634 : Index := 0#32
  let c0_635 : Index := 0#32
  ![v1116.toNat, 7, 0, 0]
def k0_off90 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1122 : Index := Scalar.indexCast v1059
  let c1_636 : Index := 1#32
  let c0_637 : Index := 0#32
  let c0_638 : Index := 0#32
  ![v1122.toNat, 1, 0, 0]
@[reducible] def k0_t14_loop (i : grid0.Coords) : Scf.Loop 32 :=
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_232 : BitVec 32 := 1#32
  ⟨c0_i32_230, v475, c1_i32_232⟩
def k0_off91 (i : grid0.Coords) (k0_t14 : Fin (k0_t14_loop i).trips) : Fin 4 → Nat :=
  let c2_i32_592 : BitVec 32 := 2#32
  let c0_i32_230 : BitVec 32 := 0#32
  let c1_i32_232 : BitVec 32 := 1#32
  let arg23 : BitVec 32 := Scf.iv c0_i32_230 c1_i32_232 k0_t14
  let v1059 : BitVec 32 := Scalar.muli c2_i32_592 arg23
  let v1062 : Index := Scalar.indexCast v1059
  let c0_595 : Index := 0#32
  let c0_596 : Index := 0#32
  let c0_597 : Index := 0#32
  ![v1062.toNat, 0, 0, 0]
def k0_off92 (i : grid0.Coords) (k0_t14 : Fin (k0_t14_loop i).trips) : Fin 4 → Nat :=
  let c2_i32_592 : BitVec 32 := 2#32
  let c0_i32_230 : BitVec 32 := 0#32
  let c1_i32_232 : BitVec 32 := 1#32
  let arg23 : BitVec 32 := Scf.iv c0_i32_230 c1_i32_232 k0_t14
  let v1059 : BitVec 32 := Scalar.muli c2_i32_592 arg23
  let v1071 : Index := Scalar.indexCast v1059
  let c1_601 : Index := 1#32
  let c0_602 : Index := 0#32
  let c0_603 : Index := 0#32
  ![v1071.toNat, 1, 0, 0]
def k0_off93 (i : grid0.Coords) (k0_t14 : Fin (k0_t14_loop i).trips) : Fin 4 → Nat :=
  let c2_i32_593 : BitVec 32 := 2#32
  let c0_i32_230 : BitVec 32 := 0#32
  let c1_i32_232 : BitVec 32 := 1#32
  let arg23 : BitVec 32 := Scf.iv c0_i32_230 c1_i32_232 k0_t14
  let v1060 : BitVec 32 := Scalar.muli c2_i32_593 arg23
  let c1_i32_594 : BitVec 32 := 1#32
  let v1061 : BitVec 32 := Scalar.addi v1060 c1_i32_594
  let v1080 : Index := Scalar.indexCast v1061
  let c0_607 : Index := 0#32
  let c0_608 : Index := 0#32
  let c0_609 : Index := 0#32
  ![v1080.toNat, 0, 0, 0]
def k0_off94 (i : grid0.Coords) (k0_t14 : Fin (k0_t14_loop i).trips) : Fin 4 → Nat :=
  let c2_i32_593 : BitVec 32 := 2#32
  let c0_i32_230 : BitVec 32 := 0#32
  let c1_i32_232 : BitVec 32 := 1#32
  let arg23 : BitVec 32 := Scf.iv c0_i32_230 c1_i32_232 k0_t14
  let v1060 : BitVec 32 := Scalar.muli c2_i32_593 arg23
  let c1_i32_594 : BitVec 32 := 1#32
  let v1061 : BitVec 32 := Scalar.addi v1060 c1_i32_594
  let v1089 : Index := Scalar.indexCast v1061
  let c1_613 : Index := 1#32
  let c0_614 : Index := 0#32
  let c0_615 : Index := 0#32
  ![v1089.toNat, 1, 0, 0]
def k0_off95 (i : grid0.Coords) (k0_t14 : Fin (k0_t14_loop i).trips) : Fin 4 → Nat :=
  let c2_i32_592 : BitVec 32 := 2#32
  let c0_i32_230 : BitVec 32 := 0#32
  let c1_i32_232 : BitVec 32 := 1#32
  let arg23 : BitVec 32 := Scf.iv c0_i32_230 c1_i32_232 k0_t14
  let v1059 : BitVec 32 := Scalar.muli c2_i32_592 arg23
  let v1098 : Index := Scalar.indexCast v1059
  let c0_619 : Index := 0#32
  let c0_620 : Index := 0#32
  let c0_621 : Index := 0#32
  ![v1098.toNat, 0, 0, 0]
def k0_off96 (i : grid0.Coords) (k0_t14 : Fin (k0_t14_loop i).trips) : Fin 4 → Nat :=
  let c2_i32_592 : BitVec 32 := 2#32
  let c0_i32_230 : BitVec 32 := 0#32
  let c1_i32_232 : BitVec 32 := 1#32
  let arg23 : BitVec 32 := Scf.iv c0_i32_230 c1_i32_232 k0_t14
  let v1059 : BitVec 32 := Scalar.muli c2_i32_592 arg23
  let v1102 : Index := Scalar.indexCast v1059
  let c1_623 : Index := 1#32
  let c0_624 : Index := 0#32
  let c0_625 : Index := 0#32
  ![v1102.toNat, 1, 0, 0]
def k0_off97 (i : grid0.Coords) (k0_t14 : Fin (k0_t14_loop i).trips) : Fin 4 → Nat :=
  let c2_i32_593 : BitVec 32 := 2#32
  let c0_i32_230 : BitVec 32 := 0#32
  let c1_i32_232 : BitVec 32 := 1#32
  let arg23 : BitVec 32 := Scf.iv c0_i32_230 c1_i32_232 k0_t14
  let v1060 : BitVec 32 := Scalar.muli c2_i32_593 arg23
  let c1_i32_594 : BitVec 32 := 1#32
  let v1061 : BitVec 32 := Scalar.addi v1060 c1_i32_594
  let v1106 : Index := Scalar.indexCast v1061
  let c0_627 : Index := 0#32
  let c0_628 : Index := 0#32
  let c0_629 : Index := 0#32
  ![v1106.toNat, 0, 0, 0]
def k0_off98 (i : grid0.Coords) (k0_t14 : Fin (k0_t14_loop i).trips) : Fin 4 → Nat :=
  let c2_i32_593 : BitVec 32 := 2#32
  let c0_i32_230 : BitVec 32 := 0#32
  let c1_i32_232 : BitVec 32 := 1#32
  let arg23 : BitVec 32 := Scf.iv c0_i32_230 c1_i32_232 k0_t14
  let v1060 : BitVec 32 := Scalar.muli c2_i32_593 arg23
  let c1_i32_594 : BitVec 32 := 1#32
  let v1061 : BitVec 32 := Scalar.addi v1060 c1_i32_594
  let v1110 : Index := Scalar.indexCast v1061
  let c1_631 : Index := 1#32
  let c0_632 : Index := 0#32
  let c0_633 : Index := 0#32
  ![v1110.toNat, 1, 0, 0]
@[reducible] def k0_t15_loop (i : grid0.Coords) : Scf.Loop 32 :=
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let v472 : BitVec 32 := Scalar.addi c0_i32_230 v471
  let c1_i32_233 : BitVec 32 := 1#32
  ⟨v475, v472, c1_i32_233⟩
def k0_off99 (i : grid0.Coords) (k0_t15 : Fin (k0_t15_loop i).trips) : Fin 4 → Nat :=
  let c2_i32_592 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1059 : BitVec 32 := Scalar.muli c2_i32_592 arg23
  let v1062 : Index := Scalar.indexCast v1059
  let c0_595 : Index := 0#32
  let c0_596 : Index := 0#32
  let c0_597 : Index := 0#32
  ![v1062.toNat, 0, 0, 0]
def k0_off100 (i : grid0.Coords) (k0_t15 : Fin (k0_t15_loop i).trips) : Fin 4 → Nat :=
  let c2_i32_592 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1059 : BitVec 32 := Scalar.muli c2_i32_592 arg23
  let v1071 : Index := Scalar.indexCast v1059
  let c1_601 : Index := 1#32
  let c0_602 : Index := 0#32
  let c0_603 : Index := 0#32
  ![v1071.toNat, 1, 0, 0]
def k0_off101 (i : grid0.Coords) (k0_t15 : Fin (k0_t15_loop i).trips) : Fin 4 → Nat :=
  let c2_i32_593 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1060 : BitVec 32 := Scalar.muli c2_i32_593 arg23
  let c1_i32_594 : BitVec 32 := 1#32
  let v1061 : BitVec 32 := Scalar.addi v1060 c1_i32_594
  let v1080 : Index := Scalar.indexCast v1061
  let c0_607 : Index := 0#32
  let c0_608 : Index := 0#32
  let c0_609 : Index := 0#32
  ![v1080.toNat, 0, 0, 0]
def k0_off102 (i : grid0.Coords) (k0_t15 : Fin (k0_t15_loop i).trips) : Fin 4 → Nat :=
  let c2_i32_593 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1060 : BitVec 32 := Scalar.muli c2_i32_593 arg23
  let c1_i32_594 : BitVec 32 := 1#32
  let v1061 : BitVec 32 := Scalar.addi v1060 c1_i32_594
  let v1089 : Index := Scalar.indexCast v1061
  let c1_613 : Index := 1#32
  let c0_614 : Index := 0#32
  let c0_615 : Index := 0#32
  ![v1089.toNat, 1, 0, 0]
def k0_off103 (i : grid0.Coords) (k0_t15 : Fin (k0_t15_loop i).trips) : Fin 4 → Nat :=
  let c2_i32_592 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1059 : BitVec 32 := Scalar.muli c2_i32_592 arg23
  let v1098 : Index := Scalar.indexCast v1059
  let c0_619 : Index := 0#32
  let c0_620 : Index := 0#32
  let c0_621 : Index := 0#32
  ![v1098.toNat, 0, 0, 0]
def k0_off104 (i : grid0.Coords) (k0_t15 : Fin (k0_t15_loop i).trips) : Fin 4 → Nat :=
  let c2_i32_592 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1059 : BitVec 32 := Scalar.muli c2_i32_592 arg23
  let v1102 : Index := Scalar.indexCast v1059
  let c1_623 : Index := 1#32
  let c0_624 : Index := 0#32
  let c0_625 : Index := 0#32
  ![v1102.toNat, 1, 0, 0]
def k0_off105 (i : grid0.Coords) (k0_t15 : Fin (k0_t15_loop i).trips) : Fin 4 → Nat :=
  let c2_i32_593 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1060 : BitVec 32 := Scalar.muli c2_i32_593 arg23
  let c1_i32_594 : BitVec 32 := 1#32
  let v1061 : BitVec 32 := Scalar.addi v1060 c1_i32_594
  let v1106 : Index := Scalar.indexCast v1061
  let c0_627 : Index := 0#32
  let c0_628 : Index := 0#32
  let c0_629 : Index := 0#32
  ![v1106.toNat, 0, 0, 0]
def k0_off106 (i : grid0.Coords) (k0_t15 : Fin (k0_t15_loop i).trips) : Fin 4 → Nat :=
  let c2_i32_593 : BitVec 32 := 2#32
  let c0_i32_230 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_228 : BitVec 32 := 1#32
  let v470 : BitVec 32 := Scalar.shrui v18 c1_i32_228
  let v471 : BitVec 32 := Scalar.subi v470 c0_i32_230
  let c1_i32_231 : BitVec 32 := 1#32
  let v473 : BitVec 32 := Scalar.divsi v471 c1_i32_231
  let v474 : BitVec 32 := Scalar.muli v473 c1_i32_231
  let v475 : BitVec 32 := Scalar.addi c0_i32_230 v474
  let c1_i32_233 : BitVec 32 := 1#32
  let arg23 : BitVec 32 := Scf.iv v475 c1_i32_233 k0_t15
  let v1060 : BitVec 32 := Scalar.muli c2_i32_593 arg23
  let c1_i32_594 : BitVec 32 := 1#32
  let v1061 : BitVec 32 := Scalar.addi v1060 c1_i32_594
  let v1110 : Index := Scalar.indexCast v1061
  let c1_631 : Index := 1#32
  let c0_632 : Index := 0#32
  let c0_633 : Index := 0#32
  ![v1110.toNat, 1, 0, 0]
def k0_cond8 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_234 : BitVec 32 := 1#32
  let v476 : BitVec 32 := Scalar.andi v18 c1_i32_234
  let c1_i32_235 : BitVec 32 := 1#32
  let v477 : BitVec 1 := Scalar.cmpi .eq v476 c1_i32_235
  let v478 : BitVec 32 := Scalar.extui v477
  let c0_i32_236 : BitVec 32 := 0#32
  let v479 : BitVec 1 := Scalar.cmpi .ne v478 c0_i32_236
  v479

def k0_off107 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1060 : Index := Scalar.indexCast v1059
  let c0_593 : Index := 0#32
  let c0_594 : Index := 0#32
  let c0_595 : Index := 0#32
  ![v1060.toNat, 0, 0, 0]
def k0_off108 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1069 : Index := Scalar.indexCast v1059
  let c1_599 : Index := 1#32
  let c0_600 : Index := 0#32
  let c0_601 : Index := 0#32
  ![v1069.toNat, 1, 0, 0]
def k0_off109 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1078 : Index := Scalar.indexCast v1059
  let c0_605 : Index := 0#32
  let c0_606 : Index := 0#32
  let c0_607 : Index := 0#32
  ![v1078.toNat, 0, 0, 0]
def k0_off110 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1082 : Index := Scalar.indexCast v1059
  let c1_609 : Index := 1#32
  let c0_610 : Index := 0#32
  let c0_611 : Index := 0#32
  ![v1082.toNat, 1, 0, 0]
@[reducible] def k0_t16_loop (i : grid0.Coords) : Scf.Loop 32 :=
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_440 : BitVec 32 := 1#32
  ⟨c0_i32_438, v838, c1_i32_440⟩
def k0_mult11 (i : grid0.Coords) (k0_t16 : Fin (k0_t16_loop i).trips) : BitVec 32 :=
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c256_i32_595 : BitVec 32 := 256#32
  let v1062 : BitVec 32 := Scalar.muli v1059 c256_i32_595
  v1062
def k0_off111 (i : grid0.Coords) (k0_t16 : Fin (k0_t16_loop i).trips) : Fin 2 → Nat :=
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c256_i32_595 : BitVec 32 := 256#32
  let v1062 : BitVec 32 := Scalar.muli v1059 c256_i32_595
  let v1063 : BitVec 32 := v1062
  let v1064 : Index := Scalar.indexCast v1063
  let c0_596 : Index := 0#32
  ![v1064.toNat, 0]
def k0_mult12 (i : grid0.Coords) (k0_t16 : Fin (k0_t16_loop i).trips) : BitVec 32 :=
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  v1066
def k0_off112 (i : grid0.Coords) (k0_t16 : Fin (k0_t16_loop i).trips) : Fin 2 → Nat :=
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  let v1067 : BitVec 32 := v1066
  let v1068 : Index := Scalar.indexCast v1067
  let c0_598 : Index := 0#32
  ![v1068.toNat, 0]
def k0_off113 (i : grid0.Coords) (k0_t16 : Fin (k0_t16_loop i).trips) : Fin 3 → Nat :=
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let v1086 : Index := Scalar.indexCast v1059
  let c0_615 : Index := 0#32
  let c128_616 : Index := 128#32
  ![v1086.toNat, 0, 128]
def k0_off114 (i : grid0.Coords) (k0_t16 : Fin (k0_t16_loop i).trips) : Fin 3 → Nat :=
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let v1090 : Index := Scalar.indexCast v1061
  let c0_617 : Index := 0#32
  let c128_618 : Index := 128#32
  ![v1090.toNat, 0, 128]
def k0_off115 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1108 : Index := Scalar.indexCast v1098
  let c0_632 : Index := 0#32
  let c0_633 : Index := 0#32
  let c0_634 : Index := 0#32
  ![v1108.toNat, 0, 0, 0]
def k0_off116 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1111 : Index := Scalar.indexCast v1098
  let c1_635 : Index := 1#32
  let c0_636 : Index := 0#32
  let c0_637 : Index := 0#32
  ![v1111.toNat, 1, 0, 0]
def k0_off117 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1114 : Index := Scalar.indexCast v1098
  let c2 : Index := 2#32
  let c0_638 : Index := 0#32
  let c0_639 : Index := 0#32
  ![v1114.toNat, 2, 0, 0]
def k0_off118 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1117 : Index := Scalar.indexCast v1098
  let c3 : Index := 3#32
  let c0_640 : Index := 0#32
  let c0_641 : Index := 0#32
  ![v1117.toNat, 3, 0, 0]
def k0_off119 (i : grid0.Coords) (k0_t16 : Fin (k0_t16_loop i).trips) : Fin 4 → Nat :=
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let v1123 : Index := Scalar.indexCast v1059
  let c0_642 : Index := 0#32
  let c0_643 : Index := 0#32
  let c0_644 : Index := 0#32
  ![v1123.toNat, 0, 0, 0]
def k0_off120 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1130 : Index := Scalar.indexCast v1098
  let c4 : Index := 4#32
  let c0_646 : Index := 0#32
  let c0_647 : Index := 0#32
  ![v1130.toNat, 4, 0, 0]
def k0_off121 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1133 : Index := Scalar.indexCast v1098
  let c5 : Index := 5#32
  let c0_648 : Index := 0#32
  let c0_649 : Index := 0#32
  ![v1133.toNat, 5, 0, 0]
def k0_off122 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1136 : Index := Scalar.indexCast v1098
  let c6 : Index := 6#32
  let c0_650 : Index := 0#32
  let c0_651 : Index := 0#32
  ![v1136.toNat, 6, 0, 0]
def k0_off123 (i : grid0.Coords) (k0_t16 : Fin (k0_t16_loop i).trips) : Fin 4 → Nat :=
  let c3_i32_621 : BitVec 32 := 3#32
  let c0_i32_620 : BitVec 32 := 0#32
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let c2_i32_619 : BitVec 32 := 2#32
  let v1094 : BitVec 32 := Scalar.muli v1059 c2_i32_619
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1139 : Index := Scalar.indexCast v1098
  let c7 : Index := 7#32
  let c0_652 : Index := 0#32
  let c0_653 : Index := 0#32
  ![v1139.toNat, 7, 0, 0]
def k0_off124 (i : grid0.Coords) (k0_t16 : Fin (k0_t16_loop i).trips) : Fin 4 → Nat :=
  let c2_i32_592 : BitVec 32 := 2#32
  let c0_i32_438 : BitVec 32 := 0#32
  let c1_i32_440 : BitVec 32 := 1#32
  let arg23 : BitVec 32 := Scf.iv c0_i32_438 c1_i32_440 k0_t16
  let v1059 : BitVec 32 := Scalar.muli c2_i32_592 arg23
  let v1145 : Index := Scalar.indexCast v1059
  let c1_654 : Index := 1#32
  let c0_655 : Index := 0#32
  let c0_656 : Index := 0#32
  ![v1145.toNat, 1, 0, 0]
def k0_off125 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1152 : Index := Scalar.indexCast v1103
  let c0_658 : Index := 0#32
  let c0_659 : Index := 0#32
  let c0_660 : Index := 0#32
  ![v1152.toNat, 0, 0, 0]
def k0_off126 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1155 : Index := Scalar.indexCast v1103
  let c1_661 : Index := 1#32
  let c0_662 : Index := 0#32
  let c0_663 : Index := 0#32
  ![v1155.toNat, 1, 0, 0]
def k0_off127 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1158 : Index := Scalar.indexCast v1103
  let c2_664 : Index := 2#32
  let c0_665 : Index := 0#32
  let c0_666 : Index := 0#32
  ![v1158.toNat, 2, 0, 0]
def k0_off128 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1161 : Index := Scalar.indexCast v1103
  let c3_667 : Index := 3#32
  let c0_668 : Index := 0#32
  let c0_669 : Index := 0#32
  ![v1161.toNat, 3, 0, 0]
def k0_off129 (i : grid0.Coords) (k0_t16 : Fin (k0_t16_loop i).trips) : Fin 4 → Nat :=
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let v1167 : Index := Scalar.indexCast v1061
  let c0_670 : Index := 0#32
  let c0_671 : Index := 0#32
  let c0_672 : Index := 0#32
  ![v1167.toNat, 0, 0, 0]
def k0_off130 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1174 : Index := Scalar.indexCast v1103
  let c4_674 : Index := 4#32
  let c0_675 : Index := 0#32
  let c0_676 : Index := 0#32
  ![v1174.toNat, 4, 0, 0]
def k0_off131 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1177 : Index := Scalar.indexCast v1103
  let c5_677 : Index := 5#32
  let c0_678 : Index := 0#32
  let c0_679 : Index := 0#32
  ![v1177.toNat, 5, 0, 0]
def k0_off132 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1180 : Index := Scalar.indexCast v1103
  let c6_680 : Index := 6#32
  let c0_681 : Index := 0#32
  let c0_682 : Index := 0#32
  ![v1180.toNat, 6, 0, 0]
def k0_off133 (i : grid0.Coords) (k0_t16 : Fin (k0_t16_loop i).trips) : Fin 4 → Nat :=
  let c3_i32_625 : BitVec 32 := 3#32
  let c0_i32_624 : BitVec 32 := 0#32
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let arg1 : BitVec 32 := BitVec.ofNat 32 (i 1).val
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1183 : Index := Scalar.indexCast v1103
  let c7_683 : Index := 7#32
  let c0_684 : Index := 0#32
  let c0_685 : Index := 0#32
  ![v1183.toNat, 7, 0, 0]
def k0_off134 (i : grid0.Coords) (k0_t16 : Fin (k0_t16_loop i).trips) : Fin 4 → Nat :=
  let c2_i32_593 : BitVec 32 := 2#32
  let c0_i32_438 : BitVec 32 := 0#32
  let c1_i32_440 : BitVec 32 := 1#32
  let arg23 : BitVec 32 := Scf.iv c0_i32_438 c1_i32_440 k0_t16
  let v1060 : BitVec 32 := Scalar.muli c2_i32_593 arg23
  let c1_i32_594 : BitVec 32 := 1#32
  let v1061 : BitVec 32 := Scalar.addi v1060 c1_i32_594
  let v1189 : Index := Scalar.indexCast v1061
  let c1_686 : Index := 1#32
  let c0_687 : Index := 0#32
  let c0_688 : Index := 0#32
  ![v1189.toNat, 1, 0, 0]
@[reducible] def k0_t17_loop (i : grid0.Coords) : Scf.Loop 32 :=
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let v835 : BitVec 32 := Scalar.addi c0_i32_438 v834
  let c1_i32_441 : BitVec 32 := 1#32
  ⟨v838, v835, c1_i32_441⟩
def k0_mult13 (i : grid0.Coords) (k0_t17 : Fin (k0_t17_loop i).trips) : BitVec 32 :=
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c256_i32_595 : BitVec 32 := 256#32
  let v1062 : BitVec 32 := Scalar.muli v1059 c256_i32_595
  v1062
def k0_off135 (i : grid0.Coords) (k0_t17 : Fin (k0_t17_loop i).trips) : Fin 2 → Nat :=
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c256_i32_595 : BitVec 32 := 256#32
  let v1062 : BitVec 32 := Scalar.muli v1059 c256_i32_595
  let v1063 : BitVec 32 := v1062
  let v1064 : Index := Scalar.indexCast v1063
  let c0_596 : Index := 0#32
  ![v1064.toNat, 0]
def k0_mult14 (i : grid0.Coords) (k0_t17 : Fin (k0_t17_loop i).trips) : BitVec 32 :=
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  v1066
def k0_off136 (i : grid0.Coords) (k0_t17 : Fin (k0_t17_loop i).trips) : Fin 2 → Nat :=
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c256_i32_597 : BitVec 32 := 256#32
  let v1066 : BitVec 32 := Scalar.muli v1061 c256_i32_597
  let v1067 : BitVec 32 := v1066
  let v1068 : Index := Scalar.indexCast v1067
  let c0_598 : Index := 0#32
  ![v1068.toNat, 0]
def k0_off137 (i : grid0.Coords) (k0_t17 : Fin (k0_t17_loop i).trips) : Fin 3 → Nat :=
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let v1086 : Index := Scalar.indexCast v1059
  let c0_615 : Index := 0#32
  let c128_616 : Index := 128#32
  ![v1086.toNat, 0, 128]
def k0_off138 (i : grid0.Coords) (k0_t17 : Fin (k0_t17_loop i).trips) : Fin 3 → Nat :=
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let v1090 : Index := Scalar.indexCast v1061
  let c0_617 : Index := 0#32
  let c128_618 : Index := 128#32
  ![v1090.toNat, 0, 128]
def k0_off139 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1108 : Index := Scalar.indexCast v1098
  let c0_632 : Index := 0#32
  let c0_633 : Index := 0#32
  let c0_634 : Index := 0#32
  ![v1108.toNat, 0, 0, 0]
def k0_off140 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1111 : Index := Scalar.indexCast v1098
  let c1_635 : Index := 1#32
  let c0_636 : Index := 0#32
  let c0_637 : Index := 0#32
  ![v1111.toNat, 1, 0, 0]
def k0_off141 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1114 : Index := Scalar.indexCast v1098
  let c2 : Index := 2#32
  let c0_638 : Index := 0#32
  let c0_639 : Index := 0#32
  ![v1114.toNat, 2, 0, 0]
def k0_off142 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1117 : Index := Scalar.indexCast v1098
  let c3 : Index := 3#32
  let c0_640 : Index := 0#32
  let c0_641 : Index := 0#32
  ![v1117.toNat, 3, 0, 0]
def k0_off143 (i : grid0.Coords) (k0_t17 : Fin (k0_t17_loop i).trips) : Fin 4 → Nat :=
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let v1123 : Index := Scalar.indexCast v1059
  let c0_642 : Index := 0#32
  let c0_643 : Index := 0#32
  let c0_644 : Index := 0#32
  ![v1123.toNat, 0, 0, 0]
def k0_off144 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1130 : Index := Scalar.indexCast v1098
  let c4 : Index := 4#32
  let c0_646 : Index := 0#32
  let c0_647 : Index := 0#32
  ![v1130.toNat, 4, 0, 0]
def k0_off145 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1133 : Index := Scalar.indexCast v1098
  let c5 : Index := 5#32
  let c0_648 : Index := 0#32
  let c0_649 : Index := 0#32
  ![v1133.toNat, 5, 0, 0]
def k0_off146 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1136 : Index := Scalar.indexCast v1098
  let c6 : Index := 6#32
  let c0_650 : Index := 0#32
  let c0_651 : Index := 0#32
  ![v1136.toNat, 6, 0, 0]
def k0_off147 (i : grid0.Coords) (k0_t17 : Fin (k0_t17_loop i).trips) : Fin 4 → Nat :=
  let c3_i32_621 : BitVec 32 := 3#32
  let c0_i32_620 : BitVec 32 := 0#32
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let c2_i32_619 : BitVec 32 := 2#32
  let v1094 : BitVec 32 := Scalar.muli v1059 c2_i32_619
  let c2_i32_355 : BitVec 32 := 2#32
  let v664 : BitVec 32 := Scalar.muli arg1 c2_i32_355
  let c1_i32_356 : BitVec 32 := 1#32
  let v665 : BitVec 32 := Scalar.addi v664 c1_i32_356
  let v1095 : BitVec 32 := Scalar.subi v1094 v665
  let c3_i32 : BitVec 32 := 3#32
  let v1096 : BitVec 32 := Scalar.addi v1095 c3_i32
  let v1097 : BitVec 32 := Scalar.maxsi c0_i32_620 v1096
  let v1098 : BitVec 32 := Scalar.minsi c3_i32_621 v1097
  let v1139 : Index := Scalar.indexCast v1098
  let c7 : Index := 7#32
  let c0_652 : Index := 0#32
  let c0_653 : Index := 0#32
  ![v1139.toNat, 7, 0, 0]
def k0_off148 (i : grid0.Coords) (k0_t17 : Fin (k0_t17_loop i).trips) : Fin 4 → Nat :=
  let c2_i32_592 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1059 : BitVec 32 := Scalar.muli c2_i32_592 arg23
  let v1145 : Index := Scalar.indexCast v1059
  let c1_654 : Index := 1#32
  let c0_655 : Index := 0#32
  let c0_656 : Index := 0#32
  ![v1145.toNat, 1, 0, 0]
def k0_off149 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1152 : Index := Scalar.indexCast v1103
  let c0_658 : Index := 0#32
  let c0_659 : Index := 0#32
  let c0_660 : Index := 0#32
  ![v1152.toNat, 0, 0, 0]
def k0_off150 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1155 : Index := Scalar.indexCast v1103
  let c1_661 : Index := 1#32
  let c0_662 : Index := 0#32
  let c0_663 : Index := 0#32
  ![v1155.toNat, 1, 0, 0]
def k0_off151 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1158 : Index := Scalar.indexCast v1103
  let c2_664 : Index := 2#32
  let c0_665 : Index := 0#32
  let c0_666 : Index := 0#32
  ![v1158.toNat, 2, 0, 0]
def k0_off152 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1161 : Index := Scalar.indexCast v1103
  let c3_667 : Index := 3#32
  let c0_668 : Index := 0#32
  let c0_669 : Index := 0#32
  ![v1161.toNat, 3, 0, 0]
def k0_off153 (i : grid0.Coords) (k0_t17 : Fin (k0_t17_loop i).trips) : Fin 4 → Nat :=
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let v1167 : Index := Scalar.indexCast v1061
  let c0_670 : Index := 0#32
  let c0_671 : Index := 0#32
  let c0_672 : Index := 0#32
  ![v1167.toNat, 0, 0, 0]
def k0_off154 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1174 : Index := Scalar.indexCast v1103
  let c4_674 : Index := 4#32
  let c0_675 : Index := 0#32
  let c0_676 : Index := 0#32
  ![v1174.toNat, 4, 0, 0]
def k0_off155 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1177 : Index := Scalar.indexCast v1103
  let c5_677 : Index := 5#32
  let c0_678 : Index := 0#32
  let c0_679 : Index := 0#32
  ![v1177.toNat, 5, 0, 0]
def k0_off156 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1180 : Index := Scalar.indexCast v1103
  let c6_680 : Index := 6#32
  let c0_681 : Index := 0#32
  let c0_682 : Index := 0#32
  ![v1180.toNat, 6, 0, 0]
def k0_off157 (i : grid0.Coords) (k0_t17 : Fin (k0_t17_loop i).trips) : Fin 4 → Nat :=
  let c3_i32_625 : BitVec 32 := 3#32
  let c0_i32_624 : BitVec 32 := 0#32
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let c2_i32_622 : BitVec 32 := 2#32
  let v1099 : BitVec 32 := Scalar.muli v1061 c2_i32_622
  let c2_i32_355 : BitVec 32 := 2#32
  let v664 : BitVec 32 := Scalar.muli arg1 c2_i32_355
  let c1_i32_356 : BitVec 32 := 1#32
  let v665 : BitVec 32 := Scalar.addi v664 c1_i32_356
  let v1100 : BitVec 32 := Scalar.subi v1099 v665
  let c3_i32_623 : BitVec 32 := 3#32
  let v1101 : BitVec 32 := Scalar.addi v1100 c3_i32_623
  let v1102 : BitVec 32 := Scalar.maxsi c0_i32_624 v1101
  let v1103 : BitVec 32 := Scalar.minsi c3_i32_625 v1102
  let v1183 : Index := Scalar.indexCast v1103
  let c7_683 : Index := 7#32
  let c0_684 : Index := 0#32
  let c0_685 : Index := 0#32
  ![v1183.toNat, 7, 0, 0]
def k0_off158 (i : grid0.Coords) (k0_t17 : Fin (k0_t17_loop i).trips) : Fin 4 → Nat :=
  let c2_i32_593 : BitVec 32 := 2#32
  let c0_i32_438 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_436 : BitVec 32 := 1#32
  let v833 : BitVec 32 := Scalar.shrui v18 c1_i32_436
  let v834 : BitVec 32 := Scalar.subi v833 c0_i32_438
  let c1_i32_439 : BitVec 32 := 1#32
  let v836 : BitVec 32 := Scalar.divsi v834 c1_i32_439
  let v837 : BitVec 32 := Scalar.muli v836 c1_i32_439
  let v838 : BitVec 32 := Scalar.addi c0_i32_438 v837
  let c1_i32_441 : BitVec 32 := 1#32
  let arg23 : BitVec 32 := Scf.iv v838 c1_i32_441 k0_t17
  let v1060 : BitVec 32 := Scalar.muli c2_i32_593 arg23
  let c1_i32_594 : BitVec 32 := 1#32
  let v1061 : BitVec 32 := Scalar.addi v1060 c1_i32_594
  let v1189 : Index := Scalar.indexCast v1061
  let c1_686 : Index := 1#32
  let c0_687 : Index := 0#32
  let c0_688 : Index := 0#32
  ![v1189.toNat, 1, 0, 0]
def k0_cond9 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_442 : BitVec 32 := 1#32
  let v839 : BitVec 32 := Scalar.andi v18 c1_i32_442
  let c1_i32_443 : BitVec 32 := 1#32
  let v840 : BitVec 1 := Scalar.cmpi .eq v839 c1_i32_443
  let v841 : BitVec 32 := Scalar.extui v840
  let c0_i32_444 : BitVec 32 := 0#32
  let v842 : BitVec 1 := Scalar.cmpi .ne v841 c0_i32_444
  v842

def k0_mult15 (i : grid0.Coords) : BitVec 32 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c256_i32_593 : BitVec 32 := 256#32
  let v1060 : BitVec 32 := Scalar.muli v1059 c256_i32_593
  v1060
def k0_off159 (i : grid0.Coords) : Fin 2 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c256_i32_593 : BitVec 32 := 256#32
  let v1060 : BitVec 32 := Scalar.muli v1059 c256_i32_593
  let v1061 : BitVec 32 := v1060
  let v1062 : Index := Scalar.indexCast v1061
  let c0_594 : Index := 0#32
  ![v1062.toNat, 0]
def k0_off160 (i : grid0.Coords) : Fin 3 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1072 : Index := Scalar.indexCast v1059
  let c0_603 : Index := 0#32
  let c128_604 : Index := 128#32
  ![v1072.toNat, 0, 128]
def k0_off161 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1085 : Index := Scalar.indexCast v1080
  let c0_614 : Index := 0#32
  let c0_615 : Index := 0#32
  let c0_616 : Index := 0#32
  ![v1085.toNat, 0, 0, 0]
def k0_off162 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1088 : Index := Scalar.indexCast v1080
  let c1_617 : Index := 1#32
  let c0_618 : Index := 0#32
  let c0_619 : Index := 0#32
  ![v1088.toNat, 1, 0, 0]
def k0_off163 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1091 : Index := Scalar.indexCast v1080
  let c2 : Index := 2#32
  let c0_620 : Index := 0#32
  let c0_621 : Index := 0#32
  ![v1091.toNat, 2, 0, 0]
def k0_off164 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1094 : Index := Scalar.indexCast v1080
  let c3 : Index := 3#32
  let c0_622 : Index := 0#32
  let c0_623 : Index := 0#32
  ![v1094.toNat, 3, 0, 0]
def k0_off165 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1100 : Index := Scalar.indexCast v1059
  let c0_624 : Index := 0#32
  let c0_625 : Index := 0#32
  let c0_626 : Index := 0#32
  ![v1100.toNat, 0, 0, 0]
def k0_off166 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1107 : Index := Scalar.indexCast v1080
  let c4 : Index := 4#32
  let c0_628 : Index := 0#32
  let c0_629 : Index := 0#32
  ![v1107.toNat, 4, 0, 0]
def k0_off167 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1110 : Index := Scalar.indexCast v1080
  let c5 : Index := 5#32
  let c0_630 : Index := 0#32
  let c0_631 : Index := 0#32
  ![v1110.toNat, 5, 0, 0]
def k0_off168 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1113 : Index := Scalar.indexCast v1080
  let c6 : Index := 6#32
  let c0_632 : Index := 0#32
  let c0_633 : Index := 0#32
  ![v1113.toNat, 6, 0, 0]
def k0_off169 (i : grid0.Coords) : Fin 4 → Nat :=
  let c3_i32_607 : BitVec 32 := 3#32
  let c0_i32_606 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let c2_i32_605 : BitVec 32 := 2#32
  let v1076 : BitVec 32 := Scalar.muli v1059 c2_i32_605
  let c2_i32_355 : BitVec 32 := 2#32
  let v664 : BitVec 32 := Scalar.muli arg1 c2_i32_355
  let c1_i32_356 : BitVec 32 := 1#32
  let v665 : BitVec 32 := Scalar.addi v664 c1_i32_356
  let v1077 : BitVec 32 := Scalar.subi v1076 v665
  let c3_i32 : BitVec 32 := 3#32
  let v1078 : BitVec 32 := Scalar.addi v1077 c3_i32
  let v1079 : BitVec 32 := Scalar.maxsi c0_i32_606 v1078
  let v1080 : BitVec 32 := Scalar.minsi c3_i32_607 v1079
  let v1116 : Index := Scalar.indexCast v1080
  let c7 : Index := 7#32
  let c0_634 : Index := 0#32
  let c0_635 : Index := 0#32
  ![v1116.toNat, 7, 0, 0]
def k0_off170 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1122 : Index := Scalar.indexCast v1059
  let c1_636 : Index := 1#32
  let c0_637 : Index := 0#32
  let c0_638 : Index := 0#32
  ![v1122.toNat, 1, 0, 0]
@[reducible] def k0_t18_loop (i : grid0.Coords) : Scf.Loop 32 :=
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_467 : BitVec 32 := 1#32
  ⟨c0_i32_465, v870, c1_i32_467⟩
def k0_off171 (i : grid0.Coords) (k0_t18 : Fin (k0_t18_loop i).trips) : Fin 4 → Nat :=
  let c2_i32_592 : BitVec 32 := 2#32
  let c0_i32_465 : BitVec 32 := 0#32
  let c1_i32_467 : BitVec 32 := 1#32
  let arg23 : BitVec 32 := Scf.iv c0_i32_465 c1_i32_467 k0_t18
  let v1059 : BitVec 32 := Scalar.muli c2_i32_592 arg23
  let v1062 : Index := Scalar.indexCast v1059
  let c0_595 : Index := 0#32
  let c0_596 : Index := 0#32
  let c0_597 : Index := 0#32
  ![v1062.toNat, 0, 0, 0]
def k0_off172 (i : grid0.Coords) (k0_t18 : Fin (k0_t18_loop i).trips) : Fin 4 → Nat :=
  let c2_i32_592 : BitVec 32 := 2#32
  let c0_i32_465 : BitVec 32 := 0#32
  let c1_i32_467 : BitVec 32 := 1#32
  let arg23 : BitVec 32 := Scf.iv c0_i32_465 c1_i32_467 k0_t18
  let v1059 : BitVec 32 := Scalar.muli c2_i32_592 arg23
  let v1071 : Index := Scalar.indexCast v1059
  let c1_601 : Index := 1#32
  let c0_602 : Index := 0#32
  let c0_603 : Index := 0#32
  ![v1071.toNat, 1, 0, 0]
def k0_off173 (i : grid0.Coords) (k0_t18 : Fin (k0_t18_loop i).trips) : Fin 4 → Nat :=
  let c2_i32_593 : BitVec 32 := 2#32
  let c0_i32_465 : BitVec 32 := 0#32
  let c1_i32_467 : BitVec 32 := 1#32
  let arg23 : BitVec 32 := Scf.iv c0_i32_465 c1_i32_467 k0_t18
  let v1060 : BitVec 32 := Scalar.muli c2_i32_593 arg23
  let c1_i32_594 : BitVec 32 := 1#32
  let v1061 : BitVec 32 := Scalar.addi v1060 c1_i32_594
  let v1080 : Index := Scalar.indexCast v1061
  let c0_607 : Index := 0#32
  let c0_608 : Index := 0#32
  let c0_609 : Index := 0#32
  ![v1080.toNat, 0, 0, 0]
def k0_off174 (i : grid0.Coords) (k0_t18 : Fin (k0_t18_loop i).trips) : Fin 4 → Nat :=
  let c2_i32_593 : BitVec 32 := 2#32
  let c0_i32_465 : BitVec 32 := 0#32
  let c1_i32_467 : BitVec 32 := 1#32
  let arg23 : BitVec 32 := Scf.iv c0_i32_465 c1_i32_467 k0_t18
  let v1060 : BitVec 32 := Scalar.muli c2_i32_593 arg23
  let c1_i32_594 : BitVec 32 := 1#32
  let v1061 : BitVec 32 := Scalar.addi v1060 c1_i32_594
  let v1089 : Index := Scalar.indexCast v1061
  let c1_613 : Index := 1#32
  let c0_614 : Index := 0#32
  let c0_615 : Index := 0#32
  ![v1089.toNat, 1, 0, 0]
def k0_off175 (i : grid0.Coords) (k0_t18 : Fin (k0_t18_loop i).trips) : Fin 4 → Nat :=
  let c2_i32_592 : BitVec 32 := 2#32
  let c0_i32_465 : BitVec 32 := 0#32
  let c1_i32_467 : BitVec 32 := 1#32
  let arg23 : BitVec 32 := Scf.iv c0_i32_465 c1_i32_467 k0_t18
  let v1059 : BitVec 32 := Scalar.muli c2_i32_592 arg23
  let v1098 : Index := Scalar.indexCast v1059
  let c0_619 : Index := 0#32
  let c0_620 : Index := 0#32
  let c0_621 : Index := 0#32
  ![v1098.toNat, 0, 0, 0]
def k0_off176 (i : grid0.Coords) (k0_t18 : Fin (k0_t18_loop i).trips) : Fin 4 → Nat :=
  let c2_i32_592 : BitVec 32 := 2#32
  let c0_i32_465 : BitVec 32 := 0#32
  let c1_i32_467 : BitVec 32 := 1#32
  let arg23 : BitVec 32 := Scf.iv c0_i32_465 c1_i32_467 k0_t18
  let v1059 : BitVec 32 := Scalar.muli c2_i32_592 arg23
  let v1102 : Index := Scalar.indexCast v1059
  let c1_623 : Index := 1#32
  let c0_624 : Index := 0#32
  let c0_625 : Index := 0#32
  ![v1102.toNat, 1, 0, 0]
def k0_off177 (i : grid0.Coords) (k0_t18 : Fin (k0_t18_loop i).trips) : Fin 4 → Nat :=
  let c2_i32_593 : BitVec 32 := 2#32
  let c0_i32_465 : BitVec 32 := 0#32
  let c1_i32_467 : BitVec 32 := 1#32
  let arg23 : BitVec 32 := Scf.iv c0_i32_465 c1_i32_467 k0_t18
  let v1060 : BitVec 32 := Scalar.muli c2_i32_593 arg23
  let c1_i32_594 : BitVec 32 := 1#32
  let v1061 : BitVec 32 := Scalar.addi v1060 c1_i32_594
  let v1106 : Index := Scalar.indexCast v1061
  let c0_627 : Index := 0#32
  let c0_628 : Index := 0#32
  let c0_629 : Index := 0#32
  ![v1106.toNat, 0, 0, 0]
def k0_off178 (i : grid0.Coords) (k0_t18 : Fin (k0_t18_loop i).trips) : Fin 4 → Nat :=
  let c2_i32_593 : BitVec 32 := 2#32
  let c0_i32_465 : BitVec 32 := 0#32
  let c1_i32_467 : BitVec 32 := 1#32
  let arg23 : BitVec 32 := Scf.iv c0_i32_465 c1_i32_467 k0_t18
  let v1060 : BitVec 32 := Scalar.muli c2_i32_593 arg23
  let c1_i32_594 : BitVec 32 := 1#32
  let v1061 : BitVec 32 := Scalar.addi v1060 c1_i32_594
  let v1110 : Index := Scalar.indexCast v1061
  let c1_631 : Index := 1#32
  let c0_632 : Index := 0#32
  let c0_633 : Index := 0#32
  ![v1110.toNat, 1, 0, 0]
@[reducible] def k0_t19_loop (i : grid0.Coords) : Scf.Loop 32 :=
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let v867 : BitVec 32 := Scalar.addi c0_i32_465 v866
  let c1_i32_468 : BitVec 32 := 1#32
  ⟨v870, v867, c1_i32_468⟩
def k0_off179 (i : grid0.Coords) (k0_t19 : Fin (k0_t19_loop i).trips) : Fin 4 → Nat :=
  let c2_i32_592 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1059 : BitVec 32 := Scalar.muli c2_i32_592 arg23
  let v1062 : Index := Scalar.indexCast v1059
  let c0_595 : Index := 0#32
  let c0_596 : Index := 0#32
  let c0_597 : Index := 0#32
  ![v1062.toNat, 0, 0, 0]
def k0_off180 (i : grid0.Coords) (k0_t19 : Fin (k0_t19_loop i).trips) : Fin 4 → Nat :=
  let c2_i32_592 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1059 : BitVec 32 := Scalar.muli c2_i32_592 arg23
  let v1071 : Index := Scalar.indexCast v1059
  let c1_601 : Index := 1#32
  let c0_602 : Index := 0#32
  let c0_603 : Index := 0#32
  ![v1071.toNat, 1, 0, 0]
def k0_off181 (i : grid0.Coords) (k0_t19 : Fin (k0_t19_loop i).trips) : Fin 4 → Nat :=
  let c2_i32_593 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1060 : BitVec 32 := Scalar.muli c2_i32_593 arg23
  let c1_i32_594 : BitVec 32 := 1#32
  let v1061 : BitVec 32 := Scalar.addi v1060 c1_i32_594
  let v1080 : Index := Scalar.indexCast v1061
  let c0_607 : Index := 0#32
  let c0_608 : Index := 0#32
  let c0_609 : Index := 0#32
  ![v1080.toNat, 0, 0, 0]
def k0_off182 (i : grid0.Coords) (k0_t19 : Fin (k0_t19_loop i).trips) : Fin 4 → Nat :=
  let c2_i32_593 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1060 : BitVec 32 := Scalar.muli c2_i32_593 arg23
  let c1_i32_594 : BitVec 32 := 1#32
  let v1061 : BitVec 32 := Scalar.addi v1060 c1_i32_594
  let v1089 : Index := Scalar.indexCast v1061
  let c1_613 : Index := 1#32
  let c0_614 : Index := 0#32
  let c0_615 : Index := 0#32
  ![v1089.toNat, 1, 0, 0]
def k0_off183 (i : grid0.Coords) (k0_t19 : Fin (k0_t19_loop i).trips) : Fin 4 → Nat :=
  let c2_i32_592 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1059 : BitVec 32 := Scalar.muli c2_i32_592 arg23
  let v1098 : Index := Scalar.indexCast v1059
  let c0_619 : Index := 0#32
  let c0_620 : Index := 0#32
  let c0_621 : Index := 0#32
  ![v1098.toNat, 0, 0, 0]
def k0_off184 (i : grid0.Coords) (k0_t19 : Fin (k0_t19_loop i).trips) : Fin 4 → Nat :=
  let c2_i32_592 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1059 : BitVec 32 := Scalar.muli c2_i32_592 arg23
  let v1102 : Index := Scalar.indexCast v1059
  let c1_623 : Index := 1#32
  let c0_624 : Index := 0#32
  let c0_625 : Index := 0#32
  ![v1102.toNat, 1, 0, 0]
def k0_off185 (i : grid0.Coords) (k0_t19 : Fin (k0_t19_loop i).trips) : Fin 4 → Nat :=
  let c2_i32_593 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1060 : BitVec 32 := Scalar.muli c2_i32_593 arg23
  let c1_i32_594 : BitVec 32 := 1#32
  let v1061 : BitVec 32 := Scalar.addi v1060 c1_i32_594
  let v1106 : Index := Scalar.indexCast v1061
  let c0_627 : Index := 0#32
  let c0_628 : Index := 0#32
  let c0_629 : Index := 0#32
  ![v1106.toNat, 0, 0, 0]
def k0_off186 (i : grid0.Coords) (k0_t19 : Fin (k0_t19_loop i).trips) : Fin 4 → Nat :=
  let c2_i32_593 : BitVec 32 := 2#32
  let c0_i32_465 : BitVec 32 := 0#32
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_463 : BitVec 32 := 1#32
  let v865 : BitVec 32 := Scalar.shrui v18 c1_i32_463
  let v866 : BitVec 32 := Scalar.subi v865 c0_i32_465
  let c1_i32_466 : BitVec 32 := 1#32
  let v868 : BitVec 32 := Scalar.divsi v866 c1_i32_466
  let v869 : BitVec 32 := Scalar.muli v868 c1_i32_466
  let v870 : BitVec 32 := Scalar.addi c0_i32_465 v869
  let c1_i32_468 : BitVec 32 := 1#32
  let arg23 : BitVec 32 := Scf.iv v870 c1_i32_468 k0_t19
  let v1060 : BitVec 32 := Scalar.muli c2_i32_593 arg23
  let c1_i32_594 : BitVec 32 := 1#32
  let v1061 : BitVec 32 := Scalar.addi v1060 c1_i32_594
  let v1110 : Index := Scalar.indexCast v1061
  let c1_631 : Index := 1#32
  let c0_632 : Index := 0#32
  let c0_633 : Index := 0#32
  ![v1110.toNat, 1, 0, 0]
def k0_cond10 (i : grid0.Coords) : BitVec 1 :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_469 : BitVec 32 := 1#32
  let v871 : BitVec 32 := Scalar.andi v18 c1_i32_469
  let c1_i32_470 : BitVec 32 := 1#32
  let v872 : BitVec 1 := Scalar.cmpi .eq v871 c1_i32_470
  let v873 : BitVec 32 := Scalar.extui v872
  let c0_i32_471 : BitVec 32 := 0#32
  let v874 : BitVec 1 := Scalar.cmpi .ne v873 c0_i32_471
  v874

def k0_off187 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1060 : Index := Scalar.indexCast v1059
  let c0_593 : Index := 0#32
  let c0_594 : Index := 0#32
  let c0_595 : Index := 0#32
  ![v1060.toNat, 0, 0, 0]
def k0_off188 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1069 : Index := Scalar.indexCast v1059
  let c1_599 : Index := 1#32
  let c0_600 : Index := 0#32
  let c0_601 : Index := 0#32
  ![v1069.toNat, 1, 0, 0]
def k0_off189 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1078 : Index := Scalar.indexCast v1059
  let c0_605 : Index := 0#32
  let c0_606 : Index := 0#32
  let c0_607 : Index := 0#32
  ![v1078.toNat, 0, 0, 0]
def k0_off190 (i : grid0.Coords) : Fin 4 → Nat :=
  let arg1 : BitVec 32 := BitVec.ofNat 32 (i 1).val
  let c256_i32 : BitVec 32 := 256#32
  let v0 : BitVec 32 := Scalar.muli arg1 c256_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c256_i32_0 : BitVec 32 := 256#32
  let c0_i32_2 : BitVec 32 := 0#32
  let v7 : BitVec 1 := Scalar.cmpi .sgt c256_i32_0 c0_i32_2
  let v8 : BitVec 32 := Scalar.extui v7
  let c0_i32_3 : BitVec 32 := 0#32
  let v9 : BitVec 1 := Scalar.cmpi .slt c256_i32_0 c0_i32_3
  let v10 : BitVec 32 := Scalar.extui v9
  let v11 : BitVec 32 := Scalar.subi v8 v10
  let v12 : BitVec 1 := Scalar.cmpi .ne v6 v11
  let v13 : BitVec 32 := Scalar.remsi v0 c256_i32_0
  let c0_i32_4 : BitVec 32 := 0#32
  let v14 : BitVec 1 := Scalar.cmpi .ne v13 c0_i32_4
  let v15 : BitVec 1 := Scalar.andi v12 v14
  let v1 : BitVec 32 := Scalar.divsi v0 c256_i32_0
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.addi v17 c1_i32_5
  let c1_i32_592 : BitVec 32 := 1#32
  let v1059 : BitVec 32 := Scalar.subi v18 c1_i32_592
  let v1082 : Index := Scalar.indexCast v1059
  let c1_609 : Index := 1#32
  let c0_610 : Index := 0#32
  let c0_611 : Index := 0#32
  ![v1082.toNat, 1, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c60_i32 : BitVec 32 := 60#32
  let c0_i32_0 : BitVec 32 := 0#32
  ![arg0.toNat, c0_i32.toNat, c60_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c61_i32 : BitVec 32 := 61#32
  let c0_i32_0 : BitVec 32 := 0#32
  ![arg0.toNat, c0_i32.toNat, c61_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x8x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== WideK.lean ====
abbrev S16384x2048 : Shape := ⟨2, ![16384, 2048]⟩
abbrev S2048x16472 : Shape := ⟨2, ![2048, 16472]⟩
abbrev S1x2048x16472 : Shape := ⟨3, ![1, 2048, 16472]⟩
abbrev S1x2048x3072 : Shape := ⟨3, ![1, 2048, 3072]⟩
abbrev S2048x3072 : Shape := ⟨2, ![2048, 3072]⟩
abbrev S1x2048x1024 : Shape := ⟨3, ![1, 2048, 1024]⟩
abbrev S2048x1024 : Shape := ⟨2, ![2048, 1024]⟩
abbrev S1x2048x2048 : Shape := ⟨3, ![1, 2048, 2048]⟩
abbrev S2048x2048 : Shape := ⟨2, ![2048, 2048]⟩
abbrev S1x2048x6144 : Shape := ⟨3, ![1, 2048, 6144]⟩
abbrev S2048x6144 : Shape := ⟨2, ![2048, 6144]⟩
abbrev S1x2048x256 : Shape := ⟨3, ![1, 2048, 256]⟩
abbrev S2048x256 : Shape := ⟨2, ![2048, 256]⟩
abbrev S2048x15872 : Shape := ⟨2, ![2048, 15872]⟩
abbrev S16384x15872 : Shape := ⟨2, ![16384, 15872]⟩
abbrev S2048x512 : Shape := ⟨2, ![2048, 512]⟩

abbrev nBuf : Space → Nat
  | .hbm => 32
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x16472, .f32⟩
  | .hbm, ⟨2, _⟩ => ⟨S1x2048x16472, .f32⟩
  | .hbm, ⟨3, _⟩ => ⟨S1x2048x3072, .f32⟩
  | .hbm, ⟨4, _⟩ => ⟨S2048x3072, .f32⟩
  | .hbm, ⟨5, _⟩ => ⟨S2048x3072, .bf16⟩
  | .hbm, ⟨6, _⟩ => ⟨S1x2048x1024, .f32⟩
  | .hbm, ⟨7, _⟩ => ⟨S2048x1024, .f32⟩
  | .hbm, ⟨8, _⟩ => ⟨S2048x1024, .bf16⟩
  | .hbm, ⟨9, _⟩ => ⟨S1x2048x2048, .f32⟩
  | .hbm, ⟨10, _⟩ => ⟨S2048x2048, .f32⟩
  | .hbm, ⟨11, _⟩ => ⟨S2048x2048, .bf16⟩
  | .hbm, ⟨12, _⟩ => ⟨S1x2048x1024, .f32⟩
  | .hbm, ⟨13, _⟩ => ⟨S2048x1024, .f32⟩
  | .hbm, ⟨14, _⟩ => ⟨S2048x1024, .bf16⟩
  | .hbm, ⟨15, _⟩ => ⟨S1x2048x1024, .f32⟩
  | .hbm, ⟨16, _⟩ => ⟨S2048x1024, .f32⟩
  | .hbm, ⟨17, _⟩ => ⟨S2048x1024, .bf16⟩
  | .hbm, ⟨18, _⟩ => ⟨S1x2048x1024, .f32⟩
  | .hbm, ⟨19, _⟩ => ⟨S2048x1024, .f32⟩
  | .hbm, ⟨20, _⟩ => ⟨S2048x1024, .bf16⟩
  | .hbm, ⟨21, _⟩ => ⟨S1x2048x6144, .f32⟩
  | .hbm, ⟨22, _⟩ => ⟨S2048x6144, .f32⟩
  | .hbm, ⟨23, _⟩ => ⟨S2048x6144, .bf16⟩
  | .hbm, ⟨24, _⟩ => ⟨S1x2048x256, .f32⟩
  | .hbm, ⟨25, _⟩ => ⟨S2048x256, .f32⟩
  | .hbm, ⟨26, _⟩ => ⟨S2048x256, .bf16⟩
  | .hbm, ⟨27, _⟩ => ⟨S1x2048x256, .f32⟩
  | .hbm, ⟨28, _⟩ => ⟨S2048x256, .f32⟩
  | .hbm, ⟨29, _⟩ => ⟨S2048x256, .bf16⟩
  | .hbm, ⟨30, _⟩ => ⟨S2048x15872, .bf16⟩
  | .hbm, ⟨31, _⟩ => ⟨S16384x15872, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 31], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WideRIdeal.lean ====
abbrev S16384x2048 : Shape := ⟨2, ![16384, 2048]⟩
abbrev S2048x16472 : Shape := ⟨2, ![2048, 16472]⟩
abbrev S16384x16472 : Shape := ⟨2, ![16384, 16472]⟩
abbrev S16384x3072 : Shape := ⟨2, ![16384, 3072]⟩
abbrev S16384x1024 : Shape := ⟨2, ![16384, 1024]⟩
abbrev S16384x8 : Shape := ⟨2, ![16384, 8]⟩
abbrev S16384x256 : Shape := ⟨2, ![16384, 256]⟩
abbrev S16384x512 : Shape := ⟨2, ![16384, 512]⟩
abbrev S16384x64 : Shape := ⟨2, ![16384, 64]⟩
abbrev S16384x6144 : Shape := ⟨2, ![16384, 6144]⟩
abbrev S16384x15872 : Shape := ⟨2, ![16384, 15872]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x16472, .f32⟩
  | .hbm, ⟨2, _⟩ => ⟨S16384x2048, .f32⟩
  | .hbm, ⟨3, _⟩ => ⟨S16384x16472, .f32⟩
  | .hbm, ⟨4, _⟩ => ⟨S16384x3072, .f32⟩
  | .hbm, ⟨5, _⟩ => ⟨S16384x1024, .f32⟩
  | .hbm, ⟨6, _⟩ => ⟨S16384x8, .f32⟩
  | .hbm, ⟨7, _⟩ => ⟨S16384x8, .f32⟩
  | .hbm, ⟨8, _⟩ => ⟨S16384x2048, .f32⟩
  | .hbm, ⟨9, _⟩ => ⟨S16384x1024, .f32⟩
  | .hbm, ⟨10, _⟩ => ⟨S16384x1024, .f32⟩
  | .hbm, ⟨11, _⟩ => ⟨S16384x256, .f32⟩
  | .hbm, ⟨12, _⟩ => ⟨S16384x256, .f32⟩
  | .hbm, ⟨13, _⟩ => ⟨S16384x1024, .f32⟩
  | .hbm, ⟨14, _⟩ => ⟨S16384x512, .f32⟩
  | .hbm, ⟨15, _⟩ => ⟨S16384x64, .f32⟩
  | .hbm, ⟨16, _⟩ => ⟨S16384x8, .f32⟩
  | .hbm, ⟨17, _⟩ => ⟨S16384x6144, .f32⟩
  | .hbm, ⟨18, _⟩ => ⟨S16384x15872, .f32⟩
  | .hbm, ⟨19, _⟩ => ⟨S16384x15872, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== MergeK.lean ====
abbrev S16384x1024 : Shape := ⟨2, ![16384, 1024]⟩
abbrev S1024x2048 : Shape := ⟨2, ![1024, 2048]⟩
abbrev S16384x15872 : Shape := ⟨2, ![16384, 15872]⟩
abbrev S6144 : Shape := ⟨1, ![6144]⟩
abbrev S1x6144 : Shape := ⟨2, ![1, 6144]⟩
abbrev S16384x2048 : Shape := ⟨2, ![16384, 2048]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 13
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S16384x15872, .bf16⟩
  | .hbm, ⟨7, _⟩ => ⟨S6144, .f32⟩
  | .hbm, ⟨8, _⟩ => ⟨S1024x2048, .bf16⟩
  | .hbm, ⟨9, _⟩ => ⟨S1024x2048, .bf16⟩
  | .hbm, ⟨10, _⟩ => ⟨S1024x2048, .bf16⟩
  | .hbm, ⟨11, _⟩ => ⟨S1x6144, .f32⟩
  | .hbm, ⟨12, _⟩ => ⟨S16384x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x512, .bf16⟩
  | .local _ .vmem, ⟨25, _⟩ => ⟨S1024x512, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeRIdeal.lean ====
abbrev S16384x1024 : Shape := ⟨2, ![16384, 1024]⟩
abbrev S1024x2048 : Shape := ⟨2, ![1024, 2048]⟩
abbrev S16384x15872 : Shape := ⟨2, ![16384, 15872]⟩
abbrev S6144 : Shape := ⟨1, ![6144]⟩
abbrev S16384x6144 : Shape := ⟨2, ![16384, 6144]⟩
abbrev S1x6144 : Shape := ⟨2, ![1, 6144]⟩
abbrev S_ : Shape := ⟨0, ![]⟩
abbrev S16384x2048 : Shape := ⟨2, ![16384, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S16384x15872, .bf16⟩
  | .hbm, ⟨7, _⟩ => ⟨S6144, .f32⟩
  | .hbm, ⟨8, _⟩ => ⟨S16384x6144, .bf16⟩
  | .hbm, ⟨9, _⟩ => ⟨S16384x6144, .f32⟩
  | .hbm, ⟨10, _⟩ => ⟨S1x6144, .f32⟩
  | .hbm, ⟨11, _⟩ => ⟨S16384x6144, .f32⟩
  | .hbm, ⟨12, _⟩ => ⟨S16384x6144, .f32⟩
  | .hbm, ⟨13, _⟩ => ⟨S16384x6144, .f32⟩
  | .hbm, ⟨14, _⟩ => ⟨S16384x6144, .f32⟩
  | .hbm, ⟨15, _⟩ => ⟨S_, .f32⟩
  | .hbm, ⟨16, _⟩ => ⟨S16384x6144, .f32⟩
  | .hbm, ⟨17, _⟩ => ⟨S16384x6144, .f32⟩
  | .hbm, ⟨18, _⟩ => ⟨S_, .f32⟩
  | .hbm, ⟨19, _⟩ => ⟨S16384x6144, .f32⟩
  | .hbm, ⟨20, _⟩ => ⟨S16384x6144, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x1024, .f32⟩
  | .hbm, ⟨25, _⟩ => ⟨S16384x2048, .f32⟩
  | .hbm, ⟨26, _⟩ => ⟨S16384x2048, .f32⟩
  | .hbm, ⟨27, _⟩ => ⟨S16384x1024, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x1024, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== OutK.lean ====
abbrev S16384x2048 : Shape := ⟨2, ![16384, 2048]⟩
abbrev S2048x2048 : Shape := ⟨2, ![2048, 2048]⟩
abbrev S8x2048x2048 : Shape := ⟨3, ![8, 2048, 2048]⟩
abbrev S8x1x6144 : Shape := ⟨3, ![8, 1, 6144]⟩
abbrev S2048x512 : Shape := ⟨2, ![2048, 512]⟩
abbrev S1x1x512 : Shape := ⟨3, ![1, 1, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2048x2048, .f32⟩
  | .hbm, ⟨3, _⟩ => ⟨S8x1x6144, .f32⟩
  | .hbm, ⟨4, _⟩ => ⟨S2048x2048, .bf16⟩
  | .hbm, ⟨5, _⟩ => ⟨S16384x2048, .f32⟩
  | .hbm, ⟨6, _⟩ => ⟨S16384x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S1x1x512, .f32⟩
  | .local _ .vmem, ⟨7, _⟩ => ⟨S1x1x512, .f32⟩
  | .local _ .vmem, ⟨8, _⟩ => ⟨S2048x512, .f32⟩
  | .local _ .vmem, ⟨9, _⟩ => ⟨S2048x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.addi c8_i32 arg1
  let c0_i32_5 : BitVec 32 := 0#32
  let c0_i32_6 : BitVec 32 := 0#32
  ![v16.toNat, c0_i32_5.toNat, v17.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRIdeal.lean ====
abbrev S16384x2048 : Shape := ⟨2, ![16384, 2048]⟩
abbrev S2048x2048 : Shape := ⟨2, ![2048, 2048]⟩
abbrev S8x2048x2048 : Shape := ⟨3, ![8, 2048, 2048]⟩
abbrev S8x1x6144 : Shape := ⟨3, ![8, 1, 6144]⟩
abbrev S8x1x2048 : Shape := ⟨3, ![8, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2048x2048, .f32⟩
  | .hbm, ⟨3, _⟩ => ⟨S8x1x6144, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S16384x2048, .f32⟩
  | .hbm, ⟨8, _⟩ => ⟨S16384x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ConfK.lean ====
abbrev S8x2048x15872 : Shape := ⟨3, ![8, 2048, 15872]⟩
abbrev S31x1024 : Shape := ⟨2, ![31, 1024]⟩
abbrev S1024 : Shape := ⟨1, ![1024]⟩
abbrev S1x1024 : Shape := ⟨2, ![1, 1024]⟩
abbrev S31x1x1024 : Shape := ⟨3, ![31, 1, 1024]⟩
abbrev S31x8x1024 : Shape := ⟨3, ![31, 8, 1024]⟩
abbrev S8x2048x1024 : Shape := ⟨3, ![8, 2048, 1024]⟩
abbrev S1x256x1024 : Shape := ⟨3, ![1, 256, 1024]⟩
abbrev S1x32x1024 : Shape := ⟨3, ![1, 32, 1024]⟩
abbrev S8x288x1024 : Shape := ⟨3, ![8, 288, 1024]⟩
abbrev S1x64x1024 : Shape := ⟨3, ![1, 64, 1024]⟩
abbrev S64x1024 : Shape := ⟨2, ![64, 1024]⟩
abbrev S32x1024 : Shape := ⟨2, ![32, 1024]⟩
abbrev S1x24x1024 : Shape := ⟨3, ![1, 24, 1024]⟩
abbrev S24x1024 : Shape := ⟨2, ![24, 1024]⟩
abbrev S1x1x1024 : Shape := ⟨3, ![1, 1, 1024]⟩
abbrev S4x8x1024 : Shape := ⟨3, ![4, 8, 1024]⟩
abbrev S1x8x1024 : Shape := ⟨3, ![1, 8, 1024]⟩
abbrev S8x1024 : Shape := ⟨2, ![8, 1024]⟩
abbrev S32 : Shape := ⟨1, ![32]⟩
abbrev S32x1 : Shape := ⟨2, ![32, 1]⟩

abbrev nBuf : Space → Nat
  | .hbm => 11
  | .vmem => 17
  | .smem => 0
  | _ => 0

abbrev bufTy : (tb : Table) → Fin (tcTables nBuf tb) → BufTy
  | .hbm, ⟨0, _⟩ => ⟨S8x2048x15872, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S31x1x1024, .f32⟩
  | .hbm, ⟨9, _⟩ => ⟨S31x8x1024, .f32⟩
  | .hbm, ⟨10, _⟩ => ⟨S8x2048x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x32x1024, .bf16⟩
  | .local _ .vmem, ⟨5, _⟩ => ⟨S1x32x1024, .bf16⟩
  | .local _ .vmem, ⟨6, _⟩ => ⟨S1x32x1024, .bf16⟩
  | .local _ .vmem, ⟨7, _⟩ => ⟨S1x32x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S31x8x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S8x288x1024, .f32⟩
  | _, _ => ⟨S8x2048x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![arg0.toNat, v2.toNat, c4_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![arg0.toNat, v2.toNat, c5_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S31x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConfRIdeal.lean ====
abbrev S8x2048x15872 : Shape := ⟨3, ![8, 2048, 15872]⟩
abbrev S31x1024 : Shape := ⟨2, ![31, 1024]⟩
abbrev S1024 : Shape := ⟨1, ![1024]⟩
abbrev S8x2048x1024 : Shape := ⟨3, ![8, 2048, 1024]⟩
abbrev S_ : Shape := ⟨0, ![]⟩
abbrev S8x2078x1024 : Shape := ⟨3, ![8, 2078, 1024]⟩
abbrev S1x1024 : Shape := ⟨2, ![1, 1024]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 291
  | .vmem => 0
  | .smem => 0
  | _ => 0

abbrev hbmTy0_0 (i : Nat) : BufTy := match i % 128 with
  | 0 => ⟨S8x2048x15872, .bf16⟩
  | 1 => ⟨S31x1024, .f32⟩
  | 2 => ⟨S1024, .f32⟩
  | 3 => ⟨S1024, .f32⟩
  | 4 => ⟨S1024, .f32⟩
  | 5 => ⟨S8x2048x1024, .bf16⟩
  | 6 => ⟨S8x2048x1024, .f32⟩
  | 7 => ⟨S8x2048x1024, .bf16⟩
  | 8 => ⟨S8x2048x1024, .f32⟩
  | 9 => ⟨S8x2048x1024, .bf16⟩
  | 10 => ⟨S8x2048x1024, .f32⟩
  | 11 => ⟨S8x2048x1024, .f32⟩
  | 12 => ⟨S8x2048x1024, .f32⟩
  | 13 => ⟨S_, .f32⟩
  | 14 => ⟨S8x2048x1024, .f32⟩
  | 15 => ⟨S8x2048x1024, .f32⟩
  | 16 => ⟨S_, .f32⟩
  | 17 => ⟨S8x2048x1024, .f32⟩
  | 18 => ⟨S8x2048x1024, .f32⟩
  | 19 => ⟨S8x2048x1024, .f32⟩
  | 20 => ⟨S_, .i32⟩
  | 21 => ⟨S_, .f32⟩
  | 22 => ⟨S8x2078x1024, .f32⟩
  | 23 => ⟨S1x1024, .f32⟩
  | 24 => ⟨S1024, .f32⟩
  | 25 => ⟨S8x2048x1024, .f32⟩
  | 26 => ⟨S1x1x1024, .f32⟩
  | 27 => ⟨S8x2048x1024, .f32⟩
  | 28 => ⟨S8x2048x1024, .f32⟩
  | 29 => ⟨S1x1024, .f32⟩
  | 30 => ⟨S1024, .f32⟩
  | 31 => ⟨S8x2048x1024, .f32⟩
  | 32 => ⟨S1x1x1024, .f32⟩
  | 33 => ⟨S8x2048x1024, .f32⟩
  | 34 => ⟨S8x2048x1024, .f32⟩
  | 35 => ⟨S8x2048x1024, .f32⟩
  | 36 => ⟨S1x1024, .f32⟩
  | 37 => ⟨S1024, .f32⟩
  | 38 => ⟨S8x2048x1024, .f32⟩
  | 39 => ⟨S1x1x1024, .f32⟩
  | 40 => ⟨S8x2048x1024, .f32⟩
  | 41 => ⟨S8x2048x1024, .f32⟩
  | 42 => ⟨S8x2048x1024, .f32⟩
  | 43 => ⟨S1x1024, .f32⟩
  | 44 => ⟨S1024, .f32⟩
  | 45 => ⟨S8x2048x1024, .f32⟩
  | 46 => ⟨S1x1x1024, .f32⟩
  | 47 => ⟨S8x2048x1024, .f32⟩
  | 48 => ⟨S8x2048x1024, .f32⟩
  | 49 => ⟨S8x2048x1024, .f32⟩
  | 50 => ⟨S1x1024, .f32⟩
  | 51 => ⟨S1024, .f32⟩
  | 52 => ⟨S8x2048x1024, .f32⟩
  | 53 => ⟨S1x1x1024, .f32⟩
  | 54 => ⟨S8x2048x1024, .f32⟩
  | 55 => ⟨S8x2048x1024, .f32⟩
  | 56 => ⟨S8x2048x1024, .f32⟩
  | 57 => ⟨S1x1024, .f32⟩
  | 58 => ⟨S1024, .f32⟩
  | 59 => ⟨S8x2048x1024, .f32⟩
  | 60 => ⟨S1x1x1024, .f32⟩
  | 61 => ⟨S8x2048x1024, .f32⟩
  | 62 => ⟨S8x2048x1024, .f32⟩
  | 63 => ⟨S8x2048x1024, .f32⟩
  | 64 => ⟨S1x1024, .f32⟩
  | 65 => ⟨S1024, .f32⟩
  | 66 => ⟨S8x2048x1024, .f32⟩
  | 67 => ⟨S1x1x1024, .f32⟩
  | 68 => ⟨S8x2048x1024, .f32⟩
  | 69 => ⟨S8x2048x1024, .f32⟩
  | 70 => ⟨S8x2048x1024, .f32⟩
  | 71 => ⟨S1x1024, .f32⟩
  | 72 => ⟨S1024, .f32⟩
  | 73 => ⟨S8x2048x1024, .f32⟩
  | 74 => ⟨S1x1x1024, .f32⟩
  | 75 => ⟨S8x2048x1024, .f32⟩
  | 76 => ⟨S8x2048x1024, .f32⟩
  | 77 => ⟨S8x2048x1024, .f32⟩
  | 78 => ⟨S1x1024, .f32⟩
  | 79 => ⟨S1024, .f32⟩
  | 80 => ⟨S8x2048x1024, .f32⟩
  | 81 => ⟨S1x1x1024, .f32⟩
  | 82 => ⟨S8x2048x1024, .f32⟩
  | 83 => ⟨S8x2048x1024, .f32⟩
  | 84 => ⟨S8x2048x1024, .f32⟩
  | 85 => ⟨S1x1024, .f32⟩
  | 86 => ⟨S1024, .f32⟩
  | 87 => ⟨S8x2048x1024, .f32⟩
  | 88 => ⟨S1x1x1024, .f32⟩
  | 89 => ⟨S8x2048x1024, .f32⟩
  | 90 => ⟨S8x2048x1024, .f32⟩
  | 91 => ⟨S8x2048x1024, .f32⟩
  | 92 => ⟨S1x1024, .f32⟩
  | 93 => ⟨S1024, .f32⟩
  | 94 => ⟨S8x2048x1024, .f32⟩
  | 95 => ⟨S1x1x1024, .f32⟩
  | 96 => ⟨S8x2048x1024, .f32⟩
  | 97 => ⟨S8x2048x1024, .f32⟩
  | 98 => ⟨S8x2048x1024, .f32⟩
  | 99 => ⟨S1x1024, .f32⟩
  | 100 => ⟨S1024, .f32⟩
  | 101 => ⟨S8x2048x1024, .f32⟩
  | 102 => ⟨S1x1x1024, .f32⟩
  | 103 => ⟨S8x2048x1024, .f32⟩
  | 104 => ⟨S8x2048x1024, .f32⟩
  | 105 => ⟨S8x2048x1024, .f32⟩
  | 106 => ⟨S1x1024, .f32⟩
  | 107 => ⟨S1024, .f32⟩
  | 108 => ⟨S8x2048x1024, .f32⟩
  | 109 => ⟨S1x1x1024, .f32⟩
  | 110 => ⟨S8x2048x1024, .f32⟩
  | 111 => ⟨S8x2048x1024, .f32⟩
  | 112 => ⟨S8x2048x1024, .f32⟩
  | 113 => ⟨S1x1024, .f32⟩
  | 114 => ⟨S1024, .f32⟩
  | 115 => ⟨S8x2048x1024, .f32⟩
  | 116 => ⟨S1x1x1024, .f32⟩
  | 117 => ⟨S8x2048x1024, .f32⟩
  | 118 => ⟨S8x2048x1024, .f32⟩
  | 119 => ⟨S8x2048x1024, .f32⟩
  | 120 => ⟨S1x1024, .f32⟩
  | 121 => ⟨S1024, .f32⟩
  | 122 => ⟨S8x2048x1024, .f32⟩
  | 123 => ⟨S1x1x1024, .f32⟩
  | 124 => ⟨S8x2048x1024, .f32⟩
  | 125 => ⟨S8x2048x1024, .f32⟩
  | 126 => ⟨S8x2048x1024, .f32⟩
  | 127 => ⟨S1x1024, .f32⟩
  | _ => ⟨S8x2048x15872, .bf16⟩

abbrev hbmTy0_1 (i : Nat) : BufTy := match i % 128 with
  | 0 => ⟨S1024, .f32⟩
  | 1 => ⟨S8x2048x1024, .f32⟩
  | 2 => ⟨S1x1x1024, .f32⟩
  | 3 => ⟨S8x2048x1024, .f32⟩
  | 4 => ⟨S8x2048x1024, .f32⟩
  | 5 => ⟨S8x2048x1024, .f32⟩
  | 6 => ⟨S1x1024, .f32⟩
  | 7 => ⟨S1024, .f32⟩
  | 8 => ⟨S8x2048x1024, .f32⟩
  | 9 => ⟨S1x1x1024, .f32⟩
  | 10 => ⟨S8x2048x1024, .f32⟩
  | 11 => ⟨S8x2048x1024, .f32⟩
  | 12 => ⟨S8x2048x1024, .f32⟩
  | 13 => ⟨S1x1024, .f32⟩
  | 14 => ⟨S1024, .f32⟩
  | 15 => ⟨S8x2048x1024, .f32⟩
  | 16 => ⟨S1x1x1024, .f32⟩
  | 17 => ⟨S8x2048x1024, .f32⟩
  | 18 => ⟨S8x2048x1024, .f32⟩
  | 19 => ⟨S8x2048x1024, .f32⟩
  | 20 => ⟨S1x1024, .f32⟩
  | 21 => ⟨S1024, .f32⟩
  | 22 => ⟨S8x2048x1024, .f32⟩
  | 23 => ⟨S1x1x1024, .f32⟩
  | 24 => ⟨S8x2048x1024, .f32⟩
  | 25 => ⟨S8x2048x1024, .f32⟩
  | 26 => ⟨S8x2048x1024, .f32⟩
  | 27 => ⟨S1x1024, .f32⟩
  | 28 => ⟨S1024, .f32⟩
  | 29 => ⟨S8x2048x1024, .f32⟩
  | 30 => ⟨S1x1x1024, .f32⟩
  | 31 => ⟨S8x2048x1024, .f32⟩
  | 32 => ⟨S8x2048x1024, .f32⟩
  | 33 => ⟨S8x2048x1024, .f32⟩
  | 34 => ⟨S1x1024, .f32⟩
  | 35 => ⟨S1024, .f32⟩
  | 36 => ⟨S8x2048x1024, .f32⟩
  | 37 => ⟨S1x1x1024, .f32⟩
  | 38 => ⟨S8x2048x1024, .f32⟩
  | 39 => ⟨S8x2048x1024, .f32⟩
  | 40 => ⟨S8x2048x1024, .f32⟩
  | 41 => ⟨S1x1024, .f32⟩
  | 42 => ⟨S1024, .f32⟩
  | 43 => ⟨S8x2048x1024, .f32⟩
  | 44 => ⟨S1x1x1024, .f32⟩
  | 45 => ⟨S8x2048x1024, .f32⟩
  | 46 => ⟨S8x2048x1024, .f32⟩
  | 47 => ⟨S8x2048x1024, .f32⟩
  | 48 => ⟨S1x1024, .f32⟩
  | 49 => ⟨S1024, .f32⟩
  | 50 => ⟨S8x2048x1024, .f32⟩
  | 51 => ⟨S1x1x1024, .f32⟩
  | 52 => ⟨S8x2048x1024, .f32⟩
  | 53 => ⟨S8x2048x1024, .f32⟩
  | 54 => ⟨S8x2048x1024, .f32⟩
  | 55 => ⟨S1x1024, .f32⟩
  | 56 => ⟨S1024, .f32⟩
  | 57 => ⟨S8x2048x1024, .f32⟩
  | 58 => ⟨S1x1x1024, .f32⟩
  | 59 => ⟨S8x2048x1024, .f32⟩
  | 60 => ⟨S8x2048x1024, .f32⟩
  | 61 => ⟨S8x2048x1024, .f32⟩
  | 62 => ⟨S1x1024, .f32⟩
  | 63 => ⟨S1024, .f32⟩
  | 64 => ⟨S8x2048x1024, .f32⟩
  | 65 => ⟨S1x1x1024, .f32⟩
  | 66 => ⟨S8x2048x1024, .f32⟩
  | 67 => ⟨S8x2048x1024, .f32⟩
  | 68 => ⟨S8x2048x1024, .f32⟩
  | 69 => ⟨S1x1024, .f32⟩
  | 70 => ⟨S1024, .f32⟩
  | 71 => ⟨S8x2048x1024, .f32⟩
  | 72 => ⟨S1x1x1024, .f32⟩
  | 73 => ⟨S8x2048x1024, .f32⟩
  | 74 => ⟨S8x2048x1024, .f32⟩
  | 75 => ⟨S8x2048x1024, .f32⟩
  | 76 => ⟨S1x1024, .f32⟩
  | 77 => ⟨S1024, .f32⟩
  | 78 => ⟨S8x2048x1024, .f32⟩
  | 79 => ⟨S1x1x1024, .f32⟩
  | 80 => ⟨S8x2048x1024, .f32⟩
  | 81 => ⟨S8x2048x1024, .f32⟩
  | 82 => ⟨S8x2048x1024, .f32⟩
  | 83 => ⟨S1x1024, .f32⟩
  | 84 => ⟨S1024, .f32⟩
  | 85 => ⟨S8x2048x1024, .f32⟩
  | 86 => ⟨S1x1x1024, .f32⟩
  | 87 => ⟨S8x2048x1024, .f32⟩
  | 88 => ⟨S8x2048x1024, .f32⟩
  | 89 => ⟨S8x2048x1024, .f32⟩
  | 90 => ⟨S1x1024, .f32⟩
  | 91 => ⟨S1024, .f32⟩
  | 92 => ⟨S8x2048x1024, .f32⟩
  | 93 => ⟨S1x1x1024, .f32⟩
  | 94 => ⟨S8x2048x1024, .f32⟩
  | 95 => ⟨S8x2048x1024, .f32⟩
  | 96 => ⟨S8x2048x1024, .f32⟩
  | 97 => ⟨S1x1024, .f32⟩
  | 98 => ⟨S1024, .f32⟩
  | 99 => ⟨S8x2048x1024, .f32⟩
  | 100 => ⟨S1x1x1024, .f32⟩
  | 101 => ⟨S8x2048x1024, .f32⟩
  | 102 => ⟨S8x2048x1024, .f32⟩
  | 103 => ⟨S8x2048x1024, .f32⟩
  | 104 => ⟨S1x1024, .f32⟩
  | 105 => ⟨S1024, .f32⟩
  | 106 => ⟨S8x2048x1024, .f32⟩
  | 107 => ⟨S1x1x1024, .f32⟩
  | 108 => ⟨S8x2048x1024, .f32⟩
  | 109 => ⟨S8x2048x1024, .f32⟩
  | 110 => ⟨S8x2048x1024, .f32⟩
  | 111 => ⟨S1x1x1024, .f32⟩
  | 112 => ⟨S8x2048x1024, .f32⟩
  | 113 => ⟨S8x2048x1024, .f32⟩
  | 114 => ⟨S_, .f32⟩
  | 115 => ⟨S8x2048, .f32⟩
  | 116 => ⟨S8x2048x1, .f32⟩
  | 117 => ⟨S_, .f32⟩
  | 118 => ⟨S8x2048x1, .f32⟩
  | 119 => ⟨S8x2048x1, .f32⟩
  | 120 => ⟨S8x2048x1024, .f32⟩
  | 121 => ⟨S8x2048x1024, .f32⟩
  | 122 => ⟨S8x2048x1024, .f32⟩
  | 123 => ⟨S_, .f32⟩
  | 124 => ⟨S8x2048, .f32⟩
  | 125 => ⟨S8x2048x1, .f32⟩
  | 126 => ⟨S_, .f32⟩
  | 127 => ⟨S8x2048x1, .f32⟩
  | _ => ⟨S8x2048x15872, .bf16⟩

abbrev hbmTy0_2 (i : Nat) : BufTy := match i % 128 with
  | 0 => ⟨S8x2048x1, .f32⟩
  | 1 => ⟨S8x2048x1024, .f32⟩
  | 2 => ⟨S8x2048x1024, .f32⟩
  | 3 => ⟨S_, .f32⟩
  | 4 => ⟨S8x2048x1, .f32⟩
  | 5 => ⟨S8x2048x1, .f32⟩
  | 6 => ⟨S8x2048x1, .f32⟩
  | 7 => ⟨S8x2048x1024, .f32⟩
  | 8 => ⟨S8x2048x1024, .f32⟩
  | 9 => ⟨S1x1x1024, .f32⟩
  | 10 => ⟨S8x2048x1024, .f32⟩
  | 11 => ⟨S8x2048x1024, .f32⟩
  | 12 => ⟨S1x1x1024, .f32⟩
  | 13 => ⟨S8x2048x1024, .f32⟩
  | 14 => ⟨S8x2048x1024, .f32⟩
  | 15 => ⟨S8x2048x1024, .f32⟩
  | 16 => ⟨S8x2048x1024, .f32⟩
  | 17 => ⟨S_, .f32⟩
  | 18 => ⟨S8x2048x1024, .f32⟩
  | 19 => ⟨S8x2048x1024, .f32⟩
  | 20 => ⟨S_, .f32⟩
  | 21 => ⟨S8x2048x1024, .f32⟩
  | 22 => ⟨S8x2048x1024, .f32⟩
  | 23 => ⟨S8x2048x1024, .f32⟩
  | 24 => ⟨S8x2048x1024, .f32⟩
  | 25 => ⟨S8x2048x1024, .f32⟩
  | 26 => ⟨S_, .f32⟩
  | 27 => ⟨S8x2048x1024, .f32⟩
  | 28 => ⟨S8x2048x1024, .f32⟩
  | 29 => ⟨S_, .f32⟩
  | 30 => ⟨S8x2048x1024, .f32⟩
  | 31 => ⟨S8x2048x1024, .f32⟩
  | 32 => ⟨S8x2048x1024, .f32⟩
  | 33 => ⟨S8x2048x1024, .f32⟩
  | 34 => ⟨S8x2048x1024, .bf16⟩
  | _ => ⟨S8x2048x15872, .bf16⟩

abbrev hbmTy (i : Nat) : BufTy := match i / 128 with
  | 0 => hbmTy0_0 i
  | 1 => hbmTy0_1 i
  | 2 => hbmTy0_2 i
  | _ => ⟨S8x2048x15872, .bf16⟩

abbrev bufTy : (tb : Table) → Fin (tcTables nBuf tb) → BufTy
  | .hbm, ⟨i, _⟩ => hbmTy i
  | _, _ => ⟨S8x2048x15872, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_cst_1 : Ref sig .tc := ⟨.hbm, 242, rfl⟩
abbrev main_v233 : Ref sig .tc := ⟨.hbm, 243, rfl⟩
abbrev main_v234 : Ref sig .tc := ⟨.hbm, 244, rfl⟩
abbrev main_cst_2 : Ref sig .tc := ⟨.hbm, 245, rfl⟩
abbrev main_v235 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_cst_3 : Ref sig .tc := ⟨.hbm, 251, rfl⟩
abbrev main_v240 : Ref sig .tc := ⟨.hbm, 252, rfl⟩
abbrev main_v241 : Ref sig .tc := ⟨.hbm, 253, rfl⟩
abbrev main_cst_4 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_cst_5 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_v255 : Ref sig .tc := ⟨.hbm, 269, rfl⟩
abbrev main_v256 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v257 : Ref sig .tc := ⟨.hbm, 279, rfl⟩
abbrev main_call2_v0 : Ref sig .tc := ⟨.hbm, 280, rfl⟩
abbrev main_call2_v1 : Ref sig .tc := ⟨.hbm, 281, rfl⟩
abbrev main_call2_cst : Ref sig .tc := ⟨.hbm, 282, rfl⟩
abbrev main_call2_v2 : Ref sig .tc := ⟨.hbm, 283, rfl⟩
abbrev main_call2_v3 : Ref sig .tc := ⟨.hbm, 284, rfl⟩
abbrev main_call2_cst_0 : Ref sig .tc := ⟨.hbm, 285, rfl⟩
abbrev main_call2_v4 : Ref sig .tc := ⟨.hbm, 286, rfl⟩
abbrev main_call2_v5 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩

abbrev nD : Nat := 1
abbrev τ : Topo := Topo.v7x

variable {F : FTy → Type} [FloatOps F]
-- ==== NarrowK.lean ====
abbrev S16384x2048 : Shape := ⟨2, ![16384, 2048]⟩
abbrev S2048x16472 : Shape := ⟨2, ![2048, 16472]⟩
abbrev S1x2048x16472 : Shape := ⟨3, ![1, 2048, 16472]⟩
abbrev S1x2048x512 : Shape := ⟨3, ![1, 2048, 512]⟩
abbrev S2048x512 : Shape := ⟨2, ![2048, 512]⟩
abbrev S1x2048x64 : Shape := ⟨3, ![1, 2048, 64]⟩
abbrev S2048x64 : Shape := ⟨2, ![2048, 64]⟩
abbrev S1x2048x8 : Shape := ⟨3, ![1, 2048, 8]⟩
abbrev S2048x8 : Shape := ⟨2, ![2048, 8]⟩
abbrev S_ : Shape := ⟨0, ![]⟩
abbrev S2048x40 : Shape := ⟨2, ![2048, 40]⟩
abbrev S2048x640 : Shape := ⟨2, ![2048, 640]⟩
abbrev S16384x640 : Shape := ⟨2, ![16384, 640]⟩
abbrev S1024x2048 : Shape := ⟨2, ![1024, 2048]⟩
abbrev S1024x640 : Shape := ⟨2, ![1024, 640]⟩

abbrev nBuf : Space → Nat
  | .hbm => 22
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x16472, .f32⟩
  | .hbm, ⟨2, _⟩ => ⟨S1x2048x16472, .f32⟩
  | .hbm, ⟨3, _⟩ => ⟨S1x2048x512, .f32⟩
  | .hbm, ⟨4, _⟩ => ⟨S2048x512, .f32⟩
  | .hbm, ⟨5, _⟩ => ⟨S2048x512, .bf16⟩
  | .hbm, ⟨6, _⟩ => ⟨S1x2048x64, .f32⟩
  | .hbm, ⟨7, _⟩ => ⟨S2048x64, .f32⟩
  | .hbm, ⟨8, _⟩ => ⟨S2048x64, .bf16⟩
  | .hbm, ⟨9, _⟩ => ⟨S1x2048x8, .f32⟩
  | .hbm, ⟨10, _⟩ => ⟨S2048x8, .f32⟩
  | .hbm, ⟨11, _⟩ => ⟨S2048x8, .bf16⟩
  | .hbm, ⟨12, _⟩ => ⟨S1x2048x8, .f32⟩
  | .hbm, ⟨13, _⟩ => ⟨S2048x8, .f32⟩
  | .hbm, ⟨14, _⟩ => ⟨S2048x8, .bf16⟩
  | .hbm, ⟨15, _⟩ => ⟨S1x2048x8, .f32⟩
  | .hbm, ⟨16, _⟩ => ⟨S2048x8, .f32⟩
  | .hbm, ⟨17, _⟩ => ⟨S2048x8, .bf16⟩
  | .hbm, ⟨18, _⟩ => ⟨S_, .bf16⟩
  | .hbm, ⟨19, _⟩ => ⟨S2048x40, .bf16⟩
  | .hbm, ⟨20, _⟩ => ⟨S2048x640, .bf16⟩
  | .hbm, ⟨21, _⟩ => ⟨S16384x640, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S1024x640, .f32⟩
  | .local _ .vmem, ⟨4, _⟩ => ⟨S1024x640, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NarrowRIdeal.lean ====
abbrev S16384x2048 : Shape := ⟨2, ![16384, 2048]⟩
abbrev S2048x16472 : Shape := ⟨2, ![2048, 16472]⟩
abbrev S16384x16472 : Shape := ⟨2, ![16384, 16472]⟩
abbrev S16384x3072 : Shape := ⟨2, ![16384, 3072]⟩
abbrev S16384x1024 : Shape := ⟨2, ![16384, 1024]⟩
abbrev S16384x8 : Shape := ⟨2, ![16384, 8]⟩
abbrev S16384x256 : Shape := ⟨2, ![16384, 256]⟩
abbrev S16384x512 : Shape := ⟨2, ![16384, 512]⟩
abbrev S16384x64 : Shape := ⟨2, ![16384, 64]⟩
abbrev S16384x6144 : Shape := ⟨2, ![16384, 6144]⟩
abbrev S16384x600 : Shape := ⟨2, ![16384, 600]⟩
abbrev S_ : Shape := ⟨0, ![]⟩
abbrev S16384x640 : Shape := ⟨2, ![16384, 640]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x16472, .f32⟩
  | .hbm, ⟨2, _⟩ => ⟨S16384x2048, .f32⟩
  | .hbm, ⟨3, _⟩ => ⟨S16384x16472, .f32⟩
  | .hbm, ⟨4, _⟩ => ⟨S16384x3072, .f32⟩
  | .hbm, ⟨5, _⟩ => ⟨S16384x1024, .f32⟩
  | .hbm, ⟨6, _⟩ => ⟨S16384x8, .f32⟩
  | .hbm, ⟨7, _⟩ => ⟨S16384x8, .f32⟩
  | .hbm, ⟨8, _⟩ => ⟨S16384x2048, .f32⟩
  | .hbm, ⟨9, _⟩ => ⟨S16384x1024, .f32⟩
  | .hbm, ⟨10, _⟩ => ⟨S16384x1024, .f32⟩
  | .hbm, ⟨11, _⟩ => ⟨S16384x256, .f32⟩
  | .hbm, ⟨12, _⟩ => ⟨S16384x256, .f32⟩
  | .hbm, ⟨13, _⟩ => ⟨S16384x1024, .f32⟩
  | .hbm, ⟨14, _⟩ => ⟨S16384x512, .f32⟩
  | .hbm, ⟨15, _⟩ => ⟨S16384x64, .f32⟩
  | .hbm, ⟨16, _⟩ => ⟨S16384x8, .f32⟩
  | .hbm, ⟨17, _⟩ => ⟨S16384x6144, .f32⟩
  | .hbm, ⟨18, _⟩ => ⟨S16384x600, .f32⟩
  | .hbm, ⟨19, _⟩ => ⟨S_, .i32⟩
  | .hbm, ⟨20, _⟩ => ⟨S_, .f32⟩
  | .hbm, ⟨21, _⟩ => ⟨S16384x640, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== NormK.lean ====
abbrev S8x2048x2048 : Shape := ⟨3, ![8, 2048, 2048]⟩
abbrev S2048 : Shape := ⟨1, ![2048]⟩
abbrev S8x6144 : Shape := ⟨2, ![8, 6144]⟩
abbrev S1x2048 : Shape := ⟨2, ![1, 2048]⟩
abbrev S8x1x6144 : Shape := ⟨3, ![8, 1, 6144]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x6144, .f32⟩
  | .hbm, ⟨3, _⟩ => ⟨S1x2048, .f32⟩
  | .hbm, ⟨4, _⟩ => ⟨S8x1x6144, .f32⟩
  | .hbm, ⟨5, _⟩ => ⟨S8x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NormRIdeal.lean ====
abbrev S8x2048x2048 : Shape := ⟨3, ![8, 2048, 2048]⟩
abbrev S2048 : Shape := ⟨1, ![2048]⟩
abbrev S8x6144 : Shape := ⟨2, ![8, 6144]⟩
abbrev S8x1x6144 : Shape := ⟨3, ![8, 1, 6144]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x6144, .f32⟩
  | .hbm, ⟨3, _⟩ => ⟨S8x1x6144, .f32⟩
  | .hbm, ⟨4, _⟩ => ⟨S8x1x2048, .f32⟩
  | .hbm, ⟨5, _⟩ => ⟨S8x1x2048, .f32⟩
  | .hbm, ⟨6, _⟩ => ⟨S8x1x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== AdaK.lean ====
abbrev S8x2048 : Shape := ⟨2, ![8, 2048]⟩
abbrev S4x2048x6144 : Shape := ⟨3, ![4, 2048, 6144]⟩
abbrev S4x6144 : Shape := ⟨2, ![4, 6144]⟩
abbrev S4x1x6144 : Shape := ⟨3, ![4, 1, 6144]⟩
abbrev S4x8x6144 : Shape := ⟨3, ![4, 8, 6144]⟩
abbrev S1x2048x512 : Shape := ⟨3, ![1, 2048, 512]⟩
abbrev S1x1x512 : Shape := ⟨3, ![1, 1, 512]⟩
abbrev S1x8x512 : Shape := ⟨3, ![1, 8, 512]⟩
abbrev S2048x512 : Shape := ⟨2, ![2048, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x6144, .f32⟩
  | .hbm, ⟨2, _⟩ => ⟨S4x6144, .f32⟩
  | .hbm, ⟨3, _⟩ => ⟨S4x1x6144, .f32⟩
  | .hbm, ⟨4, _⟩ => ⟨S4x8x6144, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRIdeal.lean ====
abbrev S8x2048 : Shape := ⟨2, ![8, 2048]⟩
abbrev S4x2048x6144 : Shape := ⟨3, ![4, 2048, 6144]⟩
abbrev S4x6144 : Shape := ⟨2, ![4, 6144]⟩
abbrev S_ : Shape := ⟨0, ![]⟩
abbrev S1x2048x6144 : Shape := ⟨3, ![1, 2048, 6144]⟩
abbrev S2048x6144 : Shape := ⟨2, ![2048, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S4x8x6144 : Shape := ⟨3, ![4, 8, 6144]⟩

abbrev nBuf : Space → Nat
  | .hbm => 49
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x6144, .f32⟩
  | .hbm, ⟨2, _⟩ => ⟨S4x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x6144, .f32⟩
  | .hbm, ⟨13, _⟩ => ⟨S2048x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x2048x6144, .f32⟩
  | .hbm, ⟨21, _⟩ => ⟨S2048x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x2048x6144, .f32⟩
  | .hbm, ⟨29, _⟩ => ⟨S2048x6144, .f32⟩
  | .hbm, ⟨30, _⟩ => ⟨S8x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S8x6144, .f32⟩
  | .hbm, ⟨35, _⟩ => ⟨S8x6144, .f32⟩
  | .hbm, ⟨36, _⟩ => ⟨S1x2048x6144, .f32⟩
  | .hbm, ⟨37, _⟩ => ⟨S2048x6144, .f32⟩
  | .hbm, ⟨38, _⟩ => ⟨S8x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S8x6144, .f32⟩
  | .hbm, ⟨43, _⟩ => ⟨S8x6144, .f32⟩
  | .hbm, ⟨44, _⟩ => ⟨S1x8x6144, .f32⟩
  | .hbm, ⟨45, _⟩ => ⟨S1x8x6144, .f32⟩
  | .hbm, ⟨46, _⟩ => ⟨S1x8x6144, .f32⟩
  | .hbm, ⟨47, _⟩ => ⟨S1x8x6144, .f32⟩
  | .hbm, ⟨48, _⟩ => ⟨S4x8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== BiasK.lean ====
abbrev S32x8 : Shape := ⟨2, ![32, 8]⟩
abbrev S4x8x256x128 : Shape := ⟨4, ![4, 8, 256, 128]⟩
abbrev S256x128 : Shape := ⟨2, ![256, 128]⟩
abbrev S1x1 : Shape := ⟨2, ![1, 1]⟩
abbrev S1x1x256x128 : Shape := ⟨4, ![1, 1, 256, 128]⟩

abbrev nBuf : Space → Nat
  | .hbm => 2
  | .vmem => 1
  | .smem => 1
  | _ => 0

abbrev bufTy : (tb : Table) → Fin (tcTables nBuf tb) → BufTy
  | .hbm, ⟨0, _⟩ => ⟨S32x8, .f32⟩
  | .hbm, ⟨1, _⟩ => ⟨S4x8x256x128, .f32⟩
  | .local _ .vmem, ⟨0, _⟩ => ⟨S4x8x256x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BiasRIdeal.lean ====
abbrev S32x8 : Shape := ⟨2, ![32, 8]⟩
abbrev S4 : Shape := ⟨1, ![4]⟩
abbrev S_ : Shape := ⟨0, ![]⟩
abbrev S256 : Shape := ⟨1, ![256]⟩
abbrev S1x256x1 : Shape := ⟨3, ![1, 256, 1]⟩
abbrev S128 : Shape := ⟨1, ![128]⟩
abbrev S1x1x128 : Shape := ⟨3, ![1, 1, 128]⟩
abbrev S1x256x128 : Shape := ⟨3, ![1, 256, 128]⟩
abbrev S4x1x1 : Shape := ⟨3, ![4, 1, 1]⟩
abbrev S4x256x128 : Shape := ⟨3, ![4, 256, 128]⟩
abbrev S4x256x128x1 : Shape := ⟨4, ![4, 256, 128, 1]⟩
abbrev S4x256x128x8 : Shape := ⟨4, ![4, 256, 128, 8]⟩
abbrev S4x8x256x128 : Shape := ⟨4, ![4, 8, 256, 128]⟩

abbrev nBuf : Space → Nat
  | .hbm => 67
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S256, .i32⟩
  | .hbm, ⟨9, _⟩ => ⟨S1x256x1, .i32⟩
  | .hbm, ⟨10, _⟩ => ⟨S128, .i32⟩
  | .hbm, ⟨11, _⟩ => ⟨S1x1x128, .i32⟩
  | .hbm, ⟨12, _⟩ => ⟨S1x256x128, .i32⟩
  | .hbm, ⟨13, _⟩ => ⟨S1x256x128, .i32⟩
  | .hbm, ⟨14, _⟩ => ⟨S1x256x128, .i32⟩
  | .hbm, ⟨15, _⟩ => ⟨S4x1x1, .i32⟩
  | .hbm, ⟨16, _⟩ => ⟨S4x256x128, .i32⟩
  | .hbm, ⟨17, _⟩ => ⟨S4x256x128, .i32⟩
  | .hbm, ⟨18, _⟩ => ⟨S4x256x128, .i32⟩
  | .hbm, ⟨19, _⟩ => ⟨S_, .i32⟩
  | .hbm, ⟨20, _⟩ => ⟨S4x256x128, .i32⟩
  | .hbm, ⟨21, _⟩ => ⟨S4x256x128, .i1⟩
  | .hbm, ⟨22, _⟩ => ⟨S_, .i32⟩
  | .hbm, ⟨23, _⟩ => ⟨S_, .i32⟩
  | .hbm, ⟨24, _⟩ => ⟨S4x256x128, .i32⟩
  | .hbm, ⟨25, _⟩ => ⟨S4x256x128, .i32⟩
  | .hbm, ⟨26, _⟩ => ⟨S4x256x128, .i32⟩
  | .hbm, ⟨27, _⟩ => ⟨S4x256x128, .i32⟩
  | .hbm, ⟨28, _⟩ => ⟨S_, .i32⟩
  | .hbm, ⟨29, _⟩ => ⟨S4x256x128, .i32⟩
  | .hbm, ⟨30, _⟩ => ⟨S4x256x128, .i32⟩
  | .hbm, ⟨31, _⟩ => ⟨S4x256x128, .f32⟩
  | .hbm, ⟨32, _⟩ => ⟨S_, .f32⟩
  | .hbm, ⟨33, _⟩ => ⟨S4x256x128, .f32⟩
  | .hbm, ⟨34, _⟩ => ⟨S4x256x128, .f32⟩
  | .hbm, ⟨35, _⟩ => ⟨S4x256x128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4x256x128, .f32⟩
  | .hbm, ⟨40, _⟩ => ⟨S4x256x128, .f32⟩
  | .hbm, ⟨41, _⟩ => ⟨S_, .f32⟩
  | .hbm, ⟨42, _⟩ => ⟨S4x256x128, .f32⟩
  | .hbm, ⟨43, _⟩ => ⟨S4x256x128, .f32⟩
  | .hbm, ⟨44, _⟩ => ⟨S4x256x128, .i32⟩
  | .hbm, ⟨45, _⟩ => ⟨S_, .i32⟩
  | .hbm, ⟨46, _⟩ => ⟨S4x256x128, .i32⟩
  | .hbm, ⟨47, _⟩ => ⟨S4x256x128, .i32⟩
  | .hbm, ⟨48, _⟩ => ⟨S_, .i32⟩
  | .hbm, ⟨49, _⟩ => ⟨S4x256x128, .i32⟩
  | .hbm, ⟨50, _⟩ => ⟨S4x256x128, .i32⟩
  | .hbm, ⟨51, _⟩ => ⟨S_, .i32⟩
  | .hbm, ⟨52, _⟩ => ⟨S4x256x128, .i32⟩
  | .hbm, ⟨53, _⟩ => ⟨S4x256x128, .i1⟩
  | .hbm, ⟨54, _⟩ => ⟨S4x256x128, .i32⟩
  | .hbm, ⟨55, _⟩ => ⟨S4x256x128, .i32⟩
  | .hbm, ⟨56, _⟩ => ⟨S4x256x128, .i32⟩
  | .hbm, ⟨57, _⟩ => ⟨S_, .i32⟩
  | .hbm, ⟨58, _⟩ => ⟨S4x256x128, .i32⟩
  | .hbm, ⟨59, _⟩ => ⟨S4x256x128, .i1⟩
  | .hbm, ⟨60, _⟩ => ⟨S_, .i32⟩
  | .hbm, ⟨61, _⟩ => ⟨S4x256x128, .i32⟩
  | .hbm, ⟨62, _⟩ => ⟨S4x256x128, .i32⟩
  | .hbm, ⟨63, _⟩ => ⟨S4x256x128, .i32⟩
  | .hbm, ⟨64, _⟩ => ⟨S4x256x128x1, .i32⟩
  | .hbm, ⟨65, _⟩ => ⟨S4x256x128x8, .f32⟩
  | .hbm, ⟨66, _⟩ => ⟨S4x8x256x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_c_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_10 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== GdnK.lean ====
abbrev S8x2048x15872 : Shape := ⟨3, ![8, 2048, 15872]⟩
abbrev S8x2048x640 : Shape := ⟨3, ![8, 2048, 640]⟩
abbrev S4x3072 : Shape := ⟨2, ![4, 3072]⟩
abbrev S8 : Shape := ⟨1, ![8]⟩
abbrev S128 : Shape := ⟨1, ![128]⟩
abbrev S8x1 : Shape := ⟨2, ![8, 1]⟩
abbrev S8x2 : Shape := ⟨2, ![8, 2]⟩
abbrev S8x2048x8 : Shape := ⟨3, ![8, 2048, 8]⟩
abbrev S8x8x2048 : Shape := ⟨3, ![8, 8, 2048]⟩
abbrev S8x8x32x64 : Shape := ⟨4, ![8, 8, 32, 64]⟩
abbrev S1x128 : Shape := ⟨2, ![1, 128]⟩
abbrev S8x2048x1024 : Shape := ⟨3, ![8, 2048, 1024]⟩
abbrev S1x2048x256 : Shape := ⟨3, ![1, 2048, 256]⟩
abbrev S4x256 : Shape := ⟨2, ![4, 256]⟩
abbrev S1x2x32x64 : Shape := ⟨4, ![1, 2, 32, 64]⟩
abbrev S2056x128 : Shape := ⟨2, ![2056, 128]⟩
abbrev S2x2048x128 : Shape := ⟨3, ![2, 2048, 128]⟩
abbrev S2x32x64 : Shape := ⟨3, ![2, 32, 64]⟩
abbrev S2x32x192x128 : Shape := ⟨4, ![2, 32, 192, 128]⟩
abbrev S2x32x128x128 : Shape := ⟨4, ![2, 32, 128, 128]⟩
abbrev S64x64 : Shape := ⟨2, ![64, 64]⟩
abbrev S8x128 : Shape := ⟨2, ![8, 128]⟩
abbrev S1x2048x128 : Shape := ⟨3, ![1, 2048, 128]⟩
abbrev S2048x128 : Shape := ⟨2, ![2048, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x1 : Shape := ⟨2, ![1, 1]⟩
abbrev S32x64 : Shape := ⟨2, ![32, 64]⟩
abbrev S1x1x32x64 : Shape := ⟨4, ![1, 1, 32, 64]⟩
abbrev S1x32x64 : Shape := ⟨3, ![1, 32, 64]⟩
abbrev S1x64x128 : Shape := ⟨3, ![1, 64, 128]⟩
abbrev S64x128 : Shape := ⟨2, ![64, 128]⟩
abbrev S1x1x64 : Shape := ⟨3, ![1, 1, 64]⟩
abbrev S1x64 : Shape := ⟨2, ![1, 64]⟩
abbrev S64 : Shape := ⟨1, ![64]⟩
abbrev S64x1 : Shape := ⟨2, ![64, 1]⟩
abbrev S128x128 : Shape := ⟨2, ![128, 128]⟩
abbrev S128x64 : Shape := ⟨2, ![128, 64]⟩
abbrev S64x256 : Shape := ⟨2, ![64, 256]⟩
abbrev S128x256 : Shape := ⟨2, ![128, 256]⟩
abbrev S192x128 : Shape := ⟨2, ![192, 128]⟩
abbrev S1x1x192x128 : Shape := ⟨4, ![1, 1, 192, 128]⟩
abbrev S1x1x128x128 : Shape := ⟨4, ![1, 1, 128, 128]⟩
abbrev S1x1x1 : Shape := ⟨3, ![1, 1, 1]⟩

abbrev nBuf : Space → Nat
  | .hbm => 17
  | .vmem => 29
  | .smem => 1
  | _ => 0

abbrev bufTy : (tb : Table) → Fin (tcTables nBuf tb) → BufTy
  | .hbm, ⟨0, _⟩ => ⟨S8x2048x15872, .bf16⟩
  | .hbm, ⟨1, _⟩ => ⟨S8x2048x640, .f32⟩
  | .hbm, ⟨2, _⟩ => ⟨S4x3072, .f32⟩
  | .hbm, ⟨3, _⟩ => ⟨S8, .f32⟩
  | .hbm, ⟨4, _⟩ => ⟨S8, .f32⟩
  | .hbm, ⟨5, _⟩ => ⟨S128, .f32⟩
  | .hbm, ⟨6, _⟩ => ⟨S8x1, .f32⟩
  | .hbm, ⟨7, _⟩ => ⟨S8x1, .f32⟩
  | .hbm, ⟨8, _⟩ => ⟨S8x2, .f32⟩
  | .hbm, ⟨9, _⟩ => ⟨S8x2048x8, .f32⟩
  | .hbm, ⟨10, _⟩ => ⟨S8x8x2048, .f32⟩
  | .hbm, ⟨11, _⟩ => ⟨S8x8x32x64, .f32⟩
  | .hbm, ⟨12, _⟩ => ⟨S8x2048x8, .f32⟩
  | .hbm, ⟨13, _⟩ => ⟨S8x8x2048, .f32⟩
  | .hbm, ⟨14, _⟩ => ⟨S8x8x32x64, .f32⟩
  | .hbm, ⟨15, _⟩ => ⟨S1x128, .f32⟩
  | .hbm, ⟨16, _⟩ => ⟨S8x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S4x256, .f32⟩
  | .local _ .vmem, ⟨9, _⟩ => ⟨S4x256, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | .local _ .vmem, ⟨14, _⟩ => ⟨S1x2x32x64, .f32⟩
  | .local _ .vmem, ⟨15, _⟩ => ⟨S1x2x32x64, .f32⟩
  | .local _ .vmem, ⟨16, _⟩ => ⟨S1x2x32x64, .f32⟩
  | .local _ .vmem, ⟨17, _⟩ => ⟨S1x2x32x64, .f32⟩
  | .local _ .vmem, ⟨18, _⟩ => ⟨S1x128, .f32⟩
  | .local _ .vmem, ⟨19, _⟩ => ⟨S1x2048x256, .bf16⟩
  | .local _ .vmem, ⟨20, _⟩ => ⟨S1x2048x256, .bf16⟩
  | .local _ .vmem, ⟨21, _⟩ => ⟨S2056x128, .f32⟩
  | .local _ .vmem, ⟨22, _⟩ => ⟨S2x2048x128, .f32⟩
  | .local _ .vmem, ⟨23, _⟩ => ⟨S2x2048x128, .f32⟩
  | .local _ .vmem, ⟨24, _⟩ => ⟨S2x2048x128, .f32⟩
  | .local _ .vmem, ⟨25, _⟩ => ⟨S2x32x64, .f32⟩
  | .local _ .vmem, ⟨26, _⟩ => ⟨S2x32x64, .f32⟩
  | .local _ .vmem, ⟨27, _⟩ => ⟨S2x32x192x128, .bf16⟩
  | .local _ .vmem, ⟨28, _⟩ => ⟨S2x32x128x128, .f32⟩
  | .local _ .smem, ⟨0, _⟩ => ⟨S8x2, .f32⟩
  | _, _ => ⟨S8x2048x15872, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 4], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v956 : BitVec 32 := Scalar.addi v0 c0_i32
  let v957 : Index := Scalar.indexCast v956
  let c0_576 : Index := 0#32
  ![v957.toNat, 0]
def k0_off2 (i : grid0.Coords) (c0_i32_577 : BitVec 32) : Fin 2 → Nat :=
  let arg1 : BitVec 32 := BitVec.ofNat 32 (i 1).val
  let c2_i32 : BitVec 32 := 2#32
  let v0 : BitVec 32 := Scalar.muli arg1 c2_i32
  let v959 : BitVec 32 := Scalar.addi v0 c0_i32_577
  let v960 : Index := Scalar.indexCast v959
  let c1_578 : Index := 1#32
  ![v960.toNat, 1]
@[reducible] def k0_t1_loop : Scf.Loop 32 :=
  let c0_i32_1245 : BitVec 32 := 0#32
  let c4_i32 : BitVec 32 := 4#32
  let v2002 : BitVec 32 := Scalar.addi c0_i32_1245 c4_i32
  let c1_i32_1246 : BitVec 32 := 1#32
  ⟨c0_i32_1245, v2002, c1_i32_1246⟩
def k0_mult1 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32 : BitVec 32 := 8#32
  let v2519 : BitVec 32 := Scalar.muli arg22 c8_i32
  let c0_i32_1525 : BitVec 32 := 0#32
  let v2520 : BitVec 32 := Scalar.addi v2519 c0_i32_1525
  let c64_i32 : BitVec 32 := 64#32
  let v2551 : BitVec 32 := Scalar.muli v2520 c64_i32
  v2551
def k0_off3 (k0_t1 : Fin k0_t1_loop.trips) (c0_i32_1525 : BitVec 32) : Fin 3 → Nat :=
  let c0_1552 : Index := 0#32
  let c0_i32_1245 : BitVec 32 := 0#32
  let c1_i32_1246 : BitVec 32 := 1#32
  let arg22 : BitVec 32 := Scf.iv c0_i32_1245 c1_i32_1246 k0_t1
  let c8_i32 : BitVec 32 := 8#32
  let v2519 : BitVec 32 := Scalar.muli arg22 c8_i32
  let v2520 : BitVec 32 := Scalar.addi v2519 c0_i32_1525
  let c64_i32 : BitVec 32 := 64#32
  let v2551 : BitVec 32 := Scalar.muli v2520 c64_i32
  let v2552 : BitVec 32 := v2551
  let v2553 : Index := Scalar.indexCast v2552
  let c0_1553 : Index := 0#32
  ![0, v2553.toNat, 0]
def k0_off4 (k0_t1 : Fin k0_t1_loop.trips) (c0_i32_1525 : BitVec 32) : Fin 3 → Nat :=
  let c0_1558 : Index := 0#32
  let c0_i32_1245 : BitVec 32 := 0#32
  let c1_i32_1246 : BitVec 32 := 1#32
  let arg22 : BitVec 32 := Scf.iv c0_i32_1245 c1_i32_1246 k0_t1
  let c8_i32 : BitVec 32 := 8#32
  let v2519 : BitVec 32 := Scalar.muli arg22 c8_i32
  let v2520 : BitVec 32 := Scalar.addi v2519 c0_i32_1525
  let v2562 : Index := Scalar.indexCast v2520
  let c0_1559 : Index := 0#32
  ![0, v2562.toNat, 0]
def k0_mult2 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1526 : BitVec 32 := 8#32
  let v2521 : BitVec 32 := Scalar.muli arg22 c8_i32_1526
  let c0_i32_1527 : BitVec 32 := 0#32
  let v2522 : BitVec 32 := Scalar.addi v2521 c0_i32_1527
  let c64_i32_1562 : BitVec 32 := 64#32
  let v2568 : BitVec 32 := Scalar.muli v2522 c64_i32_1562
  v2568
def k0_off5 (k0_t1 : Fin k0_t1_loop.trips) (c0_i32_1527 : BitVec 32) : Fin 3 → Nat :=
  let c1_1563 : Index := 1#32
  let c0_i32_1245 : BitVec 32 := 0#32
  let c1_i32_1246 : BitVec 32 := 1#32
  let arg22 : BitVec 32 := Scf.iv c0_i32_1245 c1_i32_1246 k0_t1
  let c8_i32_1526 : BitVec 32 := 8#32
  let v2521 : BitVec 32 := Scalar.muli arg22 c8_i32_1526
  let v2522 : BitVec 32 := Scalar.addi v2521 c0_i32_1527
  let c64_i32_1562 : BitVec 32 := 64#32
  let v2568 : BitVec 32 := Scalar.muli v2522 c64_i32_1562
  let v2569 : BitVec 32 := v2568
  let v2570 : Index := Scalar.indexCast v2569
  let c0_1564 : Index := 0#32
  ![1, v2570.toNat, 0]
def k0_off6 (k0_t1 : Fin k0_t1_loop.trips) (c0_i32_1527 : BitVec 32) : Fin 3 → Nat :=
  let c1_1569 : Index := 1#32
  let c0_i32_1245 : BitVec 32 := 0#32
  let c1_i32_1246 : BitVec 32 := 1#32
  let arg22 : BitVec 32 := Scf.iv c0_i32_1245 c1_i32_1246 k0_t1
  let c8_i32_1526 : BitVec 32 := 8#32
  let v2521 : BitVec 32 := Scalar.muli arg22 c8_i32_1526
  let v2522 : BitVec 32 := Scalar.addi v2521 c0_i32_1527
  let v2579 : Index := Scalar.indexCast v2522
  let c0_1570 : Index := 0#32
  ![1, v2579.toNat, 0]
def k0_mult3 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1528 : BitVec 32 := 8#32
  let v2523 : BitVec 32 := Scalar.muli arg22 c8_i32_1528
  let c1_i32_1529 : BitVec 32 := 1#32
  let v2524 : BitVec 32 := Scalar.addi v2523 c1_i32_1529
  let c64_i32_1573 : BitVec 32 := 64#32
  let v2585 : BitVec 32 := Scalar.muli v2524 c64_i32_1573
  v2585
def k0_mult4 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1530 : BitVec 32 := 8#32
  let v2525 : BitVec 32 := Scalar.muli arg22 c8_i32_1530
  let c1_i32_1531 : BitVec 32 := 1#32
  let v2526 : BitVec 32 := Scalar.addi v2525 c1_i32_1531
  let c64_i32_1584 : BitVec 32 := 64#32
  let v2602 : BitVec 32 := Scalar.muli v2526 c64_i32_1584
  v2602
def k0_mult5 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1532 : BitVec 32 := 8#32
  let v2527 : BitVec 32 := Scalar.muli arg22 c8_i32_1532
  let c2_i32_1533 : BitVec 32 := 2#32
  let v2528 : BitVec 32 := Scalar.addi v2527 c2_i32_1533
  let c64_i32_1595 : BitVec 32 := 64#32
  let v2619 : BitVec 32 := Scalar.muli v2528 c64_i32_1595
  v2619
def k0_mult6 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1534 : BitVec 32 := 8#32
  let v2529 : BitVec 32 := Scalar.muli arg22 c8_i32_1534
  let c2_i32_1535 : BitVec 32 := 2#32
  let v2530 : BitVec 32 := Scalar.addi v2529 c2_i32_1535
  let c64_i32_1606 : BitVec 32 := 64#32
  let v2636 : BitVec 32 := Scalar.muli v2530 c64_i32_1606
  v2636
def k0_mult7 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1536 : BitVec 32 := 8#32
  let v2531 : BitVec 32 := Scalar.muli arg22 c8_i32_1536
  let c3_i32 : BitVec 32 := 3#32
  let v2532 : BitVec 32 := Scalar.addi v2531 c3_i32
  let c64_i32_1617 : BitVec 32 := 64#32
  let v2653 : BitVec 32 := Scalar.muli v2532 c64_i32_1617
  v2653
def k0_mult8 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1537 : BitVec 32 := 8#32
  let v2533 : BitVec 32 := Scalar.muli arg22 c8_i32_1537
  let c3_i32_1538 : BitVec 32 := 3#32
  let v2534 : BitVec 32 := Scalar.addi v2533 c3_i32_1538
  let c64_i32_1628 : BitVec 32 := 64#32
  let v2670 : BitVec 32 := Scalar.muli v2534 c64_i32_1628
  v2670
def k0_mult9 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1539 : BitVec 32 := 8#32
  let v2535 : BitVec 32 := Scalar.muli arg22 c8_i32_1539
  let c4_i32_1540 : BitVec 32 := 4#32
  let v2536 : BitVec 32 := Scalar.addi v2535 c4_i32_1540
  let c64_i32_1639 : BitVec 32 := 64#32
  let v2687 : BitVec 32 := Scalar.muli v2536 c64_i32_1639
  v2687
def k0_mult10 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1541 : BitVec 32 := 8#32
  let v2537 : BitVec 32 := Scalar.muli arg22 c8_i32_1541
  let c4_i32_1542 : BitVec 32 := 4#32
  let v2538 : BitVec 32 := Scalar.addi v2537 c4_i32_1542
  let c64_i32_1650 : BitVec 32 := 64#32
  let v2704 : BitVec 32 := Scalar.muli v2538 c64_i32_1650
  v2704
def k0_mult11 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1543 : BitVec 32 := 8#32
  let v2539 : BitVec 32 := Scalar.muli arg22 c8_i32_1543
  let c5_i32 : BitVec 32 := 5#32
  let v2540 : BitVec 32 := Scalar.addi v2539 c5_i32
  let c64_i32_1661 : BitVec 32 := 64#32
  let v2721 : BitVec 32 := Scalar.muli v2540 c64_i32_1661
  v2721
def k0_mult12 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1544 : BitVec 32 := 8#32
  let v2541 : BitVec 32 := Scalar.muli arg22 c8_i32_1544
  let c5_i32_1545 : BitVec 32 := 5#32
  let v2542 : BitVec 32 := Scalar.addi v2541 c5_i32_1545
  let c64_i32_1672 : BitVec 32 := 64#32
  let v2738 : BitVec 32 := Scalar.muli v2542 c64_i32_1672
  v2738
def k0_mult13 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1546 : BitVec 32 := 8#32
  let v2543 : BitVec 32 := Scalar.muli arg22 c8_i32_1546
  let c6_i32 : BitVec 32 := 6#32
  let v2544 : BitVec 32 := Scalar.addi v2543 c6_i32
  let c64_i32_1683 : BitVec 32 := 64#32
  let v2755 : BitVec 32 := Scalar.muli v2544 c64_i32_1683
  v2755
def k0_mult14 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1547 : BitVec 32 := 8#32
  let v2545 : BitVec 32 := Scalar.muli arg22 c8_i32_1547
  let c6_i32_1548 : BitVec 32 := 6#32
  let v2546 : BitVec 32 := Scalar.addi v2545 c6_i32_1548
  let c64_i32_1694 : BitVec 32 := 64#32
  let v2772 : BitVec 32 := Scalar.muli v2546 c64_i32_1694
  v2772
def k0_mult15 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1549 : BitVec 32 := 8#32
  let v2547 : BitVec 32 := Scalar.muli arg22 c8_i32_1549
  let c7_i32 : BitVec 32 := 7#32
  let v2548 : BitVec 32 := Scalar.addi v2547 c7_i32
  let c64_i32_1705 : BitVec 32 := 64#32
  let v2789 : BitVec 32 := Scalar.muli v2548 c64_i32_1705
  v2789
def k0_mult16 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1550 : BitVec 32 := 8#32
  let v2549 : BitVec 32 := Scalar.muli arg22 c8_i32_1550
  let c7_i32_1551 : BitVec 32 := 7#32
  let v2550 : BitVec 32 := Scalar.addi v2549 c7_i32_1551
  let c64_i32_1716 : BitVec 32 := 64#32
  let v2806 : BitVec 32 := Scalar.muli v2550 c64_i32_1716
  v2806
def k0_off7 (k0_t1 : Fin k0_t1_loop.trips) (c0_i32_1525 : BitVec 32) : Fin 4 → Nat :=
  let c0_2031 : Index := 0#32
  let c0_i32_1245 : BitVec 32 := 0#32
  let c1_i32_1246 : BitVec 32 := 1#32
  let arg22 : BitVec 32 := Scf.iv c0_i32_1245 c1_i32_1246 k0_t1
  let c8_i32 : BitVec 32 := 8#32
  let v2519 : BitVec 32 := Scalar.muli arg22 c8_i32
  let v2520 : BitVec 32 := Scalar.addi v2519 c0_i32_1525
  let v4551 : Index := Scalar.indexCast v2520
  let c0_2032 : Index := 0#32
  let c0_2033 : Index := 0#32
  ![0, v4551.toNat, 0, 0]
def k0_off8 (k0_t1 : Fin k0_t1_loop.trips) (c0_i32_1525 : BitVec 32) : Fin 4 → Nat :=
  let c0_2034 : Index := 0#32
  let c0_i32_1245 : BitVec 32 := 0#32
  let c1_i32_1246 : BitVec 32 := 1#32
  let arg22 : BitVec 32 := Scf.iv c0_i32_1245 c1_i32_1246 k0_t1
  let c8_i32 : BitVec 32 := 8#32
  let v2519 : BitVec 32 := Scalar.muli arg22 c8_i32
  let v2520 : BitVec 32 := Scalar.addi v2519 c0_i32_1525
  let v4555 : Index := Scalar.indexCast v2520
  let c0_2035 : Index := 0#32
  let c0_2036 : Index := 0#32
  ![0, v4555.toNat, 0, 0]
def k0_mult17 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32 : BitVec 32 := 8#32
  let v2519 : BitVec 32 := Scalar.muli arg22 c8_i32
  let c0_i32_1525 : BitVec 32 := 0#32
  let v2520 : BitVec 32 := Scalar.addi v2519 c0_i32_1525
  let c64_i32_2037 : BitVec 32 := 64#32
  let v4559 : BitVec 32 := Scalar.muli v2520 c64_i32_2037
  v4559
def k0_off9 (k0_t1 : Fin k0_t1_loop.trips) (c0_i32_1527 : BitVec 32) : Fin 4 → Nat :=
  let c1_2040 : Index := 1#32
  let c0_i32_1245 : BitVec 32 := 0#32
  let c1_i32_1246 : BitVec 32 := 1#32
  let arg22 : BitVec 32 := Scf.iv c0_i32_1245 c1_i32_1246 k0_t1
  let c8_i32_1526 : BitVec 32 := 8#32
  let v2521 : BitVec 32 := Scalar.muli arg22 c8_i32_1526
  let v2522 : BitVec 32 := Scalar.addi v2521 c0_i32_1527
  let v4565 : Index := Scalar.indexCast v2522
  let c0_2041 : Index := 0#32
  let c0_2042 : Index := 0#32
  ![1, v4565.toNat, 0, 0]
def k0_off10 (k0_t1 : Fin k0_t1_loop.trips) (c0_i32_1527 : BitVec 32) : Fin 4 → Nat :=
  let c1_2043 : Index := 1#32
  let c0_i32_1245 : BitVec 32 := 0#32
  let c1_i32_1246 : BitVec 32 := 1#32
  let arg22 : BitVec 32 := Scf.iv c0_i32_1245 c1_i32_1246 k0_t1
  let c8_i32_1526 : BitVec 32 := 8#32
  let v2521 : BitVec 32 := Scalar.muli arg22 c8_i32_1526
  let v2522 : BitVec 32 := Scalar.addi v2521 c0_i32_1527
  let v4569 : Index := Scalar.indexCast v2522
  let c0_2044 : Index := 0#32
  let c0_2045 : Index := 0#32
  ![1, v4569.toNat, 0, 0]
def k0_mult18 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1526 : BitVec 32 := 8#32
  let v2521 : BitVec 32 := Scalar.muli arg22 c8_i32_1526
  let c0_i32_1527 : BitVec 32 := 0#32
  let v2522 : BitVec 32 := Scalar.addi v2521 c0_i32_1527
  let c64_i32_2046 : BitVec 32 := 64#32
  let v4573 : BitVec 32 := Scalar.muli v2522 c64_i32_2046
  v4573
def k0_mult19 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1528 : BitVec 32 := 8#32
  let v2523 : BitVec 32 := Scalar.muli arg22 c8_i32_1528
  let c1_i32_1529 : BitVec 32 := 1#32
  let v2524 : BitVec 32 := Scalar.addi v2523 c1_i32_1529
  let c64_i32_2055 : BitVec 32 := 64#32
  let v4587 : BitVec 32 := Scalar.muli v2524 c64_i32_2055
  v4587
def k0_mult20 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1530 : BitVec 32 := 8#32
  let v2525 : BitVec 32 := Scalar.muli arg22 c8_i32_1530
  let c1_i32_1531 : BitVec 32 := 1#32
  let v2526 : BitVec 32 := Scalar.addi v2525 c1_i32_1531
  let c64_i32_2064 : BitVec 32 := 64#32
  let v4601 : BitVec 32 := Scalar.muli v2526 c64_i32_2064
  v4601
def k0_mult21 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1532 : BitVec 32 := 8#32
  let v2527 : BitVec 32 := Scalar.muli arg22 c8_i32_1532
  let c2_i32_1533 : BitVec 32 := 2#32
  let v2528 : BitVec 32 := Scalar.addi v2527 c2_i32_1533
  let c64_i32_2073 : BitVec 32 := 64#32
  let v4615 : BitVec 32 := Scalar.muli v2528 c64_i32_2073
  v4615
def k0_mult22 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1534 : BitVec 32 := 8#32
  let v2529 : BitVec 32 := Scalar.muli arg22 c8_i32_1534
  let c2_i32_1535 : BitVec 32 := 2#32
  let v2530 : BitVec 32 := Scalar.addi v2529 c2_i32_1535
  let c64_i32_2082 : BitVec 32 := 64#32
  let v4629 : BitVec 32 := Scalar.muli v2530 c64_i32_2082
  v4629
def k0_mult23 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1536 : BitVec 32 := 8#32
  let v2531 : BitVec 32 := Scalar.muli arg22 c8_i32_1536
  let c3_i32 : BitVec 32 := 3#32
  let v2532 : BitVec 32 := Scalar.addi v2531 c3_i32
  let c64_i32_2091 : BitVec 32 := 64#32
  let v4643 : BitVec 32 := Scalar.muli v2532 c64_i32_2091
  v4643
def k0_mult24 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1537 : BitVec 32 := 8#32
  let v2533 : BitVec 32 := Scalar.muli arg22 c8_i32_1537
  let c3_i32_1538 : BitVec 32 := 3#32
  let v2534 : BitVec 32 := Scalar.addi v2533 c3_i32_1538
  let c64_i32_2100 : BitVec 32 := 64#32
  let v4657 : BitVec 32 := Scalar.muli v2534 c64_i32_2100
  v4657
def k0_mult25 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1539 : BitVec 32 := 8#32
  let v2535 : BitVec 32 := Scalar.muli arg22 c8_i32_1539
  let c4_i32_1540 : BitVec 32 := 4#32
  let v2536 : BitVec 32 := Scalar.addi v2535 c4_i32_1540
  let c64_i32_2109 : BitVec 32 := 64#32
  let v4671 : BitVec 32 := Scalar.muli v2536 c64_i32_2109
  v4671
def k0_mult26 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1541 : BitVec 32 := 8#32
  let v2537 : BitVec 32 := Scalar.muli arg22 c8_i32_1541
  let c4_i32_1542 : BitVec 32 := 4#32
  let v2538 : BitVec 32 := Scalar.addi v2537 c4_i32_1542
  let c64_i32_2118 : BitVec 32 := 64#32
  let v4685 : BitVec 32 := Scalar.muli v2538 c64_i32_2118
  v4685
def k0_mult27 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1543 : BitVec 32 := 8#32
  let v2539 : BitVec 32 := Scalar.muli arg22 c8_i32_1543
  let c5_i32 : BitVec 32 := 5#32
  let v2540 : BitVec 32 := Scalar.addi v2539 c5_i32
  let c64_i32_2127 : BitVec 32 := 64#32
  let v4699 : BitVec 32 := Scalar.muli v2540 c64_i32_2127
  v4699
def k0_mult28 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1544 : BitVec 32 := 8#32
  let v2541 : BitVec 32 := Scalar.muli arg22 c8_i32_1544
  let c5_i32_1545 : BitVec 32 := 5#32
  let v2542 : BitVec 32 := Scalar.addi v2541 c5_i32_1545
  let c64_i32_2136 : BitVec 32 := 64#32
  let v4713 : BitVec 32 := Scalar.muli v2542 c64_i32_2136
  v4713
def k0_mult29 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1546 : BitVec 32 := 8#32
  let v2543 : BitVec 32 := Scalar.muli arg22 c8_i32_1546
  let c6_i32 : BitVec 32 := 6#32
  let v2544 : BitVec 32 := Scalar.addi v2543 c6_i32
  let c64_i32_2145 : BitVec 32 := 64#32
  let v4727 : BitVec 32 := Scalar.muli v2544 c64_i32_2145
  v4727
def k0_mult30 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1547 : BitVec 32 := 8#32
  let v2545 : BitVec 32 := Scalar.muli arg22 c8_i32_1547
  let c6_i32_1548 : BitVec 32 := 6#32
  let v2546 : BitVec 32 := Scalar.addi v2545 c6_i32_1548
  let c64_i32_2154 : BitVec 32 := 64#32
  let v4741 : BitVec 32 := Scalar.muli v2546 c64_i32_2154
  v4741
def k0_mult31 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1549 : BitVec 32 := 8#32
  let v2547 : BitVec 32 := Scalar.muli arg22 c8_i32_1549
  let c7_i32 : BitVec 32 := 7#32
  let v2548 : BitVec 32 := Scalar.addi v2547 c7_i32
  let c64_i32_2163 : BitVec 32 := 64#32
  let v4755 : BitVec 32 := Scalar.muli v2548 c64_i32_2163
  v4755
def k0_mult32 (k0_t1 : Fin k0_t1_loop.trips) : BitVec 32 :=
  let c0_i32_1245 : BitVec 32 := 0#32
  let c1_i32_1246 : BitVec 32 := 1#32
  let arg22 : BitVec 32 := Scf.iv c0_i32_1245 c1_i32_1246 k0_t1
  let c8_i32_1550 : BitVec 32 := 8#32
  let v2549 : BitVec 32 := Scalar.muli arg22 c8_i32_1550
  let c7_i32_1551 : BitVec 32 := 7#32
  let v2550 : BitVec 32 := Scalar.addi v2549 c7_i32_1551
  let c64_i32_2172 : BitVec 32 := 64#32
  let v4769 : BitVec 32 := Scalar.muli v2550 c64_i32_2172
  v4769
@[reducible] def k0_t2_loop : Scf.Loop 32 :=
  let c0_i32_1250 : BitVec 32 := 0#32
  let c32_i32 : BitVec 32 := 32#32
  let v2005 : BitVec 32 := Scalar.addi c0_i32_1250 c32_i32
  let c1_i32_1251 : BitVec 32 := 1#32
  ⟨c0_i32_1250, v2005, c1_i32_1251⟩
def k0_mult33 (k0_t2 : Fin k0_t2_loop.trips) : BitVec 32 :=
  let c0_i32_1250 : BitVec 32 := 0#32
  let c1_i32_1251 : BitVec 32 := 1#32
  let arg22 : BitVec 32 := Scf.iv c0_i32_1250 c1_i32_1251 k0_t2
  let c64_i32 : BitVec 32 := 64#32
  let v2519 : BitVec 32 := Scalar.muli arg22 c64_i32
  v2519
def k0_off11 (k0_t2 : Fin k0_t2_loop.trips) : Fin 4 → Nat :=
  let c0_1525 : Index := 0#32
  let c0_i32_1250 : BitVec 32 := 0#32
  let c1_i32_1251 : BitVec 32 := 1#32
  let arg22 : BitVec 32 := Scf.iv c0_i32_1250 c1_i32_1251 k0_t2
  let v2521 : Index := Scalar.indexCast arg22
  let c0_1526 : Index := 0#32
  let c0_1527 : Index := 0#32
  ![0, v2521.toNat, 0, 0]
def k0_off12 (k0_t2 : Fin k0_t2_loop.trips) : Fin 4 → Nat :=
  let c0_1528 : Index := 0#32
  let c0_i32_1250 : BitVec 32 := 0#32
  let c1_i32_1251 : BitVec 32 := 1#32
  let arg22 : BitVec 32 := Scf.iv c0_i32_1250 c1_i32_1251 k0_t2
  let v2524 : Index := Scalar.indexCast arg22
  let c0_1529 : Index := 0#32
  let c0_1530 : Index := 0#32
  ![0, v2524.toNat, 0, 0]
def k0_off13 (k0_t2 : Fin k0_t2_loop.trips) : Fin 3 → Nat :=
  let c0_1531 : Index := 0#32
  let c0_i32_1250 : BitVec 32 := 0#32
  let c1_i32_1251 : BitVec 32 := 1#32
  let arg22 : BitVec 32 := Scf.iv c0_i32_1250 c1_i32_1251 k0_t2
  let c64_i32 : BitVec 32 := 64#32
  let v2519 : BitVec 32 := Scalar.muli arg22 c64_i32
  let v2520 : BitVec 32 := v2519
  let v2527 : Index := Scalar.indexCast v2520
  let c0_1532 : Index := 0#32
  ![0, v2527.toNat, 0]
def k0_off14 (k0_t2 : Fin k0_t2_loop.trips) : Fin 3 → Nat :=
  let c0_1533 : Index := 0#32
  let c0_i32_1250 : BitVec 32 := 0#32
  let c1_i32_1251 : BitVec 32 := 1#32
  let arg22 : BitVec 32 := Scf.iv c0_i32_1250 c1_i32_1251 k0_t2
  let v2530 : Index := Scalar.indexCast arg22
  let c63 : Index := 63#32
  ![0, v2530.toNat, 63]
def k0_off15 (k0_t2 : Fin k0_t2_loop.trips) : Fin 4 → Nat :=
  let c1_1534 : Index := 1#32
  let c0_i32_1250 : BitVec 32 := 0#32
  let c1_i32_1251 : BitVec 32 := 1#32
  let arg22 : BitVec 32 := Scf.iv c0_i32_1250 c1_i32_1251 k0_t2
  let v2533 : Index := Scalar.indexCast arg22
  let c0_1535 : Index := 0#32
  let c0_1536 : Index := 0#32
  ![1, v2533.toNat, 0, 0]
def k0_off16 (k0_t2 : Fin k0_t2_loop.trips) : Fin 4 → Nat :=
  let c1_1537 : Index := 1#32
  let c0_i32_1250 : BitVec 32 := 0#32
  let c1_i32_1251 : BitVec 32 := 1#32
  let arg22 : BitVec 32 := Scf.iv c0_i32_1250 c1_i32_1251 k0_t2
  let v2536 : Index := Scalar.indexCast arg22
  let c0_1538 : Index := 0#32
  let c0_1539 : Index := 0#32
  ![1, v2536.toNat, 0, 0]
def k0_off17 (k0_t2 : Fin k0_t2_loop.trips) : Fin 3 → Nat :=
  let c1_1540 : Index := 1#32
  let c0_i32_1250 : BitVec 32 := 0#32
  let c1_i32_1251 : BitVec 32 := 1#32
  let arg22 : BitVec 32 := Scf.iv c0_i32_1250 c1_i32_1251 k0_t2
  let c64_i32 : BitVec 32 := 64#32
  let v2519 : BitVec 32 := Scalar.muli arg22 c64_i32
  let v2520 : BitVec 32 := v2519
  let v2539 : Index := Scalar.indexCast v2520
  let c0_1541 : Index := 0#32
  ![1, v2539.toNat, 0]
def k0_off18 (k0_t2 : Fin k0_t2_loop.trips) : Fin 3 → Nat :=
  let c1_1542 : Index := 1#32
  let c0_i32_1250 : BitVec 32 := 0#32
  let c1_i32_1251 : BitVec 32 := 1#32
  let arg22 : BitVec 32 := Scf.iv c0_i32_1250 c1_i32_1251 k0_t2
  let v2542 : Index := Scalar.indexCast arg22
  let c63_1543 : Index := 63#32
  ![1, v2542.toNat, 63]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2x32x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x32x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Proof.Keep.lean ====
/-
  Keeping what is owned: a program that only loads from and stores into buffers which an assertion `O` owns takes `O`
  to `O` again, whatever the buffers hold. One lemma per form a kernel body is written in.
-/
module

public import Idealize.ShloMosaic.Lib.Scf
public import Idealize.ShloMosaic.Lib.Tactic
public import Idealize.ShloMosaic.Lib.Pipeline.Kit

@[expose] public section

noncomputable section

namespace Cert.Proof.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}

local notation "𝕄" => MT nD τ sig Unit Val ℕ U ℕ

/-- `O` owns the memref `m`: its elements at some contents can be taken out of `O`, and `O` is made whole again by
    giving them back at any contents. -/
def Has (c : Dev nD) (O : sProp 𝕄) {sp : Space} {s : Shape} {e : EltTy} (m : Memref sig .tc sp s e) : Prop :=
  O ⊢ iprop(∃ f, (m.view.loc (c : Thread nD τ) ↦[m.view.set]{fullShare} f)
    ∗ (∀ f', (m.view.loc (c : Thread nD τ) ↦[m.view.set]{fullShare} f') -∗ O))

/-- The program `p` runs from `O` without a fault and ends with `O` again. -/
def Keeps (defs : Defs nD τ sig Val Λ) (c : Dev nD) (O : sProp 𝕄) {α : Type} (p : Prog (TpuEff nD τ sig Val Λ .tc) α) : Prop :=
  O ⊢ wp frame (wpE defs Variants.none (c : Thread nD τ) none) Set.univ p (fun _ => O)

variable {α β : Type}

/-- Returning a value keeps `O`. -/
theorem keeps_pure {defs : Defs nD τ sig Val Λ} {c : Dev nD} {O : sProp 𝕄} (a : α) : Keeps (U := U) defs c O (pure a) := by
  unfold Keeps
  rw [show (pure a : Prog (TpuEff nD τ sig Val Λ .tc) α) = .ret a from rfl]
  exact le_wp_ret _ _ _ a (fun _ => O)

/-- A sequence keeps `O` when its two halves do. -/
theorem keeps_bind {defs : Defs nD τ sig Val Λ} {c : Dev nD} {O : sProp 𝕄} {p : Prog (TpuEff nD τ sig Val Λ .tc) α} {k : α → Prog (TpuEff nD τ sig Val Λ .tc) β}
    (hp : Keeps (U := U) defs c O p) (hk : ∀ a, Keeps (U := U) defs c O (k a)) : Keeps (U := U) defs c O (p >>= k) := by
  unfold Keeps at *
  rw [wp_bind]
  exact hp.trans (wp_mono _ _ _ fun a => hk a)

/-- A load from a memref that `O` owns keeps `O`. -/
theorem keeps_load {defs : Defs nD τ sig Val Λ} {c : Dev nD} {O : sProp 𝕄} {cs : CoreSpace} {s : Shape} {e : EltTy} {m : Memref sig .tc cs s e} {r : LoadRect s} {hl : m.view.LoadsAt r}
    (hm : Has (U := U) c O m) : Keeps (U := U) defs c O (Prog.lift (.load m r hl)) := by
  unfold Keeps
  refine BIBase.Entails.trans hm ?_
  iintro ⟨%f, H, Hk⟩
  iapply (wp_load Variants.none (c : Thread nD τ) none Set.univ (m.view.setOn_subset_set r.set)) $$ H
  iintro H
  rw [wp_ret]
  imodintro
  iapply Hk
  iexact H

/-- A load of one scalar from a memref that `O` owns keeps `O`. -/
theorem keeps_smem {defs : Defs nD τ sig Val Λ} {c : Dev nD} {O : sProp 𝕄} {s : Shape} {e : EltTy} {m : Memref sig .tc .smem s e} {r : Rect s} {h1 : r.shape.numel = 1} {hp : e.packing = 1}
    (hm : Has (U := U) c O m) : Keeps (U := U) defs c O (smemLoad m r h1 hp) := by
  unfold Keeps smemLoad
  refine BIBase.Entails.trans hm ?_
  iintro ⟨%f, H, Hk⟩
  iapply (wp_smemLoadElt Variants.none (c : Thread nD τ) none Set.univ (m := m) (r := r) (S := m.view.set) (m.view.set_slice_subset r)) $$ H
  iintro H
  rw [wp_ret]
  imodintro
  iapply Hk
  iexact H

/-- A store into a memref that `O` owns keeps `O`. -/
theorem keeps_store {defs : Defs nD τ sig Val Λ} {c : Dev nD} {O : sProp 𝕄} {cs : CoreSpace} {s : Shape} {e : EltTy} {m : Memref sig .tc cs s e} {r : Rect s} {w : r.shape.Idx → Val e}
    {Mk : Finset r.shape.Idx} {hx : (m.access r).Stores Mk} {h : Mk = Finset.univ ∨ ∀ a, r.stride a = 1}
    (hm : Has (U := U) c O m) : Keeps (U := U) defs c O (Prog.lift (.store m r w Mk hx h)) := by
  unfold Keeps
  refine BIBase.Entails.trans hm ?_
  iintro ⟨%f, H, Hk⟩
  iapply (wp_store Variants.none (c : Thread nD τ) none Set.univ (S := m.view.set)
    (((m.access r).setOn_subset_set Mk).trans (m.view.set_slice_subset r))) $$ H
  iintro H
  rw [wp_ret]
  imodintro
  iapply Hk
  iexact H

/-- A counted loop keeps `O` when each trip does, whatever the trip carries. -/
theorem keeps_for {defs : Defs nD τ sig Val Λ} {c : Dev nD} {O : sProp 𝕄} {σ : Type} {w : Nat} {l : Scf.Loop w} {hok : l.OK} {init : σ} {body : Fin l.trips → σ → Prog (TpuEff nD τ sig Val Λ .tc) σ}
    (h : ∀ k a, Keeps (U := U) defs c O (body k a)) : Keeps (U := U) defs c O (Scf.Loop.for l hok init body) := by
  unfold Keeps
  refine BIBase.Entails.trans ?_ (Scf.wp_for _ _ _ l.lb l.ub l.st hok init body (fun _ _ => O) h)
  iintro H
  isplitl [H]
  · iexact H
  · iintro %a H
    iexact H

/-- A branch keeps `O` when both its sides do. -/
theorem keeps_dite {defs : Defs nD τ sig Val Λ} {c : Dev nD} {O : sProp 𝕄} {P : Prop} [Decidable P] {a : P → Prog (TpuEff nD τ sig Val Λ .tc) α} {b : ¬P → Prog (TpuEff nD τ sig Val Λ .tc) α}
    (ha : ∀ h, Keeps (U := U) defs c O (a h)) (hb : ∀ h, Keeps (U := U) defs c O (b h)) : Keeps (U := U) defs c O (dite P a b) := by
  by_cases h : P
  · rw [dif_pos h]; exact ha h
  · rw [dif_neg h]; exact hb h

/-- What the left part of an assertion owns, the whole owns. -/
theorem has_left {c : Dev nD} {O R : sProp 𝕄} {sp : Space} {s : Shape} {e : EltTy} {m : Memref sig .tc sp s e}
    (h : Has (U := U) c O m) : Has (U := U) c iprop(O ∗ R) m := by
  unfold Has at *
  iintro ⟨HO, HR⟩
  icases (BIBase.Entails.trans (.rfl : O ⊢ O) h) $$ HO with ⟨%f, H, Hk⟩
  iexists f
  isplitl [H]
  · iexact H
  · iintro %f' H
    isplitl [Hk H]
    · iapply Hk
      iexact H
    · iexact HR

/-- What the right part of an assertion owns, the whole owns. -/
theorem has_right {c : Dev nD} {O R : sProp 𝕄} {sp : Space} {s : Shape} {e : EltTy} {m : Memref sig .tc sp s e}
    (h : Has (U := U) c O m) : Has (U := U) c iprop(R ∗ O) m := by
  unfold Has at *
  iintro ⟨HR, HO⟩
  icases (BIBase.Entails.trans (.rfl : O ⊢ O) h) $$ HO with ⟨%f, H, Hk⟩
  iexists f
  isplitl [H]
  · iexact H
  · iintro %f' H
    isplitl [HR]
    · iexact HR
    · iapply Hk
      iexact H

/-- A memref owned at some contents is owned. -/
theorem has_any {c : Dev nD} {sp : Space} {s : Shape} {e : EltTy} (m : Memref sig .tc sp s e) :
    Has (U := U) c (iprop(∃ X : s.Idx → Val e, ⌜True⌝ ∗ owns (c : Thread nD τ) m fullShare X) : sProp 𝕄) m := by
  unfold Has owns
  iintro ⟨%X, -, %f, -, H⟩
  iexists f
  isplitl [H]
  · iexact H
  · iintro %f' H
    iexists m.view.read Val f'
    isplitr
    · ipureintro; trivial
    · iexists f'
      isplitr
      · ipureintro; rfl
      · iexact H

/-- A whole buffer owned at some contents is owned. -/
theorem has_whole {c : Dev nD} (b : Ref sig .tc) :
    Has (U := U) c (iprop(∃ f : Buf Val ((c : Thread nD τ).loc b), ((c : Thread nD τ).loc b) ↦{fullShare} f) : sProp 𝕄) (Memref.whole b) := by
  unfold Has
  rw [show (Memref.whole b).view.set = Finset.univ from View.set_whole b]
  iintro ⟨%f, H⟩
  iexists f
  isplitl [H]
  · iexact H
  · iintro %f' H
    iexists f'
    iexact H

end Cert.Proof.Keep

end
-- ==== Proof.DsaBody.lean ====
/-
  The sparse-attention body keeps what it owns: its branches, its counted loops and the `lax.cond` of its count are gone
  through by the lemmas of Keep.lean.
-/
module

public import proofs.«01_k».proof.Proof.Keep
public import proofs.«01_k».proof.Proof.Gen.Kernel.Skeleton

@[expose] public section

noncomputable section

namespace Cert.Proof.Dsa

open Idealize.ShloMosaic Idealize.ShloMosaic.TcCoe Cert.Kernel Cert.Kernel.Gen Cert.Proof.Keep
open Idealize.SL Idealize.SL.RA Idealize.SL.BI Idealize.SL.Sem

variable {F : FTy → Type} [BitOps F]

local notation "𝕄" => MT nD τ sig Unit (Elt F) ℕ (UR sig nD τ) ℕ

set_option maxHeartbeats 0 in
set_option maxRecDepth 65536 in
/-- The body, at any grid point, from an assertion owning each of its 21 memrefs, runs without a fault and ends with the
    assertion again. -/
theorem keeps_body (c : Dev nD) (O : sProp 𝕄) (i : grid0.Coords) (arg2 : Memref sig .tc .vmem S1x256x512 .f32) (harg2 : arg2.IsWhole) (arg3 : Memref sig .tc .vmem S1x2048x128 .f32) (harg3 : arg3.IsWhole) (arg4 : Memref sig .tc .vmem S1x8x256 .f32) (harg4 : arg4.IsWhole) (arg5 : Memref sig .tc .vmem S1x256x1024 .bf16) (harg5 : arg5.IsWhole) (arg6 : Memref sig .tc .vmem S1x256x1024 .bf16) (harg6 : arg6.IsWhole) (arg7 : Memref sig .tc .vmem S1x2048x256 .bf16) (harg7 : arg7.IsWhole) (arg8 : Memref sig .tc .vmem S1x2048x256 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S4x8x256x128 .f32) (harg11 : arg11.IsWhole) (arg12 : Memref sig .tc .vmem S1x256x1024 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S8x2x144x256 .bf16) (harg15 : arg15.IsWhole) (arg16 : Memref sig .tc .vmem S2048x256 .bf16) (harg16 : arg16.IsWhole) (arg17 : Memref sig .tc .vmem S8x256x256 .i32) (harg17 : arg17.IsWhole) (arg18 : Memref sig .tc .vmem S8x256x256 .f32) (harg18 : arg18.IsWhole) (arg19 : Memref sig .tc .vmem S2x512x128 .bf16) (harg19 : arg19.IsWhole) (arg20 : Memref sig .tc .vmem S8x2x256x512 .f32) (harg20 : arg20.IsWhole) (arg21 : Memref sig .tc .vmem S2x8x512 .f32) (harg21 : arg21.IsWhole) (arg22 : Memref sig .tc .vmem S2x144x512 .f32) (harg22 : arg22.IsWhole)
    (o2 : Has (U := UR sig nD τ) c O arg2) (o3 : Has (U := UR sig nD τ) c O arg3) (o4 : Has (U := UR sig nD τ) c O arg4) (o5 : Has (U := UR sig nD τ) c O arg5) (o6 : Has (U := UR sig nD τ) c O arg6) (o7 : Has (U := UR sig nD τ) c O arg7) (o8 : Has (U := UR sig nD τ) c O arg8) (o9 : Has (U := UR sig nD τ) c O arg9) (o10 : Has (U := UR sig nD τ) c O arg10) (o11 : Has (U := UR sig nD τ) c O arg11) (o12 : Has (U := UR sig nD τ) c O arg12) (o13 : Has (U := UR sig nD τ) c O arg13) (o14 : Has (U := UR sig nD τ) c O arg14) (o15 : Has (U := UR sig nD τ) c O arg15) (o16 : Has (U := UR sig nD τ) c O arg16) (o17 : Has (U := UR sig nD τ) c O arg17) (o18 : Has (U := UR sig nD τ) c O arg18) (o19 : Has (U := UR sig nD τ) c O arg19) (o20 : Has (U := UR sig nD τ) c O arg20) (o21 : Has (U := UR sig nD τ) c O arg21) (o22 : Has (U := UR sig nD τ) c O arg22) :
    Keeps (U := UR sig nD τ) (defs₀ (F := F)) c O (cc0__dsa_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) := by
  rw [cc0__dsa_kernel_eq_skeleton]
  unfold cc0__dsa_kernel_skel
  repeat' first
    | with_reducible exact keeps_pure _
    | with_reducible exact keeps_load (by assumption)
    | with_reducible exact keeps_store (by assumption)
    | with_reducible refine keeps_for fun k a => ?_
    | with_reducible refine keeps_dite (fun h => ?_) (fun h => ?_)
    | with_reducible refine keeps_bind ?_ fun x => ?_
    | split
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    | (rw [k0_part54_eq_skeleton]; unfold k0_part54_skel)
    | (rw [k0_part55_eq_skeleton]; unfold k0_part55_skel)
    | (rw [k0_part56_eq_skeleton]; unfold k0_part56_skel)
    | (rw [k0_part57_eq_skeleton]; unfold k0_part57_skel)
    | (rw [k0_part58_eq_skeleton]; unfold k0_part58_skel)
    | (rw [k0_part59_eq_skeleton]; unfold k0_part59_skel)
    | (rw [k0_part60_eq_skeleton]; unfold k0_part60_skel)
    | (rw [k0_part61_eq_skeleton]; unfold k0_part61_skel)
    | (rw [k0_part62_eq_skeleton]; unfold k0_part62_skel)
    | (rw [k0_part63_eq_skeleton]; unfold k0_part63_skel)
    | (rw [k0_part64_eq_skeleton]; unfold k0_part64_skel)
    | (rw [k0_part65_eq_skeleton]; unfold k0_part65_skel)
    | (rw [k0_part66_eq_skeleton]; unfold k0_part66_skel)
    | (rw [k0_part67_eq_skeleton]; unfold k0_part67_skel)
    | (rw [k0_part68_eq_skeleton]; unfold k0_part68_skel)
    | (rw [k0_part69_eq_skeleton]; unfold k0_part69_skel)
    | (rw [k0_part70_eq_skeleton]; unfold k0_part70_skel)
    | (rw [k0_part71_eq_skeleton]; unfold k0_part71_skel)
    | (rw [k0_part72_eq_skeleton]; unfold k0_part72_skel)
    | (rw [k0_part73_eq_skeleton]; unfold k0_part73_skel)
    | (rw [k0_part74_eq_skeleton]; unfold k0_part74_skel)
    | (rw [k0_part75_eq_skeleton]; unfold k0_part75_skel)
    | (rw [k0_part76_eq_skeleton]; unfold k0_part76_skel)
    | (rw [k0_part77_eq_skeleton]; unfold k0_part77_skel)
    | (rw [k0_part78_eq_skeleton]; unfold k0_part78_skel)
    | (rw [k0_part79_eq_skeleton]; unfold k0_part79_skel)
    | (rw [k0_part80_eq_skeleton]; unfold k0_part80_skel)
    | (rw [k0_part81_eq_skeleton]; unfold k0_part81_skel)
    | (rw [k0_part82_eq_skeleton]; unfold k0_part82_skel)
    | (rw [k0_part83_eq_skeleton]; unfold k0_part83_skel)
    | (rw [k0_part84_eq_skeleton]; unfold k0_part84_skel)
    | (rw [k0_part85_eq_skeleton]; unfold k0_part85_skel)
    | (rw [k0_part86_eq_skeleton]; unfold k0_part86_skel)
    | unfold k0_t1_body
    | unfold k0_t2_body
    | unfold k0_t3_body
    | unfold k0_t4_body
    | unfold k0_t5_body
    | unfold k0_t6_body
    | unfold k0_t7_body
    | unfold k0_t8_body
    | unfold k0_t9_body
    | unfold k0_t10_body
    | unfold k0_t11_body
    | unfold k0_t12_body
    | unfold k0_t13_body
    | unfold k0_t14_body
    | unfold k0_t15_body
    | unfold k0_t16_body
    | unfold k0_t17_body
    | unfold k0_t18_body
    | unfold k0_t19_body

end Cert.Proof.Dsa

end
-- ==== Proof.DsaFrame.lean ====
/-
  The frame of the sparse-attention call: its body keeps the staging buffers, the ten scratch buffers and the generator
  register it is handed, whatever they hold, so the launch runs to its end and leaves the argument arrays alone.
-/
module

public import proofs.«01_k».proof.Proof.DsaBody
public import proofs.«01_k».proof.Proof.Gen.Kernel.Frame
public import proofs.«01_k».proof.Defs

@[expose] public section

noncomputable section

namespace Cert.Proof.Dsa

open Idealize.ShloMosaic Idealize.ShloMosaic.TcCoe Cert.Kernel Cert.Kernel.Gen Cert.Proof.Keep
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The launch's data: each window's array as the region finds it, and nothing said of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What the body is handed at point `t`, its staging buffers at any contents. -/
def held (c : Dev nD) (t : Fin cfg0.N) : sProp 𝕄 :=
  iprop((rdat m c).Φ t.castSucc ∗ (rdat m c).owesAt () t.castSucc
    ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X))

/-- The `k`-th scratch buffer, owned by the class invariant, is owned by what the body is handed. -/
theorem has_scratch (c : Dev nD) (t : Fin cfg0.N) (b : Ref sig .tc)
    (h : Has (U := UR sig nD τ) c (Pipeline.scopedRest (τ := τ) (Ix := Unit) (Name := ℕ) (U := UR sig nD τ) (Lvl := ℕ) (Val := Elt F) spec0 c) (Memref.whole b)) :
    Has (U := UR sig nD τ) c (held m c t) (Memref.whole b) :=
  has_left (show Has (U := UR sig nD τ) c (Pipeline.ΦA spec0 c) (Memref.whole b) from has_left h)

/-- The body at point `t` keeps what it is handed. -/
theorem keeps_point (c : Dev nD) (t : Fin cfg0.N) :
    Keeps (U := UR sig nD τ) (defs₀ (F := F)) c (held m c t) (bodyAt0 t) := by
  refine keeps_body c (held m c t) _ _ _ _ _ _ _ _ _ _ _ _ _ _ _ _ _ _ _ _ _ _ _ _ _ _ _ _ _ _ _ _ _ _ _ _ _ _ _ _ _ _ _
    (has_right (has_right (has_left (has_any (st0_0 t)))))
    (has_right (has_right (has_right (has_left (has_any (st0_1 t))))))
    (has_right (has_right (has_right (has_right (has_left (has_any (st0_2 t)))))))
    (has_right (has_right (has_right (has_right (has_right (has_left (has_any (st0_3 t))))))))
    (has_right (has_right (has_right (has_right (has_right (has_right (has_left (has_any (st0_4 t)))))))))
    (has_right (has_right (has_right (has_right (has_right (has_right (has_right (has_left (has_any (st0_5 t))))))))))
    (has_right (has_right (has_right (has_right (has_right (has_right (has_right (has_right (has_left (has_any (st0_6 t)))))))))))
    (has_right (has_right (has_right (has_right (has_right (has_right (has_right (has_right (has_right (has_left (has_any (st0_7 t))))))))))))
    (has_right (has_right (has_right (has_right (has_right (has_right (has_right (has_right (has_right (has_right (has_left (has_any (st0_8 t)))))))))))))
    (has_right (has_right (has_right (has_right (has_right (has_right (has_right (has_right (has_right (has_right (has_right (has_left (has_any (st0_9 t))))))))))))))
    (has_right (has_right (has_right (has_right (has_right (has_right (has_right (has_right (has_right (has_right (has_right (has_right (has_any (st0_10 t))))))))))))))
    ?_ ?_ ?_ ?_ ?_ ?_ ?_ ?_ ?_ ?_
  all_goals refine has_scratch m c t _ ?_; rw [scopedRest0_eq]
  · exact has_left (has_whole cc0_scratch0)
  · exact has_right (has_left (has_whole cc0_scratch1))
  · exact has_right (has_right (has_left (has_whole cc0_scratch2)))
  · exact has_right (has_right (has_right (has_left (has_whole cc0_scratch3))))
  · exact has_right (has_right (has_right (has_right (has_left (has_whole cc0_scratch4)))))
  · exact has_right (has_right (has_right (has_right (has_right (has_left (has_whole cc0_scratch5))))))
  · exact has_right (has_right (has_right (has_right (has_right (has_right (has_left (has_whole cc0_scratch6)))))))
  · exact has_right (has_right (has_right (has_right (has_right (has_right (has_right (has_left (has_whole cc0_scratch7))))))))
  · exact has_right (has_right (has_right (has_right (has_right (has_right (has_right (has_right (has_left (has_whole cc0_scratch8)))))))))
  · exact has_right (has_right (has_right (has_right (has_right (has_right (has_right (has_right (has_right (has_whole cc0_scratch9)))))))))

/-- The body called by the pipeline at point `t` is the body at the current staging buffers. -/
theorem row (t : Fin cfg0.N) : defs₀ (F := F) .tc cfg0.body (cfg0.bodyArgs t (cfg0.slots t)) = bodyAt0 t := by
  unfold defs₀; rw [Defs.onTc_tc]

/-- The body's obligation at every point, of any contents the staging buffers may hold. -/
theorem obligation (c : Dev nD) : (rdat m c).BodyObligation (defs₀ (F := F)) Variants.none () Set.univ := fun t Y _ => by
  rw [bigSep_W0, bigSep_W0, row]
  refine BIBase.Entails.trans ?_ (keeps_point m c t)
  unfold held
  iintro ⟨H, Ho, H0, H1, H2, H3, H4, H5, H6, H7, H8, H9, H10⟩
  isplitl [H]; · iexact H
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (Y 6); isplitr; · ipureintro; trivial
    iexact H6
  isplitl [H7]
  · iexists (Y 7); isplitr; · ipureintro; trivial
    iexact H7
  isplitl [H8]
  · iexists (Y 8); isplitr; · ipureintro; trivial
    iexact H8
  isplitl [H9]
  · iexists (Y 9); isplitr; · ipureintro; trivial
    iexact H9
  iexists (Y 10); isplitr; · ipureintro; trivial
  iexact H10

set_option backward.isDefEq.respectTransparency.types false in
/-- The launch: from any memory with zero counters it runs to its end without a fault, leaves every argument array as it
    was and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  RDat.θ_run_frame_track_shared cfgs (0 : Fin 1) launch₀0 defs₀ Variants.none (rdat m) m ρ main
    (hbody := fun c => obligation m c) (hq := fun _ _ _ => rfl) (howed := fun _ _ => rfl) (V := V m)
    (hmain := hmain m Variants.none) (hA := fun _ _ => rfl) (hin := fun _ => .rfl) (hout := fun _ => .rfl) (Q' := _)
    (hQ' := fun r h => ⟨fun c =>
      ⟨(h.1.arr_in c 6 rfl).trans (V_main_arg0 m c), (h.1.arr_in c 1 rfl).trans (V_main_arg1 m c),
        (h.1.arr_in c 7 rfl).trans (V_main_arg2 m c), (h.1.arr_in c 8 rfl).trans (V_main_arg3 m c),
        (h.1.arr_in c 9 rfl).trans (V_main_arg4 m c)⟩, h.2⟩)

/-- The frame of the sparse-attention call. -/
theorem frame_kernel : Cert.quiescent_Kernel := fun m ρ _ => run_main (F := Bits) m ρ

end Cert.Proof.Dsa

end
-- ==== Proof.WideValue.lean ====
/-
  The wide half of the input projection: what one block of the kernel computes, what the packed weight holds, what the
  result array holds, and that this is the reference's term.
-/
module

public import proofs.«01_k».proof.Proof.Gen.WideKIdeal.Value
public import proofs.«01_k».proof.Proof.Gen.WideRIdeal.Run
public import proofs.«01_k».proof.Defs
public import Idealize.ShloMosaic.Lib.Pipeline.ValueKit
public import Idealize.ShloMosaic.Lib.Quiescent

@[expose] public section

set_option maxRecDepth 16384

noncomputable section

namespace Cert.Proof.Wide

open Idealize.ShloMosaic Idealize.ShloMosaic.TcCoe Idealize.SL.Sem
open Cert.WideKIdeal Cert.WideKIdeal.Gen

variable (m : (ℓ : Loc nD τ sig) → Buf (Elt Ideal) ℓ)

/-- The reference's projection by the whole weight. -/
abbrev proj (h : FVec Ideal Cert.WideRIdeal.S16384x2048 .bf16) (w : FVec Ideal Cert.WideRIdeal.S2048x16472 .f32) :
    FVec Ideal Cert.WideRIdeal.S16384x16472 .f32 :=
  Host.dotGeneral Cert.WideRIdeal.dot_S16384x2048_S2048x16472_S16384x16472_1_0_0_1_n_n none (extf .f32 h Cert.WideRIdeal.Gen.bitsLt_bf16_f32) w

/-- The nine column stretches of a projection laid side by side. -/
abbrev laid (p : FVec Ideal Cert.WideRIdeal.S16384x16472 .f32) : FVec Ideal Cert.WideRIdeal.S16384x15872 .f32 :=
  concatenate Cert.WideRIdeal.S16384x15872 1
    [⟨Cert.WideRIdeal.S16384x3072, extractStridedSlice Cert.WideRIdeal.S16384x3072 ![0, 0] p Cert.WideRIdeal.Gen.slices_S16384x16472_S16384x3072_0_0⟩,
     ⟨Cert.WideRIdeal.S16384x1024, extractStridedSlice Cert.WideRIdeal.S16384x1024 ![0, 3072] p Cert.WideRIdeal.Gen.slices_S16384x16472_S16384x1024_0_3072⟩,
     ⟨Cert.WideRIdeal.S16384x2048, extractStridedSlice Cert.WideRIdeal.S16384x2048 ![0, 4112] p Cert.WideRIdeal.Gen.slices_S16384x16472_S16384x2048_0_4112⟩,
     ⟨Cert.WideRIdeal.S16384x1024, extractStridedSlice Cert.WideRIdeal.S16384x1024 ![0, 6160] p Cert.WideRIdeal.Gen.slices_S16384x16472_S16384x1024_0_6160⟩,
     ⟨Cert.WideRIdeal.S16384x1024, extractStridedSlice Cert.WideRIdeal.S16384x1024 ![0, 7184] p Cert.WideRIdeal.Gen.slices_S16384x16472_S16384x1024_0_7184⟩,
     ⟨Cert.WideRIdeal.S16384x1024, extractStridedSlice Cert.WideRIdeal.S16384x1024 ![0, 8720] p Cert.WideRIdeal.Gen.slices_S16384x16472_S16384x1024_0_8720⟩,
     ⟨Cert.WideRIdeal.S16384x6144, extractStridedSlice Cert.WideRIdeal.S16384x6144 ![0, 10328] p Cert.WideRIdeal.Gen.slices_S16384x16472_S16384x6144_0_10328⟩,
     ⟨Cert.WideRIdeal.S16384x256, extractStridedSlice Cert.WideRIdeal.S16384x256 ![0, 8208] p Cert.WideRIdeal.Gen.slices_S16384x16472_S16384x256_0_8208⟩,
     ⟨Cert.WideRIdeal.S16384x256, extractStridedSlice Cert.WideRIdeal.S16384x256 ![0, 8464] p Cert.WideRIdeal.Gen.slices_S16384x16472_S16384x256_0_8464⟩]
    Cert.WideRIdeal.Gen.concatenates_S16384x3072_S16384x1024_S16384x2048_S16384x1024_S16384x1024_S16384x1024_S16384x6144_S16384x256_S16384x256_S16384x15872_d1

/-- The reference's term: the projection's nine stretches, rounded. -/
abbrev term (h : FVec Ideal Cert.WideRIdeal.S16384x2048 .bf16) (w : FVec Ideal Cert.WideRIdeal.S2048x16472 .f32) :
    FVec Ideal Cert.WideRIdeal.S16384x15872 .bf16 :=
  truncf .bf16 (laid (proj h w)) Cert.WideRIdeal.Gen.bitsLt_bf16_f32

/-- The source column of wide column `j`. -/
def col (j : ℕ) : ℕ :=
  if j < 4096 then j else if j < 8192 then j + 16 else if j < 9216 then j + 528 else if j < 15360 then j + 1112
    else j - 7152

theorem col_lt (j : Fin 15872) : col j.val < 16472 := by
  have := j.isLt
  unfold col; split_ifs <;> omega

/-- The nine stretches at an index: the projection at the source column. -/
theorem laid_apply (p : FVec Ideal Cert.WideRIdeal.S16384x16472 .f32) (i : Cert.WideRIdeal.S16384x15872.Idx) :
    laid p i = p (ix2 (i 0) ⟨col (i 1).val, col_lt (i 1)⟩) := by
  have key : ∀ (n : ℕ) (hn : n < 16472), n = col (i 1).val → p (ix2 (i 0) ⟨n, hn⟩) = p (ix2 (i 0) ⟨col (i 1).val, col_lt (i 1)⟩) := by
    rintro _ _ rfl; rfl
  have hi : (i 1).val < 15872 := (i 1).isLt
  pointwise [laid]
  split_ifs <;> exact key _ _ (by unfold col; split_ifs <;> omega)

/-- The weight under a leading axis of extent one, which the host code slices. -/
abbrev whole (w : FVec Ideal S2048x16472 .f32) : FVec Ideal S1x2048x16472 .f32 :=
  broadcastInDim S1x2048x16472 ![1, 2] bcast_S2048x16472_S1x2048x16472_1_2 w

/-- The packed weight that the host code lays out for the kernel. -/
abbrev packed (w : FVec Ideal S2048x16472 .f32) : FVec Ideal S2048x15872 .bf16 :=
  concatenate S2048x15872 1
    [⟨S2048x3072, truncf .bf16 (shapeCast S2048x3072 (extractStridedSlice S1x2048x3072 ![0, 0, 0] (whole w) slices_S1x2048x16472_S1x2048x3072_0_0_0) shapeCasts_S1x2048x3072_S2048x3072) bitsLt_bf16_f32⟩,
     ⟨S2048x1024, truncf .bf16 (shapeCast S2048x1024 (extractStridedSlice S1x2048x1024 ![0, 0, 3072] (whole w) slices_S1x2048x16472_S1x2048x1024_0_0_3072) shapeCasts_S1x2048x1024_S2048x1024) bitsLt_bf16_f32⟩,
     ⟨S2048x2048, truncf .bf16 (shapeCast S2048x2048 (extractStridedSlice S1x2048x2048 ![0, 0, 4112] (whole w) slices_S1x2048x16472_S1x2048x2048_0_0_4112) shapeCasts_S1x2048x2048_S2048x2048) bitsLt_bf16_f32⟩,
     ⟨S2048x1024, truncf .bf16 (shapeCast S2048x1024 (extractStridedSlice S1x2048x1024 ![0, 0, 6160] (whole w) slices_S1x2048x16472_S1x2048x1024_0_0_6160) shapeCasts_S1x2048x1024_S2048x1024) bitsLt_bf16_f32⟩,
     ⟨S2048x1024, truncf .bf16 (shapeCast S2048x1024 (extractStridedSlice S1x2048x1024 ![0, 0, 7184] (whole w) slices_S1x2048x16472_S1x2048x1024_0_0_7184) shapeCasts_S1x2048x1024_S2048x1024) bitsLt_bf16_f32⟩,
     ⟨S2048x1024, truncf .bf16 (shapeCast S2048x1024 (extractStridedSlice S1x2048x1024 ![0, 0, 8720] (whole w) slices_S1x2048x16472_S1x2048x1024_0_0_8720) shapeCasts_S1x2048x1024_S2048x1024) bitsLt_bf16_f32⟩,
     ⟨S2048x6144, truncf .bf16 (shapeCast S2048x6144 (extractStridedSlice S1x2048x6144 ![0, 0, 10328] (whole w) slices_S1x2048x16472_S1x2048x6144_0_0_10328) shapeCasts_S1x2048x6144_S2048x6144) bitsLt_bf16_f32⟩,
     ⟨S2048x256, truncf .bf16 (shapeCast S2048x256 (extractStridedSlice S1x2048x256 ![0, 0, 8208] (whole w) slices_S1x2048x16472_S1x2048x256_0_0_8208) shapeCasts_S1x2048x256_S2048x256) bitsLt_bf16_f32⟩,
     ⟨S2048x256, truncf .bf16 (shapeCast S2048x256 (extractStridedSlice S1x2048x256 ![0, 0, 8464] (whole w) slices_S1x2048x16472_S1x2048x256_0_0_8464) shapeCasts_S1x2048x256_S2048x256) bitsLt_bf16_f32⟩]
    concatenates_S2048x3072_S2048x1024_S2048x2048_S2048x1024_S2048x1024_S2048x1024_S2048x6144_S2048x256_S2048x256_S2048x15872_d1

/-- The packed weight at an index: the weight at the source column. -/
theorem packed_apply (w : FVec Ideal S2048x16472 .f32) (y : S2048x15872.Idx) :
    packed w y = w (ix2 (y 0) ⟨col (y 1).val, col_lt (y 1)⟩) := by
  have key : ∀ (n : ℕ) (hn : n < 16472), n = col (y 1).val → w (ix2 (y 0) ⟨n, hn⟩) = w (ix2 (y 0) ⟨col (y 1).val, col_lt (y 1)⟩) := by
    rintro _ _ rfl; rfl
  have hi : (y 1).val < 15872 := (y 1).isLt
  pointwise [packed, whole]
  split_ifs <;> exact key _ _ (by unfold col; split_ifs <;> omega)

set_option maxHeartbeats 1600000 in
/-- The kernel finds the packed weight in its second operand. -/
theorem entry (c : Dev nD) : V m c main_v28 = packed (m ((c : Thread nD τ).loc main_arg1)) := by
  unfold V hostOps0
  after_results <;> rfl

/-- The reference's term at an index: the row of `h` against the weight's source column. -/
theorem term_apply (h : FVec Ideal Cert.WideRIdeal.S16384x2048 .bf16) (w : FVec Ideal Cert.WideRIdeal.S2048x16472 .f32)
    (i : Cert.WideRIdeal.S16384x15872.Idx) :
    term h w i = ∑ k : Fin 2048, h (ix2 (i 0) k) * w (ix2 k ⟨col (i 1).val, col_lt (i 1)⟩) := by
  refine (laid_apply (proj h w) i).trans ?_
  pointwise [proj]

/-- The body's block at an index. -/
theorem pay_apply (x0 : FVec Ideal S2048x2048 .bf16) (x1 : FVec Ideal S2048x512 .bf16) (y : S2048x512.Idx) :
    k0_pay1 (F := Ideal) x0 x1 y = ∑ k : Fin 2048, x0 (ix2 (y 0) k) * x1 (ix2 k (y 1)) := by
  pointwise [k0_pay1]

/-- The windows' block indices at point `t`: row block `t / 31`, column block `t % 31`. -/
theorem idx : ∀ t : Fin cfg0.N, win0_0.index t = ![t.val / 31, 0] ∧ win0_1.index t = ![0, t.val % 31]
    ∧ win0_2.index t = ![t.val / 31, t.val % 31] :=
  (by decide +kernel : ∀ t : Fin grid0.N, _)

/-- The weight's block at point `t`, read at an index. -/
theorem iblk1 (c : Dev nD) (t : Fin cfg0.N) (k : Fin 2048) (j : Fin 512) (n : Fin 15872) (hn : n.val = t.val % 31 * 512 + j.val) :
    (iblk m c 1 t : S2048x512.Idx → EReal) (ix2 k j)
      = (m ((c : Thread nD τ).loc main_arg1) : S2048x16472.Idx → EReal) (ix2 k ⟨col n.val, col_lt n⟩) := by
  have e : (iblk m c 1 t : S2048x512.Idx → EReal) (ix2 k j) = packed (m ((c : Thread nD τ).loc main_arg1)) (ix2 k n) := by
    rw [← entry m c]
    blk_ext [iblk, idx t]
  exact e.trans (packed_apply _ _)

/-- What the body stores at index `y` of point `t`'s block is the reference's term at the array index of `y`. -/
theorem point (c : Dev nD) (t : Fin cfg0.N) (y : S2048x512.Idx) :
    k0_pay1 (F := Ideal) (iblk m c 0 t) (iblk m c 1 t) y
      = term (m ((c : Thread nD τ).loc main_arg0)) (m ((c : Thread nD τ).loc main_arg1)) (((cfg0.win 2).blk t).view.emb y) := by
  obtain ⟨i, hi⟩ : ∃ i : Cert.WideRIdeal.S16384x15872.Idx, i = ((cfg0.win 2).blk t).view.emb y := ⟨_, rfl⟩
  have h0 : (i 0).val = t.val / 31 * 2048 + (y 0).val := by rw [hi]; blk_simp [idx t]
  have h1 : (i 1).val = t.val % 31 * 512 + (y 1).val := by rw [hi]; blk_simp [idx t]
  rw [← hi]
  clear hi
  refine (pay_apply _ _ y).trans (Eq.trans ?_ (term_apply _ _ i).symm)
  refine Finset.sum_congr rfl fun k _ => congrArg₂ (· * ·) ?_ (iblk1 m c t k (y 1) (i 1) h1)
  blk_point [iblk, V, idx t]

/-- The result array after the run is the reference's term of the arguments. -/
theorem final (c : Dev nD) : (dats m 0 c).arrAt 2 (cfgs 0).N
    = term (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result and the reference's are the same function of the arguments over the extended reals. -/
theorem algebraic : Cert.algebraic_WideKIdeal_WideRIdeal := by
  intro m g m' g' _ h
  refine ⟨fun c => term (m ((c : Thread nD τ).loc main_arg0)) (m ((c : Thread nD τ).loc main_arg1)), ?_, ?_⟩
  · refine (θ_run _ _ _).mono (fun r hr c => ⟨(hr c).1.trans (final m c), (hr c).2⟩) (Cert.WideKIdeal.Value.run_blocks m g)
  · refine (θ_run _ _ _).mono (fun r hr c => ⟨(hr c).1.trans ?_, (hr c).2⟩) (Cert.WideRIdeal.Value.run m' g')
    obtain ⟨h0, h1⟩ := h c
    rw [h0, h1]

/-- The reference's run leaves its arguments alone; it declares no semaphore. -/
theorem frame_ref : Cert.quiescent_WideRIdeal := fun m ρ _ =>
  (θ_run Cert.WideRIdeal.defs _ _).mono (fun r h => ⟨fun c => (h c).2, sem_eq_zero_of_no_sems (by decide) r.2⟩)
    (Cert.WideRIdeal.Value.run m ρ)

end Cert.Proof.Wide

end
-- ==== Proof.MergeValue.lean ====
/-
  The merge of the three branches: what one block of the kernel computes, what the result array holds, and that this is
  the reference's term.
-/
module

public import proofs.«01_k».proof.Proof.Gen.MergeKIdeal.Value
public import proofs.«01_k».proof.Proof.Gen.MergeRIdeal.Run
public import proofs.«01_k».proof.Defs
public import Idealize.ShloMosaic.Lib.Pipeline.ValueKit
public import Idealize.ShloMosaic.Lib.Quiescent

@[expose] public section

set_option maxRecDepth 16384

noncomputable section

namespace Cert.Proof.Merge

open Idealize.ShloMosaic Idealize.ShloMosaic.TcCoe Idealize.SL.Sem
open Cert.MergeKIdeal Cert.MergeKIdeal.Gen

variable (m : (ℓ : Loc nD τ sig) → Buf (Elt Ideal) ℓ)

/-- The reference's gates of all three branches: the logistic function of the gate columns plus their bias. -/
abbrev gates (p : FVec Ideal Cert.MergeRIdeal.S16384x15872 .bf16) (b : FVec Ideal Cert.MergeRIdeal.S6144 .f32) :
    FVec Ideal Cert.MergeRIdeal.S16384x6144 .f32 :=
  Host.divf (broadcastInDim Cert.MergeRIdeal.S16384x6144 ![] Cert.MergeRIdeal.Gen.bcast_S_S16384x6144 (constant Cert.MergeRIdeal.S_ .f32 0x3F800000#32))
    (addf (broadcastInDim Cert.MergeRIdeal.S16384x6144 ![] Cert.MergeRIdeal.Gen.bcast_S_S16384x6144 (constant Cert.MergeRIdeal.S_ .f32 0x3F800000#32))
      (Host.exp (Host.negf (addf
        (extf .f32 (extractStridedSlice Cert.MergeRIdeal.S16384x6144 ![0, 9216] p Cert.MergeRIdeal.Gen.slices_S16384x15872_S16384x6144_0_9216) Cert.MergeRIdeal.Gen.bitsLt_bf16_f32)
        (broadcastInDim Cert.MergeRIdeal.S16384x6144 ![0, 1] Cert.MergeRIdeal.Gen.bcast_S1x6144_S16384x6144_0_1
          (broadcastInDim Cert.MergeRIdeal.S1x6144 ![1] Cert.MergeRIdeal.Gen.bcast_S6144_S1x6144_1 b))))))

/-- The reference's projection of one branch. -/
abbrev proj (a : FVec Ideal Cert.MergeRIdeal.S16384x1024 .bf16) (w : FVec Ideal Cert.MergeRIdeal.S1024x2048 .f32) :
    FVec Ideal Cert.MergeRIdeal.S16384x2048 .f32 :=
  Host.dotGeneral Cert.MergeRIdeal.dot_S16384x1024_S1024x2048_S16384x2048_1_0_0_1_n_n none (extf .f32 a Cert.MergeRIdeal.Gen.bitsLt_bf16_f32) w

/-- The reference's term: the three projected branches, each under its gate, added up. -/
abbrev term (a0 a1 a2 : FVec Ideal Cert.MergeRIdeal.S16384x1024 .bf16) (w0 w1 w2 : FVec Ideal Cert.MergeRIdeal.S1024x2048 .f32)
    (p : FVec Ideal Cert.MergeRIdeal.S16384x15872 .bf16) (b : FVec Ideal Cert.MergeRIdeal.S6144 .f32) :
    FVec Ideal Cert.MergeRIdeal.S16384x2048 .bf16 :=
  truncf .bf16 (addf (addf
    (mulf (extractStridedSlice Cert.MergeRIdeal.S16384x2048 ![0, 0] (gates p b) Cert.MergeRIdeal.Gen.slices_S16384x6144_S16384x2048_0_0) (proj a0 w0))
    (mulf (extractStridedSlice Cert.MergeRIdeal.S16384x2048 ![0, 2048] (gates p b) Cert.MergeRIdeal.Gen.slices_S16384x6144_S16384x2048_0_2048) (proj a1 w1)))
    (mulf (extractStridedSlice Cert.MergeRIdeal.S16384x2048 ![0, 4096] (gates p b) Cert.MergeRIdeal.Gen.slices_S16384x6144_S16384x2048_0_4096) (proj a2 w2)))
    Cert.MergeRIdeal.Gen.bitsLt_bf16_f32

/-- The windows' block indices at point `t`: row block `t / 4`, column block `t % 4`. -/
theorem idx : ∀ t : Fin cfg0.N, (win0_0.index t = ![t.val / 4, 0] ∧ win0_1.index t = ![t.val / 4, 0] ∧ win0_2.index t = ![t.val / 4, 0])
    ∧ (win0_3.index t = ![0, t.val % 4] ∧ win0_4.index t = ![0, t.val % 4] ∧ win0_5.index t = ![0, t.val % 4])
    ∧ (win0_6.index t = ![t.val / 4, 18 + t.val % 4] ∧ win0_7.index t = ![t.val / 4, 22 + t.val % 4] ∧ win0_8.index t = ![t.val / 4, 26 + t.val % 4])
    ∧ (win0_9.index t = ![0, t.val % 4] ∧ win0_10.index t = ![0, 4 + t.val % 4] ∧ win0_11.index t = ![0, 8 + t.val % 4])
    ∧ win0_12.index t = ![t.val / 4, t.val % 4] :=
  (by decide +kernel : ∀ t : Fin grid0.N, _)

/-- The logistic function, as the kernel writes it. -/
def gate (z : EReal) : EReal := Ideal.div 1 (1 + Ideal.exp (0 - z))

/-- The body's block at an index. -/
theorem pay_apply (x0 x1 x2 : FVec Ideal S1024x1024 .bf16) (x3 x4 x5 : FVec Ideal S1024x512 .bf16)
    (x6 x7 x8 : FVec Ideal S1024x512 .bf16) (x9 x10 x11 : FVec Ideal S1x512 .f32) (y : S1024x512.Idx) :
    k0_pay1 (F := Ideal) (k0_pay2 (F := Ideal) x6 x9 x0 x3) (k0_pay3 (F := Ideal) x7 x10) x1 (k0_pay4 (F := Ideal) x4) (constant S1024x512 .f32 0x00000000#32) x8 x11 x2 x5 y
      = gate (x6 y + x9 (ix2 0 (y 1))) * (∑ k : Fin 1024, x0 (ix2 (y 0) k) * x3 (ix2 k (y 1)))
        + gate (x7 y + x10 (ix2 0 (y 1))) * (∑ k : Fin 1024, x1 (ix2 (y 0) k) * x4 (ix2 k (y 1)))
        + gate (x8 y + x11 (ix2 0 (y 1))) * (∑ k : Fin 1024, x2 (ix2 (y 0) k) * x5 (ix2 k (y 1))) := by
  pointwise [k0_pay1, k0_pay2, k0_pay3, k0_pay4]
  rfl

/-- What the body stores at index `y` of point `t`'s block is the reference's term at the array index of `y`. -/
theorem point (c : Dev nD) (t : Fin cfg0.N) (y : S1024x512.Idx) :
    k0_pay1 (F := Ideal) (k0_pay2 (F := Ideal) (iblk m c 6 t) (iblk m c 9 t) (iblk m c 0 t) (iblk m c 3 t)) (k0_pay3 (F := Ideal) (iblk m c 7 t) (iblk m c 10 t))
        (iblk m c 1 t) (k0_pay4 (F := Ideal) (iblk m c 4 t)) (constant S1024x512 .f32 0x00000000#32) (iblk m c 8 t) (iblk m c 11 t) (iblk m c 2 t) (iblk m c 5 t) y
      = term (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 12).blk t).view.emb y) := by
  obtain ⟨i, hi⟩ : ∃ i : Cert.MergeRIdeal.S16384x2048.Idx, i = ((cfg0.win 12).blk t).view.emb y := ⟨_, rfl⟩
  have h0 : (i 0).val = t.val / 4 * 1024 + (y 0).val := by rw [hi]; blk_simp [idx t]
  have h1 : (i 1).val = t.val % 4 * 512 + (y 1).val := by rw [hi]; blk_simp [idx t]
  rw [← hi]
  clear hi
  refine (pay_apply _ _ _ _ _ _ _ _ _ _ _ _ y).trans ?_
  pointwise [term, gates, proj]
  simp only [gate, zero_sub]
  blk_point [iblk, V, idx t]

/-- The result array after the run is the reference's term of the arguments. -/
theorem final (c : Dev nD) : (dats m 0 c).arrAt 12 (cfgs 0).N
    = term (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 12 _ (by decide +kernel) fun t _ y => ?_
  blk_simp
  rw [after0_12]; frame_out
  exact point m c t y

/-- The kernel's result and the reference's are the same function of the arguments over the extended reals. -/
theorem algebraic : Cert.algebraic_MergeKIdeal_MergeRIdeal := by
  intro m g m' g' _ h
  refine ⟨fun c => term (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)), ?_, ?_⟩
  · refine (θ_run _ _ _).mono (fun r hr c => ⟨(hr c).1.trans (final m c), (hr c).2⟩) (Cert.MergeKIdeal.Value.run_blocks m g)
  · refine (θ_run _ _ _).mono (fun r hr c => ⟨(hr c).1.trans ?_, (hr c).2⟩) (Cert.MergeRIdeal.Value.run m' g')
    obtain ⟨h0, h1, h2, h3, h4, h5, h6, h7⟩ := h c
    rw [h0, h1, h2, h3, h4, h5, h6, h7]

/-- The reference's run leaves its arguments alone; it declares no semaphore. -/
theorem frame_ref : Cert.quiescent_MergeRIdeal := fun m ρ _ =>
  (θ_run Cert.MergeRIdeal.defs _ _).mono (fun r h => ⟨fun c => (h c).2, sem_eq_zero_of_no_sems (by decide) r.2⟩)
    (Cert.MergeRIdeal.Value.run m ρ)

end Cert.Proof.Merge

end
-- ==== Proof.OutValue.lean ====
/-
  The output projection with its residual: what one block of the kernel computes, what the result array holds, and that
  this is the reference's term.
-/
module

public import proofs.«01_k».proof.Proof.Gen.OutKIdeal.Value
public import proofs.«01_k».proof.Proof.Gen.OutRIdeal.Run
public import proofs.«01_k».proof.Defs
public import Idealize.ShloMosaic.Lib.Pipeline.ValueKit
public import Idealize.ShloMosaic.Lib.Quiescent

@[expose] public section

set_option maxRecDepth 16384

noncomputable section

namespace Cert.Proof.Out

open Idealize.ShloMosaic Idealize.ShloMosaic.TcCoe Idealize.SL.Sem
open Cert.OutKIdeal Cert.OutKIdeal.Gen

variable (m : (ℓ : Loc nD τ sig) → Buf (Elt Ideal) ℓ)

/-- The reference's term of its four arguments: `x + gate * (merged @ w_out)`. -/
abbrev term (x : FVec Ideal Cert.OutRIdeal.S16384x2048 .bf16) (w : FVec Ideal Cert.OutRIdeal.S2048x2048 .f32)
    (r : FVec Ideal Cert.OutRIdeal.S8x2048x2048 .f32) (g : FVec Ideal Cert.OutRIdeal.S8x1x6144 .f32) :
    FVec Ideal Cert.OutRIdeal.S16384x2048 .f32 :=
  shapeCast _ (addf r (mulf (broadcastInDim Cert.OutRIdeal.S8x2048x2048 ![0, 1, 2] Cert.OutRIdeal.Gen.bcast_S8x1x2048_S8x2048x2048_0_1_2
    (extractStridedSlice Cert.OutRIdeal.S8x1x2048 ![0, 0, 4096] g Cert.OutRIdeal.Gen.slices_S8x1x6144_S8x1x2048_0_0_4096))
    (shapeCast _ (Host.dotGeneral Cert.OutRIdeal.dot_S16384x2048_S2048x2048_S16384x2048_1_0_0_1_n_n none
      (extf .f32 x Cert.OutRIdeal.Gen.bitsLt_bf16_f32) w) Cert.OutRIdeal.Gen.shapeCasts_S16384x2048_S8x2048x2048)))
    Cert.OutRIdeal.Gen.shapeCasts_S8x2048x2048_S16384x2048

/-- The windows' block indices at point `t`: row block `t / 4`, column block `t % 4`. -/
theorem idx : ∀ t : Fin cfg0.N, win0_0.index t = ![t.val / 4, 0] ∧ win0_1.index t = ![0, t.val % 4]
    ∧ win0_2.index t = ![t.val / 4, t.val % 4] ∧ win0_3.index t = ![t.val / 4, 0, 8 + t.val % 4]
    ∧ win0_4.index t = ![t.val / 4, t.val % 4] :=
  (by decide +kernel : ∀ t : Fin grid0.N, _)

/-- The body's block at an index. -/
theorem pay_apply (x2 : FVec Ideal S2048x512 .f32) (x3 : FVec Ideal S1x1x512 .f32) (x0 : FVec Ideal S2048x2048 .bf16)
    (x1 : FVec Ideal S2048x512 .bf16) (y : S2048x512.Idx) :
    k0_pay1 (F := Ideal) x2 x3 x0 x1 y
      = x2 y + x3 (ix3 0 0 (y 1)) * ∑ k : Fin 2048, x0 (ix2 (y 0) k) * x1 (ix2 k (y 1)) := by
  pointwise [k0_pay1]

/-- What the body stores at index `y` of point `t`'s block is the reference's term at the array index of `y`. -/
theorem point (c : Dev nD) (t : Fin cfg0.N) (y : S2048x512.Idx) :
    k0_pay1 (F := Ideal) (iblk m c 2 t) (iblk m c 3 t) (iblk m c 0 t) (iblk m c 1 t) y
      = term (m ((c : Thread nD τ).loc main_arg0)) (m ((c : Thread nD τ).loc main_arg1)) (m ((c : Thread nD τ).loc main_arg2))
          (m ((c : Thread nD τ).loc main_arg3)) (((cfg0.win 4).blk t).view.emb y) := by
  obtain ⟨i, hi⟩ : ∃ i : Cert.OutRIdeal.S16384x2048.Idx, i = ((cfg0.win 4).blk t).view.emb y := ⟨_, rfl⟩
  have h0 : (i 0).val = t.val / 4 * 2048 + (y 0).val := by rw [hi]; blk_simp [idx t]
  have h1 : (i 1).val = t.val % 4 * 512 + (y 1).val := by rw [hi]; blk_simp [idx t]
  rw [← hi]
  clear hi
  refine (pay_apply _ _ _ _ y).trans ?_
  pointwise [term]
  blk_point [iblk, V, idx t]

/-- The result array after the run is the reference's term of the arguments. -/
theorem final (c : Dev nD) : (dats m 0 c).arrAt 4 (cfgs 0).N
    = term (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

/-- The kernel's result and the reference's are the same function of the arguments over the extended reals. -/
theorem algebraic : Cert.algebraic_OutKIdeal_OutRIdeal := by
  intro m g m' g' _ h
  refine ⟨fun c => term (m ((c : Thread nD τ).loc main_arg0)) (m ((c : Thread nD τ).loc main_arg1))
    (m ((c : Thread nD τ).loc main_arg2)) (m ((c : Thread nD τ).loc main_arg3)), ?_, ?_⟩
  · refine (θ_run _ _ _).mono (fun r hr c => ⟨(hr c).1.trans (final m c), (hr c).2⟩) (Cert.OutKIdeal.Value.run_blocks m g)
  · refine (θ_run _ _ _).mono (fun r hr c => ⟨(hr c).1.trans ?_, (hr c).2⟩) (Cert.OutRIdeal.Value.run m' g')
    obtain ⟨h0, h1, h2, h3⟩ := h c
    rw [h0, h1, h2, h3]
    rfl

/-- The reference's run leaves its arguments alone; it declares no semaphore. -/
theorem frame_ref : Cert.quiescent_OutRIdeal := fun m ρ _ =>
  (θ_run Cert.OutRIdeal.defs _ _).mono (fun r h => ⟨fun c => (h c).2, sem_eq_zero_of_no_sems (by decide) r.2⟩)
    (Cert.OutRIdeal.Value.run m ρ)

end Cert.Proof.Out

end
-- ==== Proof.ConfGlu.lean ====
/-
  The convolution kernel's scratch: slab 0 holds the gated rows of the tile after the 32 rows before it, slab `s` the same
  rows moved up by `s`. What the stores leave there, and what a load of 32 rows reads.
-/
module

public import proofs.«01_k».proof.Proof.Gen.ConfKIdeal.Skeleton
public import Idealize.ShloMosaic.Lib.Pipeline.ValueKit
public import Idealize.ShloMosaic.Lib.Pipeline.ReadBack

@[expose] public section

set_option maxRecDepth 16384

noncomputable section

namespace Cert.Proof.Conf

open Idealize.ShloMosaic Idealize.ShloMosaic.TcCoe Idealize.SL.Sem
open Cert.ConfKIdeal Cert.ConfKIdeal.Gen

/-- The scratch as a function of the gated rows: slab `s`, row `r` is row `s + r`. -/
def slabs (g : ℕ → Fin 1024 → EReal) : S8x288x1024.Idx → EReal := fun y => g ((y 0).val + (y 1).val) (y 2)

/-- The stores `L` are of those rows; slabs before `S` are written (slab 0 in its 288 rows, the others in 280), slab `S`
    in its rows before `N`. -/
structure State (g : ℕ → Fin 1024 → EReal) (L : List (View.Piece (Elt Ideal) S8x288x1024 .f32)) (S N : ℕ) : Prop where
  pieces : View.PiecesOf (Val := Elt Ideal) (e := .f32) (slabs g) L
  covers : ∀ y : S8x288x1024.Idx, ((y 0).val = 0 ∧ 0 < S ∨ 0 < (y 0).val ∧ (y 0).val < S ∧ (y 1).val < 280
    ∨ (y 0).val = S ∧ (y 1).val < N) → ∃ p ∈ L, y ∈ p.1.set

variable {g : ℕ → Fin 1024 → EReal} {L : List (View.Piece (Elt Ideal) S8x288x1024 .f32)}

/-- A written element of the scratch, read. -/
theorem State.read {S N : ℕ} (h : State g L S N) (y : S8x288x1024.Idx)
    (hy : (y 0).val = 0 ∧ 0 < S ∨ 0 < (y 0).val ∧ (y 0).val < S ∧ (y 1).val < 280) :
    View.canon (Val := Elt Ideal) (e := .f32) L y = slabs g y :=
  View.canon_apply_of_pieces _ L h.pieces.mem y (h.covers y (hy.elim Or.inl fun h => Or.inr (Or.inl h)))

/-- One more store: rows of slab `S` from row `N` on, after which that slab is written before row `N'`. -/
theorem State.cons {S N N' : ℕ} (h : State g L S N) (r : Rect S8x288x1024) (P : r.shape.Idx → EReal)
    (hP : ∀ x, P x = slabs g (r.emb x))
    (hr : ∀ y : S8x288x1024.Idx, (y 0).val = S → N ≤ (y 1).val → (y 1).val < N' → y ∈ r.set) :
    State g (⟨r, P⟩ :: L) S N' where
  pieces := ⟨hP, h.pieces⟩
  covers y hy := by
    by_cases hN : (y 0).val = S ∧ N ≤ (y 1).val ∧ (y 1).val < N'
    · exact ⟨_, List.mem_cons_self, hr y hN.1 hN.2.1 hN.2.2⟩
    · obtain ⟨p, hp, hyp⟩ := h.covers y (by omega)
      exact ⟨p, List.mem_cons_of_mem _ hp, hyp⟩

/-- A slab written in 280 rows is done. -/
theorem State.next {S : ℕ} (h : State g L S 280) (h0 : 0 < S) : State g L (S + 1) 0 where
  pieces := h.pieces
  covers y hy := h.covers y (by omega)

/-- Slab 0 written in its 288 rows is done. -/
theorem State.first (h : State g L 0 288) : State g L 1 0 where
  pieces := h.pieces
  covers y hy := h.covers y (by have : (y 1).val < 288 := (y 1).isLt; omega)

/-- An element of a block of `n` rows of slab `s` from row `r0` on is in that block's rectangle. -/
theorem mem_rows {s r0 n : ℕ} (y : S8x288x1024.Idx) (h0 : (y 0).val = s) (h1 : r0 ≤ (y 1).val) (h2 : (y 1).val < r0 + n)
    (hw : ∀ a, (![s, r0, 0] : Fin 3 → ℕ) a + (![1, n, 1024] : Fin 3 → ℕ) a ≤ S8x288x1024.size a) :
    y ∈ (Rect.unit (s := S8x288x1024) ![s, r0, 0] ![1, n, 1024] hw).set := by
  have hy : (y 2).val < 1024 := (y 2).isLt
  refine Rect.mem_set_unit.mpr (Fin.forall_fin_succ.mpr ⟨?_, Fin.forall_fin_two.mpr ⟨?_, ?_⟩⟩)
  · show s ≤ (y 0).val ∧ (y 0).val < s + 1
    omega
  · show r0 ≤ (y 1).val ∧ (y 1).val < r0 + n
    omega
  · show 0 ≤ (y 2).val ∧ (y 2).val < 0 + 1024
    omega

/-- An element of the scratch, where a block of `n` rows puts it. -/
theorem slabs_emb {s r0 n : ℕ} (hw : ∀ a, (![s, r0, 0] : Fin 3 → ℕ) a + (![1, n, 1024] : Fin 3 → ℕ) a ≤ S8x288x1024.size a)
    (x0 : Fin 1) (x1 : Fin n) (x2 : Fin 1024) :
    slabs g ((Rect.unit (s := S8x288x1024) ![s, r0, 0] ![1, n, 1024] hw).emb (ix3 x0 x1 x2)) = g (s + (r0 + x1.val)) x2 := by
  have hx : x0.val = 0 := by omega
  have e0 : (((Rect.unit (s := S8x288x1024) ![s, r0, 0] ![1, n, 1024] hw).emb (ix3 x0 x1 x2)) 0).val = s + 1 * x0.val := rfl
  have e1 : (((Rect.unit (s := S8x288x1024) ![s, r0, 0] ![1, n, 1024] hw).emb (ix3 x0 x1 x2)) 1).val = r0 + 1 * x1.val := rfl
  have e2 : ((Rect.unit (s := S8x288x1024) ![s, r0, 0] ![1, n, 1024] hw).emb (ix3 x0 x1 x2)) 2 = x2 :=
    Fin.ext (show 0 + 1 * x2.val = x2.val by omega)
  exact congr (congrArg g (by omega)) e2

/-- What a copy stores is the row that belongs there. -/
theorem moved {s r0 n : ℕ} (h : State g L s r0) (hs : 0 < s) (x0 : Fin 1) (x1 : Fin n) (x2 : Fin 1024)
    (hb : r0 + s + x1.val < 288) (hw : ∀ a, (![s, r0, 0] : Fin 3 → ℕ) a + (![1, n, 1024] : Fin 3 → ℕ) a ≤ S8x288x1024.size a) :
    View.canon (Val := Elt Ideal) (e := .f32) L (ix3 0 ⟨r0 + s + x1.val, hb⟩ x2 : S8x288x1024.Idx)
      = slabs g ((Rect.unit (s := S8x288x1024) ![s, r0, 0] ![1, n, 1024] hw).emb (ix3 x0 x1 x2)) := by
  rw [h.read _ (.inl ⟨rfl, hs⟩), slabs_emb]
  exact congrFun (congrArg g (show 0 + (r0 + s + x1.val) = s + (r0 + x1.val) by omega)) x2

/-- The copy of 64 rows of slab 0 into slab `s`. -/
theorem copy64 {κ : Kind} {sp : Space} {sg : RefSig} (v : View sg κ sp S8x288x1024 .f32) {s r0 : ℕ} (h : State g L s r0) (hs : 0 < s)
    (hw : ∀ a, (![s, r0, 0] : Fin 3 → ℕ) a + S1x64x1024.size a ≤ S8x288x1024.size a)
    (hl : ∀ a, (![0, r0 + s, 0] : Fin 3 → ℕ) a + S1x64x1024.size a ≤ S8x288x1024.size a) :
    State g (⟨Rect.unit (s := S8x288x1024) ![s, r0, 0] S1x64x1024.size hw,
      k0_pay9 (F := Ideal) (v.readCov L (Rect.unit (s := S8x288x1024) ![0, r0 + s, 0] S1x64x1024.size hl).toLoadRect)⟩ :: L) s (r0 + 64) :=
  h.cons _ _ (fun x => by
    obtain ⟨x0, x1, x2, rfl⟩ : ∃ (x0 : Fin 1) (x1 : Fin 64) (x2 : Fin 1024), x = ix3 x0 x1 x2 :=
      ⟨x 0, x 1, x 2, by funext a; fin_cases a <;> rfl⟩
    rw [View.readCov_eq_canon']
    pointwise [k0_pay9]
    exact moved h hs x0 x1 x2 _ _) fun y h0 h1 h2 => mem_rows y h0 h1 h2 hw

/-- The copy of 24 rows of slab 0 into slab `s`. -/
theorem copy24 {κ : Kind} {sp : Space} {sg : RefSig} (v : View sg κ sp S8x288x1024 .f32) {s r0 : ℕ} (h : State g L s r0) (hs : 0 < s)
    (hw : ∀ a, (![s, r0, 0] : Fin 3 → ℕ) a + S1x24x1024.size a ≤ S8x288x1024.size a)
    (hl : ∀ a, (![0, r0 + s, 0] : Fin 3 → ℕ) a + S1x24x1024.size a ≤ S8x288x1024.size a) :
    State g (⟨Rect.unit (s := S8x288x1024) ![s, r0, 0] S1x24x1024.size hw,
      k0_pay13 (F := Ideal) (v.readCov L (Rect.unit (s := S8x288x1024) ![0, r0 + s, 0] S1x24x1024.size hl).toLoadRect)⟩ :: L) s (r0 + 24) :=
  h.cons _ _ (fun x => by
    obtain ⟨x0, x1, x2, rfl⟩ : ∃ (x0 : Fin 1) (x1 : Fin 24) (x2 : Fin 1024), x = ix3 x0 x1 x2 :=
      ⟨x 0, x 1, x 2, by funext a; fin_cases a <;> rfl⟩
    rw [View.readCov_eq_canon']
    pointwise [k0_pay13]
    exact moved h hs x0 x1 x2 _ _) fun y h0 h1 h2 => mem_rows y h0 h1 h2 hw

/-- A load of 32 rows of slab `s` from row `r` on reads rows `s + r` on. -/
theorem load32 {κ : Kind} {sp : Space} {sg : RefSig} (v : View sg κ sp S8x288x1024 .f32) (h : State g L 8 0) {s r : ℕ}
    (hr : s = 0 ∨ r ≤ 248)
    (hl : ∀ a, (![s, r, 0] : Fin 3 → ℕ) a + S1x32x1024.size a ≤ S8x288x1024.size a) (x0 : Fin 1) (x1 : Fin 32) (x2 : Fin 1024) :
    v.readCov (Val := Elt Ideal) L (Rect.unit (s := S8x288x1024) ![s, r, 0] S1x32x1024.size hl).toLoadRect (ix3 x0 x1 x2) = g (s + (r + x1.val)) x2 := by
  have hs : s + 1 ≤ 8 := hl 0
  have hx : x0.val = 0 := by omega
  rw [View.readCov_eq_canon']
  refine (h.read _ ?_).trans (slabs_emb hl x0 x1 x2)
  show s + 1 * x0.val = 0 ∧ 0 < 8 ∨ 0 < s + 1 * x0.val ∧ s + 1 * x0.val < 8 ∧ r + 1 * x1.val < 280
  omega

/-- The five stores of slab 0: the 32 rows before the tile (zeros before the first row) and the tile's 256 rows. -/
theorem base (arg1 : BitVec 32) (A0 A1 A2 A3 B0 B1 B2 B3 : FVec Ideal S1x64x1024 .bf16) (A4 B4 : FVec Ideal S1x32x1024 .bf16)
    (h0 : ∀ (n : Fin 64) (c : Fin 1024), A0 (ix3 0 n c) * Ideal.div 1 (1 + Ideal.exp (-B0 (ix3 0 n c))) = g (32 + n.val) c)
    (h1 : ∀ (n : Fin 64) (c : Fin 1024), A1 (ix3 0 n c) * Ideal.div 1 (1 + Ideal.exp (-B1 (ix3 0 n c))) = g (96 + n.val) c)
    (h2 : ∀ (n : Fin 64) (c : Fin 1024), A2 (ix3 0 n c) * Ideal.div 1 (1 + Ideal.exp (-B2 (ix3 0 n c))) = g (160 + n.val) c)
    (h3 : ∀ (n : Fin 64) (c : Fin 1024), A3 (ix3 0 n c) * Ideal.div 1 (1 + Ideal.exp (-B3 (ix3 0 n c))) = g (224 + n.val) c)
    (h4 : ∀ (n : Fin 32) (c : Fin 1024), Scalar.select (Scalar.cmpi .sgt arg1 0#32) (A4 (ix3 0 n c) * Ideal.div 1 (1 + Ideal.exp (-B4 (ix3 0 n c)))) (0 : EReal) = g n.val c)
    (w0 : ∀ a, (![0, 32, 0] : Fin 3 → ℕ) a + S1x64x1024.size a ≤ S8x288x1024.size a)
    (w1 : ∀ a, (![0, 96, 0] : Fin 3 → ℕ) a + S1x64x1024.size a ≤ S8x288x1024.size a)
    (w2 : ∀ a, (![0, 160, 0] : Fin 3 → ℕ) a + S1x64x1024.size a ≤ S8x288x1024.size a)
    (w3 : ∀ a, (![0, 224, 0] : Fin 3 → ℕ) a + S1x64x1024.size a ≤ S8x288x1024.size a)
    (w4 : ∀ a, (![0, 0, 0] : Fin 3 → ℕ) a + S1x32x1024.size a ≤ S8x288x1024.size a) :
    State g [⟨Rect.unit (s := S8x288x1024) ![0, 0, 0] S1x32x1024.size w4, k0_pay8 (F := Ideal) arg1 A4 B4⟩,
      ⟨Rect.unit (s := S8x288x1024) ![0, 224, 0] S1x64x1024.size w3, k0_pay7 (F := Ideal) (k0_pay6 (F := Ideal) A3 B3)⟩,
      ⟨Rect.unit (s := S8x288x1024) ![0, 160, 0] S1x64x1024.size w2, k0_pay5 (F := Ideal) A2 B2⟩,
      ⟨Rect.unit (s := S8x288x1024) ![0, 96, 0] S1x64x1024.size w1, k0_pay4 (F := Ideal) (k0_pay3 (F := Ideal) A1 B1)⟩,
      ⟨Rect.unit (s := S8x288x1024) ![0, 32, 0] S1x64x1024.size w0, k0_pay2 (F := Ideal) A0 B0⟩] 1 0 := by
  have ext64 : ∀ x : S1x64x1024.Idx, ∃ (x1 : Fin 64) (x2 : Fin 1024), x = ix3 0 x1 x2 := fun x =>
    ⟨x 1, x 2, by funext a; fin_cases a <;> [exact Fin.ext (by have : (x 0).val < 1 := (x 0).isLt; show (x 0).val = 0; omega); rfl; rfl]⟩
  have ext32 : ∀ x : S1x32x1024.Idx, ∃ (x1 : Fin 32) (x2 : Fin 1024), x = ix3 0 x1 x2 := fun x =>
    ⟨x 1, x 2, by funext a; fin_cases a <;> [exact Fin.ext (by have : (x 0).val < 1 := (x 0).isLt; show (x 0).val = 0; omega); rfl; rfl]⟩
  refine State.first ⟨⟨fun x => ?_, fun x => ?_, fun x => ?_, fun x => ?_, fun x => ?_, trivial⟩, fun y hy => ?_⟩
  · obtain ⟨n, c, rfl⟩ := ext32 x
    refine Eq.trans ?_ ((h4 n c).trans ((slabs_emb w4 0 n c).trans (by rw [Nat.zero_add, Nat.zero_add])).symm)
    pointwise [k0_pay8]
    rw [zero_sub]
  · obtain ⟨n, c, rfl⟩ := ext64 x
    refine Eq.trans ?_ ((h3 n c).trans ((slabs_emb w3 0 n c).trans (by rw [Nat.zero_add])).symm)
    pointwise [k0_pay6, k0_pay7]
    rw [zero_sub]
  · obtain ⟨n, c, rfl⟩ := ext64 x
    refine Eq.trans ?_ ((h2 n c).trans ((slabs_emb w2 0 n c).trans (by rw [Nat.zero_add])).symm)
    pointwise [k0_pay5]
    rw [zero_sub]
  · obtain ⟨n, c, rfl⟩ := ext64 x
    refine Eq.trans ?_ ((h1 n c).trans ((slabs_emb w1 0 n c).trans (by rw [Nat.zero_add])).symm)
    pointwise [k0_pay3, k0_pay4]
    rw [zero_sub]
  · obtain ⟨n, c, rfl⟩ := ext64 x
    refine Eq.trans ?_ ((h0 n c).trans ((slabs_emb w0 0 n c).trans (by rw [Nat.zero_add])).symm)
    pointwise [k0_pay2]
    rw [zero_sub]
  · have hy0 : (y 0).val = 0 := by omega
    have hy1 : (y 1).val < 288 := (y 1).isLt
    by_cases c4 : (y 1).val < 32
    · exact ⟨_, .head _, mem_rows y hy0 (Nat.zero_le _) (by omega) w4⟩
    by_cases c3 : 224 ≤ (y 1).val
    · exact ⟨_, .tail _ (.head _), mem_rows y hy0 c3 (by omega) w3⟩
    by_cases c2 : 160 ≤ (y 1).val
    · exact ⟨_, .tail _ (.tail _ (.head _)), mem_rows y hy0 c2 (by omega) w2⟩
    by_cases c1 : 96 ≤ (y 1).val
    · exact ⟨_, .tail _ (.tail _ (.tail _ (.head _))), mem_rows y hy0 c1 (by omega) w1⟩
    · exact ⟨_, .tail _ (.tail _ (.tail _ (.tail _ (.head _)))), mem_rows y hy0 (by omega) (by omega) w0⟩

/-- The five stores of slab 0. -/
def slab0 (arg1 : BitVec 32) (X0 X1 : FVec Ideal S1x256x1024 .bf16) (X2 X3 : FVec Ideal S1x32x1024 .bf16) :
    List (View.Piece (Elt Ideal) S8x288x1024 .f32) :=
  [⟨Rect.unit (s := S8x288x1024) ![0, 0, 0] S1x32x1024.size inb_S8x288x1024_S1x32x1024_0_0_0, k0_pay8 (F := Ideal) arg1 X2 X3⟩,
    ⟨Rect.unit (s := S8x288x1024) ![0, 224, 0] S1x64x1024.size inb_S8x288x1024_S1x64x1024_0_224_0, k0_pay7 (F := Ideal) (k0_pay6 (F := Ideal)
      (View.ld (Val := Elt Ideal) (e' := .bf16) X0 (Rect.unit (s := S1x256x1024) ![0, 192, 0] S1x64x1024.size inb_S1x256x1024_S1x64x1024_0_192_0))
      (View.ld (Val := Elt Ideal) (e' := .bf16) X1 (Rect.unit (s := S1x256x1024) ![0, 192, 0] S1x64x1024.size inb_S1x256x1024_S1x64x1024_0_192_0)))⟩,
    ⟨Rect.unit (s := S8x288x1024) ![0, 160, 0] S1x64x1024.size inb_S8x288x1024_S1x64x1024_0_160_0, k0_pay5 (F := Ideal)
      (View.ld (Val := Elt Ideal) (e' := .bf16) X0 (Rect.unit (s := S1x256x1024) ![0, 128, 0] S1x64x1024.size inb_S1x256x1024_S1x64x1024_0_128_0))
      (View.ld (Val := Elt Ideal) (e' := .bf16) X1 (Rect.unit (s := S1x256x1024) ![0, 128, 0] S1x64x1024.size inb_S1x256x1024_S1x64x1024_0_128_0))⟩,
    ⟨Rect.unit (s := S8x288x1024) ![0, 96, 0] S1x64x1024.size inb_S8x288x1024_S1x64x1024_0_96_0, k0_pay4 (F := Ideal) (k0_pay3 (F := Ideal)
      (View.ld (Val := Elt Ideal) (e' := .bf16) X0 (Rect.unit (s := S1x256x1024) ![0, 64, 0] S1x64x1024.size inb_S1x256x1024_S1x64x1024_0_64_0))
      (View.ld (Val := Elt Ideal) (e' := .bf16) X1 (Rect.unit (s := S1x256x1024) ![0, 64, 0] S1x64x1024.size inb_S1x256x1024_S1x64x1024_0_64_0)))⟩,
    ⟨Rect.unit (s := S8x288x1024) ![0, 32, 0] S1x64x1024.size inb_S8x288x1024_S1x64x1024_0_32_0, k0_pay2 (F := Ideal)
      (View.ld (Val := Elt Ideal) (e' := .bf16) X0 (Rect.unit (s := S1x256x1024) ![0, 0, 0] S1x64x1024.size inb_S1x256x1024_S1x64x1024_0_0_0))
      (View.ld (Val := Elt Ideal) (e' := .bf16) X1 (Rect.unit (s := S1x256x1024) ![0, 0, 0] S1x64x1024.size inb_S1x256x1024_S1x64x1024_0_0_0))⟩]

theorem inb_64 (s : Fin 8) (j : Fin 4) (o : ℕ) (ho : o ≤ 7) : ∀ a, (![s.val, 64 * j.val + o, 0] : Fin 3 → ℕ) a + S1x64x1024.size a ≤ S8x288x1024.size a :=
  Fin.forall_fin_succ.mpr ⟨(by show s.val + 1 ≤ 8; omega), Fin.forall_fin_two.mpr ⟨(by show 64 * j.val + o + 64 ≤ 288; omega), Nat.le_refl 1024⟩⟩

theorem inb_24 (s : Fin 8) (o : ℕ) (ho : o ≤ 7) : ∀ a, (![s.val, 256 + o, 0] : Fin 3 → ℕ) a + S1x24x1024.size a ≤ S8x288x1024.size a :=
  Fin.forall_fin_succ.mpr ⟨(by show s.val + 1 ≤ 8; omega), Fin.forall_fin_two.mpr ⟨(by show 256 + o + 24 ≤ 288; omega), Nat.le_refl 1024⟩⟩

variable {κ : Kind} {sp : Space} {sg : RefSig} (v : View sg κ sp S8x288x1024 .f32)

/-- The stores so far and the copy of 64 rows into slab `s`, the `j`-th such. -/
def add64 (s : Fin 8) (j : Fin 4) (L : List (View.Piece (Elt Ideal) S8x288x1024 .f32)) : List (View.Piece (Elt Ideal) S8x288x1024 .f32) :=
  ⟨Rect.unit (s := S8x288x1024) ![s.val, 64 * j.val, 0] S1x64x1024.size (inb_64 s j 0 (by omega)),
    k0_pay9 (F := Ideal) (v.readCov L (Rect.unit (s := S8x288x1024) ![0, 64 * j.val + s.val, 0] S1x64x1024.size (inb_64 0 j s.val (by omega))).toLoadRect)⟩ :: L

/-- The stores so far and the copy of the last 24 rows into slab `s`. -/
def add24 (s : Fin 8) (L : List (View.Piece (Elt Ideal) S8x288x1024 .f32)) : List (View.Piece (Elt Ideal) S8x288x1024 .f32) :=
  ⟨Rect.unit (s := S8x288x1024) ![s.val, 256, 0] S1x24x1024.size (inb_24 s 0 (by omega)),
    k0_pay13 (F := Ideal) (v.readCov L (Rect.unit (s := S8x288x1024) ![0, 256 + s.val, 0] S1x24x1024.size (inb_24 0 s.val (by omega))).toLoadRect)⟩ :: L

/-- The stores so far and those of slab `s`. -/
def addSlab (s : Fin 8) (L : List (View.Piece (Elt Ideal) S8x288x1024 .f32)) : List (View.Piece (Elt Ideal) S8x288x1024 .f32) :=
  add24 v s (add64 v s 3 (add64 v s 2 (add64 v s 1 (add64 v s 0 L))))

/-- A slab's stores complete it. -/
theorem State.addSlab (s : Fin 8) (hs : 0 < s.val) (h : State g L s.val 0) : State g (addSlab v s L) (s.val + 1) 0 := by
  have h0 := copy64 v h hs (inb_64 s 0 0 (by omega)) (inb_64 0 0 s.val (by omega))
  have h1 := copy64 v h0 hs (inb_64 s 1 0 (by omega)) (inb_64 0 1 s.val (by omega))
  have h2 := copy64 v h1 hs (inb_64 s 2 0 (by omega)) (inb_64 0 2 s.val (by omega))
  have h3 := copy64 v h2 hs (inb_64 s 3 0 (by omega)) (inb_64 0 3 s.val (by omega))
  exact (copy24 v h3 hs (inb_24 s 0 (by omega)) (inb_24 0 s.val (by omega))).next hs

end Cert.Proof.Conf

end
-- ==== Proof.ConfRef.lean ====
/-
  The convolution module, in plain words: the gated rows, the causal depthwise convolution of 31 taps over them, the layer
  norm, and the two gates; and that the reference's run leaves this in its result.
-/
module

public import proofs.«01_k».proof.Proof.Gen.ConfRIdeal.Run
public import proofs.«01_k».proof.Defs
public import Idealize.ShloMosaic.Lib.Pipeline.ValueKit
public import Idealize.ShloMosaic.Lib.Quiescent

@[expose] public section

set_option maxRecDepth 16384

noncomputable section

namespace Cert.Proof.Conf

open Idealize.ShloMosaic Idealize.ShloMosaic.TcCoe Idealize.SL.Sem
open Cert.ConfRIdeal Cert.ConfRIdeal.Gen Cert.ConfRIdeal.Value

/-- The logistic function. -/
def logistic (z : EReal) : EReal := Ideal.div 1 (1 + Ideal.exp (-z))

/-- The gated row `n` of batch `b`: the first half of the columns under the logistic function of the second. -/
def glu (p : FVec Ideal S8x2048x15872 .bf16) (b : Fin 8) (n : Fin 2048) (c : Fin 1024) : EReal :=
  p (ix3 b n ⟨4096 + c.val, by omega⟩) * logistic (p (ix3 b n ⟨5120 + c.val, by omega⟩))

/-- The gated rows after thirty rows of zeros. -/
def padded (p : FVec Ideal S8x2048x15872 .bf16) (b : Fin 8) (n : ℕ) (c : Fin 1024) : EReal :=
  if h : 30 ≤ n ∧ n - 30 < 2048 then glu p b ⟨n - 30, h.2⟩ c else 0

/-- The causal convolution at row `l`: 31 taps, and the bias. -/
def conv (p : FVec Ideal S8x2048x15872 .bf16) (w : FVec Ideal S31x1024 .f32) (cb : FVec Ideal S1024 .f32)
    (b : Fin 8) (l : Fin 2048) (c : Fin 1024) : EReal :=
  (∑ k : Fin 31, w (ix2 k c) * padded p b (k.val + l.val) c) + cb (ix1 c)

/-- The mean of a row. -/
def mean (f : Fin 1024 → EReal) : EReal := Ideal.div (∑ c, f c) (Ideal.ofBits .f32 0x44800000#32)

/-- The layer norm of a row, with its gain and shift. -/
def norm (f : Fin 1024 → EReal) (g s : EReal) (c : Fin 1024) : EReal :=
  (f c - mean f) * Ideal.rsqrt (mean (fun d => (f d - mean f) * (f d - mean f)) + Ideal.ofBits .f32 0x358637BD#32) * g + s

/-- One element of the module's result: the normalised convolution and the gate's column, each as `z * logistic z`. -/
def outAt (p : FVec Ideal S8x2048x15872 .bf16) (w : FVec Ideal S31x1024 .f32) (cb g s : FVec Ideal S1024 .f32)
    (b : Fin 8) (l : Fin 2048) (c : Fin 1024) : EReal :=
  norm (fun d => conv p w cb b l d) (g (ix1 c)) (s (ix1 c)) c * logistic (norm (fun d => conv p w cb b l d) (g (ix1 c)) (s (ix1 c)) c)
    * (p (ix3 b l ⟨6144 + c.val, by omega⟩) * logistic (p (ix3 b l ⟨6144 + c.val, by omega⟩)))

/-- The module's result. -/
def T (p : FVec Ideal S8x2048x15872 .bf16) (w : FVec Ideal S31x1024 .f32) (cb g s : FVec Ideal S1024 .f32) :
    FVec Ideal S8x2048x1024 .bf16 := fun i => outAt p w cb g s (i 0) (i 1) (i 2)

variable (V0 : Valuation τ Cert.ConfRIdeal.sig (Elt Ideal))

/-- The projection, in the reference's memory. -/
abbrev aP : FVec Ideal S8x2048x15872 .bf16 := V0 (Proc.devRef .tc main_arg0)
/-- The taps, in the reference's memory. -/
abbrev aW : FVec Ideal S31x1024 .f32 := V0 (Proc.devRef .tc main_arg1)
/-- The bias, in the reference's memory. -/
abbrev aC : FVec Ideal S1024 .f32 := V0 (Proc.devRef .tc main_arg2)
/-- The gain, in the reference's memory. -/
abbrev aG : FVec Ideal S1024 .f32 := V0 (Proc.devRef .tc main_arg3)
/-- The shift, in the reference's memory. -/
abbrev aS : FVec Ideal S1024 .f32 := V0 (Proc.devRef .tc main_arg4)

/-- The reference's padded rows. -/
theorem ref_pad (b : Fin 8) (n : Fin 2078) (c : Fin 1024) :
    (res_main_v13 V0 : FVec Ideal S8x2078x1024 .f32) (ix3 b n c) = padded (aP V0) b n.val c := by
  by_cases h : 30 ≤ n.val ∧ n.val - 30 < 2048
  · rw [padded, dif_pos h]
    pointwise [res_main_v13]
    rw [dif_pos h]
    rfl
  · rw [padded, dif_neg h]
    pointwise [res_main_v13]
    rw [dif_neg h]
    simp [FloatOps.sitofp]

/-- The reference's convolution. -/
theorem ref_conv (b : Fin 8) (l : Fin 2048) (c : Fin 1024) :
    (res_main_v232 V0 : FVec Ideal S8x2048x1024 .f32) (ix3 b l c) = conv (aP V0) (aW V0) (aC V0) b l c := by
  pointwise [res_main_v232, res_main_v166, res_main_v89]
  simp only [ref_pad]
  simp only [conv, Fin.sum_univ_castSucc, Fin.sum_univ_zero, Fin.val_castSucc, Fin.val_last, zero_add]
  rfl

/-- The reference's mean of a row of the convolution. -/
theorem ref_mean (b : Fin 8) (l : Fin 2048) :
    (res_main_v236 V0 : FVec Ideal S8x2048x1 .f32) (ix3 b l 0) = mean (conv (aP V0) (aW V0) (aC V0) b l) := by
  pointwise [res_main_v236]
  simp only [ref_conv]
  rfl

/-- The reference's centred row. -/
theorem ref_centred (b : Fin 8) (l : Fin 2048) (c : Fin 1024) :
    (res_main_v238 V0 : FVec Ideal S8x2048x1024 .f32) (ix3 b l c)
      = conv (aP V0) (aW V0) (aC V0) b l c - mean (conv (aP V0) (aW V0) (aC V0) b l) := by
  pointwise [res_main_v238]
  simp only [ref_conv, ref_mean]

/-- The reference's normalised row. -/
theorem ref_norm (b : Fin 8) (l : Fin 2048) (c : Fin 1024) :
    (res_main_v256 V0 : FVec Ideal S8x2048x1024 .f32) (ix3 b l c)
      = norm (conv (aP V0) (aW V0) (aC V0) b l) (aG V0 (ix1 c)) (aS V0 (ix1 c)) c := by
  pointwise [res_main_v256]
  simp only [ref_conv, ref_mean, ref_centred]
  rfl

/-- The reference's term. -/
abbrev term : FVec Ideal S8x2048x1024 .bf16 :=
  truncf .bf16 (mulf (mulf (res_main_v256 V0) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (res_main_v256 V0))))))
      (mulf (res_main_v5 V0) (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (res_main_v5 V0))))))) bitsLt_bf16_f32

/-- One element of the reference's term. -/
theorem ref_term_at (b : Fin 8) (l : Fin 2048) (c : Fin 1024) :
    term V0 (ix3 b l c) = outAt (aP V0) (aW V0) (aC V0) (aG V0) (aS V0) b l c := by
  pointwise [term, res_main_v5]
  simp only [ref_norm]
  rfl

/-- The reference's term is the module's result. -/
theorem ref_term : term V0 = T (aP V0) (aW V0) (aC V0) (aG V0) (aS V0) := by
  funext i
  have hi : i = ix3 (i 0) (i 1) (i 2) := by funext a; fin_cases a <;> rfl
  exact (congrArg (term V0) hi).trans (ref_term_at V0 (i 0) (i 1) (i 2))

end Cert.Proof.Conf

end
-- ==== Proof.ConfTile.lean ====
/-
  One tile of 32 rows of the convolution kernel: the bias, 31 taps added one after another, the layer norm and the gates,
  and the tile's value at an index.
-/
module

public import proofs.«01_k».proof.Proof.Gen.ConfKIdeal.Skeleton
public import proofs.«01_k».proof.Proof.ConfRef
public import Idealize.ShloMosaic.Lib.Pipeline.ValueKit

@[expose] public section

set_option maxRecDepth 16384

noncomputable section

namespace Cert.Proof.Conf

open Idealize.ShloMosaic Idealize.ShloMosaic.TcCoe Idealize.SL.Sem
open Cert.ConfKIdeal Cert.ConfKIdeal.Gen

/-- The bias in every row of the tile. -/
def start (cb : FVec Ideal S1x1024 .f32) : FVec Ideal S4x8x1024 .f32 :=
  broadcastTo S4x8x1024 (shapeCast S1x1x1024 (shapeCast S1x1024 cb shapeCasts_S1x1024_S1x1024) shapeCasts_S1x1024_S1x1x1024) broadcasts_S1x1x1024_S4x8x1024

/-- One tap added: its weights times the rows it meets. -/
def step (acc : FVec Ideal S4x8x1024 .f32) (w : FVec Ideal S1x8x1024 .f32) (d : FVec Ideal S1x32x1024 .f32) : FVec Ideal S4x8x1024 .f32 :=
  addf acc (mulf
    (broadcastTo S4x8x1024 (shapeCast S1x8x1024 (shapeCast S8x1024 w shapeCasts_S1x8x1024_S8x1024) shapeCasts_S8x1024_S1x8x1024) broadcasts_S1x8x1024_S4x8x1024)
    (shapeCast S4x8x1024 (shapeCast S32x1024 d shapeCasts_S1x32x1024_S32x1024) shapeCasts_S32x1024_S4x8x1024))

/-- The first `n` taps. -/
def taps (cb : FVec Ideal S1x1024 .f32) (W : Fin 31 → FVec Ideal S1x8x1024 .f32) (D : Fin 31 → FVec Ideal S1x32x1024 .f32) :
    (n : ℕ) → n ≤ 31 → FVec Ideal S4x8x1024 .f32
  | 0, _ => start cb
  | n + 1, h => step (taps cb W D n (Nat.le_of_succ_le h)) (W ⟨n, h⟩) (D ⟨n, h⟩)

/-- The mean of each row. -/
def rowMean (x : FVec Ideal S32x1024 .f32) : FVec Ideal S32x1 .f32 :=
  divf (shapeCast S32x1 (multiReduction .add [1] S32 x 0x00000000#32 reduces_S32x1024_S32 (.inl rfl) rfl) shapeCasts_S32_S32x1)
    (broadcast S32x1 (Scalar.ofBits .f32 0x44800000#32))

/-- Each row less its mean. -/
def centred (x : FVec Ideal S32x1024 .f32) : FVec Ideal S32x1024 .f32 := subf x (broadcastTo S32x1024 (rowMean x) broadcasts_S32x1_S32x1024)

/-- The layer norm of the rows. -/
def normed (x : FVec Ideal S32x1024 .f32) (lg lb : FVec Ideal S1x1024 .f32) : FVec Ideal S32x1024 .f32 :=
  addf (mulf (mulf (centred x) (broadcastTo S32x1024 (rsqrt (addf (rowMean (mulf (centred x) (centred x))) (broadcast S32x1 (Scalar.ofBits .f32 0x358637BD#32))))
      broadcasts_S32x1_S32x1024))
    (broadcastTo S32x1024 (shapeCast S1x1024 lg shapeCasts_S1x1024_S1x1024) broadcasts_S1x1024_S32x1024))
    (broadcastTo S32x1024 (shapeCast S1x1024 lb shapeCasts_S1x1024_S1x1024) broadcasts_S1x1024_S32x1024)

/-- `z` under its own logistic function. -/
def silu (z : FVec Ideal S32x1024 .f32) : FVec Ideal S32x1024 .f32 :=
  mulf z (divf (broadcast S32x1024 (Scalar.ofBits .f32 0x3F800000#32))
    (addf (broadcast S32x1024 (Scalar.ofBits .f32 0x3F800000#32)) (exp (subf (broadcast S32x1024 (Scalar.ofBits .f32 0x00000000#32)) z))))

/-- The tile's stored block. -/
def tile (cb : FVec Ideal S1x1024 .f32) (W : Fin 31 → FVec Ideal S1x8x1024 .f32) (D : Fin 31 → FVec Ideal S1x32x1024 .f32)
    (lg lb : FVec Ideal S1x1024 .f32) (z : FVec Ideal S1x32x1024 .bf16) : FVec Ideal S1x32x1024 .bf16 :=
  shapeCast S1x32x1024 (truncf .bf16 (mulf
    (silu (normed (shapeCast S32x1024 (taps cb W D 31 (Nat.le_refl 31)) shapeCasts_S4x8x1024_S32x1024) lg lb))
    (silu (extf .f32 (shapeCast S32x1024 z shapeCasts_S1x32x1024_S32x1024) bitsLt_bf16_f32))) bitsLt_bf16_f32) shapeCasts_S32x1024_S1x32x1024

variable (cb : FVec Ideal S1x1024 .f32) (W : Fin 31 → FVec Ideal S1x8x1024 .f32) (D : Fin 31 → FVec Ideal S1x32x1024 .f32)
  (lg lb : FVec Ideal S1x1024 .f32) (z : FVec Ideal S1x32x1024 .bf16)

/-- One tap, at an element. -/
theorem step_at (acc : FVec Ideal S4x8x1024 .f32) (w : FVec Ideal S1x8x1024 .f32) (d : FVec Ideal S1x32x1024 .f32)
    (q : Fin 4) (r : Fin 8) (c : Fin 1024) :
    step acc w d (ix3 q r c) = acc (ix3 q r c) + w (ix3 0 r c) * d (ix3 0 ⟨q.val * 8 + r.val, by omega⟩ c) := by
  pointwise [step]

/-- The first `n` taps, at an element. -/
theorem taps_at (w d : ℕ → EReal) (q : Fin 4) (r : Fin 8) (c : Fin 1024) (hw : ∀ k : Fin 31, W k (ix3 0 r c) = w k.val)
    (hd : ∀ k : Fin 31, D k (ix3 0 ⟨q.val * 8 + r.val, by omega⟩ c) = d k.val) (n : ℕ) (h : n ≤ 31) :
    taps cb W D n h (ix3 q r c) = cb (ix2 0 c) + ∑ k ∈ Finset.range n, w k * d k := by
  induction n with
  | zero =>
    rw [Finset.range_zero, Finset.sum_empty, add_zero]
    show start cb (ix3 q r c) = _
    pointwise [start]
  | succ n ih =>
    rw [Finset.sum_range_succ, ← add_assoc, ← ih (Nat.le_of_succ_le h), ← hw ⟨n, h⟩, ← hd ⟨n, h⟩]
    exact step_at _ _ _ q r c

/-- The tile's block at an element, over the row that the taps leave. -/
theorem tile_row (n : Fin 32) (c : Fin 1024) (f : Fin 1024 → EReal)
    (hf : ∀ d, taps cb W D 31 (Nat.le_refl 31) (ix3 ⟨n.val / 8, by omega⟩ ⟨n.val % 8, by omega⟩ d) = f d) :
    tile cb W D lg lb z (ix3 0 n c)
      = norm f (lg (ix2 0 c)) (lb (ix2 0 c)) c * logistic (norm f (lg (ix2 0 c)) (lb (ix2 0 c)) c) * (z (ix3 0 n c) * logistic (z (ix3 0 n c))) := by
  unfold tile
  generalize taps cb W D 31 (Nat.le_refl 31) = acc at hf
  obtain rfl : f = fun d => acc (ix3 ⟨n.val / 8, by omega⟩ ⟨n.val % 8, by omega⟩ d) := (funext hf).symm
  pointwise [silu, normed, centred, rowMean]
  simp only [zero_sub]
  rfl

/-- The tile's block at an element is the module's result there. -/
theorem tile_at (p : FVec Ideal Cert.ConfRIdeal.S8x2048x15872 .bf16) (w : FVec Ideal Cert.ConfRIdeal.S31x1024 .f32)
    (cv g s : FVec Ideal Cert.ConfRIdeal.S1024 .f32) (b : Fin 8) (l : Fin 2048) (n : Fin 32) (c : Fin 1024)
    (hcb : ∀ d, cb (ix2 0 d) = cv (ix1 d)) (hlg : lg (ix2 0 c) = g (ix1 c)) (hlb : lb (ix2 0 c) = s (ix1 c))
    (hW : ∀ (k : Fin 31) (r : Fin 8) (d : Fin 1024), W k (ix3 0 r d) = w (ix2 k d))
    (hD : ∀ (k : Fin 31) (d : Fin 1024), D k (ix3 0 n d) = padded p b (k.val + l.val) d)
    (hz : z (ix3 0 n c) = p (ix3 b l ⟨6144 + c.val, by omega⟩)) :
    tile cb W D lg lb z (ix3 0 n c) = outAt p w cv g s b l c := by
  rw [tile_row cb W D lg lb z n c (fun d => conv p w cv b l d), hlg, hlb, hz]
  · rfl
  · intro d
    have hn : n = ⟨n.val / 8 * 8 + n.val % 8, by omega⟩ := Fin.ext (by show n.val = n.val / 8 * 8 + n.val % 8; omega)
    rw [taps_at cb W D (fun k => if h : k < 31 then w (ix2 ⟨k, h⟩ d) else 0) (fun k => padded p b (k + l.val) d) _ _ d ?_ ?_,
      Finset.sum_range, hcb, conv, add_comm]
    · congr 1
    · intro k
      rw [dif_pos k.isLt]
      exact hW k _ d
    · intro k
      exact (congrArg (fun n => D k (ix3 0 n d)) hn.symm).trans (hD k d)

end Cert.Proof.Conf

end
-- ==== Proof.ConfValue.lean ====
/-
  The convolution kernel's result array: the windows' blocks read off the arguments, one tile of one block, the block, and
  the equation with the reference.
-/
module

public import proofs.«01_k».proof.Proof.Gen.ConfKIdeal.Value
public import proofs.«01_k».proof.Proof.ConfGlu
public import proofs.«01_k».proof.Proof.ConfTile

@[expose] public section

set_option maxRecDepth 16384

noncomputable section

namespace Cert.Proof.Conf

open Idealize.ShloMosaic Idealize.ShloMosaic.TcCoe Idealize.SL.Sem
open Cert.ConfKIdeal Cert.ConfKIdeal.Gen

/-- The gated rows that the point of batch `b`, row tile `i` keeps in its scratch: row `n` there is row `256 i + n - 32`
    of the array, which stands at `256 i + n - 2` among the padded rows. -/
def kept (p : FVec Ideal Cert.ConfRIdeal.S8x2048x15872 .bf16) (b : Fin 8) (i : ℕ) (n : ℕ) (c : Fin 1024) : EReal :=
  padded p b (256 * i + n - 2) c

/-- The block of the result that the point of batch `b`, row tile `i` owes. -/
def owed (p : FVec Ideal Cert.ConfRIdeal.S8x2048x15872 .bf16) (w : FVec Ideal Cert.ConfRIdeal.S31x1024 .f32)
    (cv g s : FVec Ideal Cert.ConfRIdeal.S1024 .f32) (b i : Fin 8) : S1x256x1024.Idx → EReal := fun y =>
  outAt p w cv g s b ⟨256 * i.val + (y 1).val, by have : (y 1).val < 256 := (y 1).isLt; omega⟩ (y 2)

theorem inb_w (k : Fin 31) : ∀ a, (![k.val, 0, 0] : Fin 3 → ℕ) a + S1x8x1024.size a ≤ S31x8x1024.size a :=
  Fin.forall_fin_succ.mpr ⟨(by show k.val + 1 ≤ 31; omega), Fin.forall_fin_two.mpr ⟨Nat.le_refl 8, Nat.le_refl 1024⟩⟩

theorem inb_d (q : Fin 8) (k : Fin 31) :
    ∀ a, (![(32 * q.val + 2 + k.val) % 8, (32 * q.val + 2 + k.val) / 8 * 8, 0] : Fin 3 → ℕ) a + S1x32x1024.size a ≤ S8x288x1024.size a :=
  Fin.forall_fin_succ.mpr ⟨(by show (32 * q.val + 2 + k.val) % 8 + 1 ≤ 8; omega),
    Fin.forall_fin_two.mpr ⟨(by show (32 * q.val + 2 + k.val) / 8 * 8 + 32 ≤ 288; omega), Nat.le_refl 1024⟩⟩

theorem inb_z (q : Fin 8) : ∀ a, (![0, 32 * q.val, 0] : Fin 3 → ℕ) a + S1x32x1024.size a ≤ S1x256x1024.size a :=
  Fin.forall_fin_succ.mpr ⟨Nat.le_refl 1, Fin.forall_fin_two.mpr ⟨(by show 32 * q.val + 32 ≤ 256; omega), Nat.le_refl 1024⟩⟩

/-- Tile `q` of a block, over a scratch that holds the kept rows, is the owed block's tile. -/
theorem piece (p : FVec Ideal Cert.ConfRIdeal.S8x2048x15872 .bf16) (w : FVec Ideal Cert.ConfRIdeal.S31x1024 .f32)
    (cv g s : FVec Ideal Cert.ConfRIdeal.S1024 .f32) (b i : Fin 8)
    (X4 : FVec Ideal S1x256x1024 .bf16) (X5 : FVec Ideal S31x8x1024 .f32) (X6 X7 X8 : FVec Ideal S1x1024 .f32)
    (h4 : ∀ (n : Fin 256) (c : Fin 1024), X4 (ix3 0 n c) = p (ix3 b ⟨256 * i.val + n.val, by omega⟩ ⟨6144 + c.val, by omega⟩))
    (h5 : ∀ (k : Fin 31) (r : Fin 8) (c : Fin 1024), X5 (ix3 k r c) = w (ix2 k c))
    (h6 : ∀ c, X6 (ix2 0 c) = cv (ix1 c)) (h7 : ∀ c, X7 (ix2 0 c) = g (ix1 c)) (h8 : ∀ c, X8 (ix2 0 c) = s (ix1 c))
    {κ : Kind} {sp : Space} {sg : RefSig} (v : View sg κ sp S8x288x1024 .f32)
    {L : List (View.Piece (Elt Ideal) S8x288x1024 .f32)} (hS : State (kept p b i.val) L 8 0) (q : Fin 8) (x : S1x32x1024.Idx) :
    tile X6 (fun k => View.ld (Val := Elt Ideal) (e' := .f32) X5 (Rect.unit (s := S31x8x1024) ![k.val, 0, 0] S1x8x1024.size (inb_w k)))
      (fun k => v.readCov L (Rect.unit (s := S8x288x1024) ![(32 * q.val + 2 + k.val) % 8, (32 * q.val + 2 + k.val) / 8 * 8, 0] S1x32x1024.size (inb_d q k)).toLoadRect)
      X7 X8 (View.ld (Val := Elt Ideal) (e' := .bf16) X4 (Rect.unit (s := S1x256x1024) ![0, 32 * q.val, 0] S1x32x1024.size (inb_z q))) x
      = owed p w cv g s b i ((Rect.unit (s := S1x256x1024) ![0, 32 * q.val, 0] S1x32x1024.size (inb_z q)).emb x) := by
  obtain ⟨n, c, rfl⟩ : ∃ (n : Fin 32) (c : Fin 1024), x = ix3 0 n c :=
    ⟨x 1, x 2, by funext a; fin_cases a <;> [exact Fin.ext (by have : (x 0).val < 1 := (x 0).isLt; show (x 0).val = 0; omega); rfl; rfl]⟩
  refine (tile_at X6 _ _ X7 X8 _ p w cv g s b ⟨256 * i.val + (32 * q.val + n.val), by omega⟩ n c h6 (h7 c) (h8 c) ?_ ?_ ?_).trans ?_
  · intro k r d
    refine Eq.trans (View.ld_unit_apply_of (Val := Elt Ideal) (e := .f32) X5 _ _ _ _ (ix3 k r d) (Fin.forall_fin_succ.mpr ⟨rfl, Fin.forall_fin_two.mpr ⟨?_, ?_⟩⟩)) (h5 k r d)
    · show r.val = 0 + r.val
      omega
    · show d.val = 0 + d.val
      omega
  · intro k d
    rw [load32 v hS (by omega)]
    unfold kept
    congr 1
    show _ = k.val + (256 * i.val + (32 * q.val + n.val))
    omega
  · refine Eq.trans (View.ld_unit_apply_of (Val := Elt Ideal) (e := .bf16) X4 _ _ _ _ (ix3 0 ⟨32 * q.val + n.val, by omega⟩ c)
      (Fin.forall_fin_succ.mpr ⟨rfl, Fin.forall_fin_two.mpr ⟨rfl, ?_⟩⟩)) (h4 ⟨32 * q.val + n.val, by omega⟩ c)
    show c.val = 0 + c.val
    omega
  · unfold owed
    have e1 : (((Rect.unit (s := S1x256x1024) ![0, 32 * q.val, 0] S1x32x1024.size (inb_z q)).emb (ix3 0 n c)) 1).val = 32 * q.val + 1 * n.val := rfl
    have e2 : ((Rect.unit (s := S1x256x1024) ![0, 32 * q.val, 0] S1x32x1024.size (inb_z q)).emb (ix3 0 n c)) 2 = c :=
      Fin.ext (show 0 + 1 * c.val = c.val by omega)
    rw [e2]
    exact congrFun (congrArg (outAt p w cv g s b) (Fin.ext (show 256 * i.val + (32 * q.val + n.val) = 256 * i.val + (32 * q.val + 1 * n.val) by omega))) c

/-- An index of the output block lies in tile `y 1 / 32`. -/
theorem mem_tile (q : Fin 8) (y : S1x256x1024.Idx) (h0 : 32 * q.val ≤ (y 1).val) (h1 : (y 1).val < 32 * q.val + 32) :
    y ∈ (Rect.unit (s := S1x256x1024) ![0, 32 * q.val, 0] S1x32x1024.size (inb_z q)).set := by
  have hy0 : (y 0).val < 1 := (y 0).isLt
  have hy2 : (y 2).val < 1024 := (y 2).isLt
  refine Rect.mem_set_unit.mpr (Fin.forall_fin_succ.mpr ⟨?_, Fin.forall_fin_two.mpr ⟨?_, ?_⟩⟩)
  · show 0 ≤ (y 0).val ∧ (y 0).val < 0 + 1
    omega
  · show 32 * q.val ≤ (y 1).val ∧ (y 1).val < 32 * q.val + 32
    omega
  · show 0 ≤ (y 2).val ∧ (y 2).val < 0 + 1024
    omega

/-- One tile's store. -/
def tileStore {κ : Kind} {sp : Space} {sg : RefSig} (v : View sg κ sp S8x288x1024 .f32) (L : List (View.Piece (Elt Ideal) S8x288x1024 .f32))
    (X4 : FVec Ideal S1x256x1024 .bf16) (X5 : FVec Ideal S31x8x1024 .f32) (X6 X7 X8 : FVec Ideal S1x1024 .f32) (q : Fin 8) :
    View.Piece (Elt Ideal) S1x256x1024 .bf16 :=
  ⟨Rect.unit (s := S1x256x1024) ![0, 32 * q.val, 0] S1x32x1024.size (inb_z q),
    tile X6 (fun k => View.ld (Val := Elt Ideal) (e' := .f32) X5 (Rect.unit (s := S31x8x1024) ![k.val, 0, 0] S1x8x1024.size (inb_w k)))
      (fun k => v.readCov L (Rect.unit (s := S8x288x1024) ![(32 * q.val + 2 + k.val) % 8, (32 * q.val + 2 + k.val) / 8 * 8, 0] S1x32x1024.size (inb_d q k)).toLoadRect)
      X7 X8 (View.ld (Val := Elt Ideal) (e' := .bf16) X4 (Rect.unit (s := S1x256x1024) ![0, 32 * q.val, 0] S1x32x1024.size (inb_z q)))⟩

/-- The eight tiles' stores, the last first. -/
def tileStores {κ : Kind} {sp : Space} {sg : RefSig} (v : View sg κ sp S8x288x1024 .f32) (L : List (View.Piece (Elt Ideal) S8x288x1024 .f32))
    (X4 : FVec Ideal S1x256x1024 .bf16) (X5 : FVec Ideal S31x8x1024 .f32) (X6 X7 X8 : FVec Ideal S1x1024 .f32) :
    List (View.Piece (Elt Ideal) S1x256x1024 .bf16) :=
  [tileStore v L X4 X5 X6 X7 X8 7, tileStore v L X4 X5 X6 X7 X8 6, tileStore v L X4 X5 X6 X7 X8 5, tileStore v L X4 X5 X6 X7 X8 4,
    tileStore v L X4 X5 X6 X7 X8 3, tileStore v L X4 X5 X6 X7 X8 2, tileStore v L X4 X5 X6 X7 X8 1, tileStore v L X4 X5 X6 X7 X8 0]

section Run

variable (c : Dev nD) (i : grid0.Coords)
  (a2 : Memref sig .tc .vmem S1x256x1024 .bf16) (h2 : a2.IsWhole) (a3 : Memref sig .tc .vmem S1x256x1024 .bf16) (h3 : a3.IsWhole)
  (a4 : Memref sig .tc .vmem S1x32x1024 .bf16) (h4 : a4.IsWhole) (a5 : Memref sig .tc .vmem S1x32x1024 .bf16) (h5 : a5.IsWhole)
  (a6 : Memref sig .tc .vmem S1x256x1024 .bf16) (h6 : a6.IsWhole) (a7 : Memref sig .tc .vmem S31x8x1024 .f32) (h7 : a7.IsWhole)
  (a8 : Memref sig .tc .vmem S1x1024 .f32) (h8 : a8.IsWhole) (a9 : Memref sig .tc .vmem S1x1024 .f32) (h9 : a9.IsWhole)
  (a10 : Memref sig .tc .vmem S1x1024 .f32) (h10 : a10.IsWhole) (a11 : Memref sig .tc .vmem S1x256x1024 .bf16) (h11 : a11.IsWhole)
  (a12 : Memref sig .tc .vmem S8x288x1024 .f32) (h12 : a12.IsWhole)
  (x0 x1 : Vec Ideal S1x256x1024 .bf16) (x2 x3 : Vec Ideal S1x32x1024 .bf16) (x4 : Vec Ideal S1x256x1024 .bf16)
  (x5 : Vec Ideal S31x8x1024 .f32) (x6 x7 x8 : Vec Ideal S1x1024 .f32)

set_option maxHeartbeats 1000000 in
/-- The scratch's stores are slab 0's and the seven copies. -/
theorem run_stores {g : ℕ → Fin 1024 → EReal}
    (h : State g (kernelRun0_A.sl.HS0_5 (F := Ideal) c i a2 h2 a3 h3 a4 h4 a5 h5 x0 x1 x2 x3) 1 0) :
    State g (kernelRun0_A.sl.HS0_40 (F := Ideal) c i a2 h2 a3 h3 a4 h4 a5 h5 a12 x0 x1 x2 x3) 8 0 := by
  have k1 : State g (kernelRun0_A.sl.HS0_10 (F := Ideal) c i a2 h2 a3 h3 a4 h4 a5 h5 a12 x0 x1 x2 x3) 2 0 := .addSlab a12.view 1 (by decide) h
  have k2 : State g (kernelRun0_A.sl.HS0_15 (F := Ideal) c i a2 h2 a3 h3 a4 h4 a5 h5 a12 x0 x1 x2 x3) 3 0 := .addSlab a12.view 2 (by decide) k1
  have k3 : State g (kernelRun0_A.sl.HS0_20 (F := Ideal) c i a2 h2 a3 h3 a4 h4 a5 h5 a12 x0 x1 x2 x3) 4 0 := .addSlab a12.view 3 (by decide) k2
  have k4 : State g (kernelRun0_A.sl.HS0_25 (F := Ideal) c i a2 h2 a3 h3 a4 h4 a5 h5 a12 x0 x1 x2 x3) 5 0 := .addSlab a12.view 4 (by decide) k3
  have k5 : State g (kernelRun0_A.sl.HS0_30 (F := Ideal) c i a2 h2 a3 h3 a4 h4 a5 h5 a12 x0 x1 x2 x3) 6 0 := .addSlab a12.view 5 (by decide) k4
  have k6 : State g (kernelRun0_A.sl.HS0_35 (F := Ideal) c i a2 h2 a3 h3 a4 h4 a5 h5 a12 x0 x1 x2 x3) 7 0 := .addSlab a12.view 6 (by decide) k5
  exact .addSlab a12.view 7 (by decide) k6

set_option maxHeartbeats 1000000 in
/-- Slab 0's stores, over what the windows' buffers hold. -/
theorem run_slab0 : kernelRun0_A.sl.HS0_5 (F := Ideal) c i a2 h2 a3 h3 a4 h4 a5 h5 x0 x1 x2 x3
    = slab0 (BitVec.ofNat 32 (i 1).val) (View.read (Elt Ideal) a2.view (h2.unread x0)) (View.read (Elt Ideal) a3.view (h3.unread x1))
      (View.ld (Val := Elt Ideal) (e' := .bf16) (View.read (Elt Ideal) a4.view (h4.unread x2)) (Rect.unit (s := S1x32x1024) ![0, 0, 0] S1x32x1024.size inb_S1x32x1024_S1x32x1024_0_0_0))
      (View.ld (Val := Elt Ideal) (e' := .bf16) (View.read (Elt Ideal) a5.view (h5.unread x3)) (Rect.unit (s := S1x32x1024) ![0, 0, 0] S1x32x1024.size inb_S1x32x1024_S1x32x1024_0_0_0)) :=
  rfl

set_option maxHeartbeats 1000000 in
/-- The output's stores are the eight tiles, over the scratch's stores. -/
theorem run_tiles : (kernelRun0_A (F := Ideal) c i a2 h2 a3 h3 a4 h4 a5 h5 a6 h6 a7 h7 a8 h8 a9 h9 a10 h10 a11 h11 a12 h12 x0 x1 x2 x3 x4 x5 x6 x7 x8).1
    = tileStores a12.view (kernelRun0_A.sl.HS0_40 (F := Ideal) c i a2 h2 a3 h3 a4 h4 a5 h5 a12 x0 x1 x2 x3)
      (View.read (Elt Ideal) a6.view (h6.unread x4)) (View.read (Elt Ideal) a7.view (h7.unread x5))
      (View.ld (Val := Elt Ideal) (e' := .f32) (View.read (Elt Ideal) a8.view (h8.unread x6)) (Rect.unit (s := S1x1024) ![0, 0] S1x1024.size inb_S1x1024_S1x1024_0_0))
      (View.ld (Val := Elt Ideal) (e' := .f32) (View.read (Elt Ideal) a9.view (h9.unread x7)) (Rect.unit (s := S1x1024) ![0, 0] S1x1024.size inb_S1x1024_S1x1024_0_0))
      (View.ld (Val := Elt Ideal) (e' := .f32) (View.read (Elt Ideal) a10.view (h10.unread x8)) (Rect.unit (s := S1x1024) ![0, 0] S1x1024.size inb_S1x1024_S1x1024_0_0)) :=
  rfl

end Run

variable (m : (ℓ : Loc nD τ sig) → Buf (Elt Ideal) ℓ)

/-- The kernel's projection. -/
abbrev kP (c : Dev nD) : S8x2048x15872.Idx → EReal := m ((c : Thread nD τ).loc main_arg0)
/-- The kernel's taps. -/
abbrev kW (c : Dev nD) : S31x1024.Idx → EReal := m ((c : Thread nD τ).loc main_arg1)
/-- The kernel's bias. -/
abbrev kC (c : Dev nD) : S1024.Idx → EReal := m ((c : Thread nD τ).loc main_arg2)
/-- The kernel's gain. -/
abbrev kG (c : Dev nD) : S1024.Idx → EReal := m ((c : Thread nD τ).loc main_arg3)
/-- The kernel's shift. -/
abbrev kS (c : Dev nD) : S1024.Idx → EReal := m ((c : Thread nD τ).loc main_arg4)

/-- The batch of a point. -/
def bat (t : Fin cfg0.N) : Fin 8 := ⟨t.val / 8, by have : t.val < 64 := t.isLt; omega⟩
/-- The row tile of a point. -/
def til (t : Fin cfg0.N) : Fin 8 := ⟨t.val % 8, by omega⟩

/-- The windows' block indices at a point. -/
theorem idx : ∀ t : Fin cfg0.N, win0_0.index t = ![t.val / 8, t.val % 8, 4] ∧ win0_1.index t = ![t.val / 8, t.val % 8, 5]
    ∧ win0_2.index t = ![t.val / 8, 8 * (t.val % 8) - 1, 4] ∧ win0_3.index t = ![t.val / 8, 8 * (t.val % 8) - 1, 5]
    ∧ win0_4.index t = ![t.val / 8, t.val % 8, 6] ∧ win0_5.index t = ![0, 0, 0] ∧ win0_6.index t = ![0, 0] ∧ win0_7.index t = ![0, 0]
    ∧ win0_8.index t = ![0, 0] ∧ win0_9.index t = ![t.val / 8, t.val % 8, 0] :=
  (by decide +kernel : ∀ t : Fin grid0.N, _)

/-- The row tile is the grid's second coordinate. -/
theorem coord : ∀ t : Fin cfg0.N, (grid0.coords t 1).val = t.val % 8 :=
  (by decide +kernel : ∀ t : Fin grid0.N, _)

/-- The first window's block, at an element. -/
theorem x0_at (c : Dev nD) (t : Fin cfg0.N) (n : Fin 256) (d : Fin 1024) :
    (X0_0 m c t : S1x256x1024.Idx → EReal) (ix3 0 n d) = kP m c (ix3 (bat t) ⟨256 * (til t).val + n.val, by omega⟩ ⟨4096 + d.val, by omega⟩) := by
  unfold X0_0 Pipeline.Window.fill
  rw [dif_pos (moved0_0 t _)]
  blk_point [iblk, V, idx t, bat, til, kP]

/-- The second window's block, at an element. -/
theorem x1_at (c : Dev nD) (t : Fin cfg0.N) (n : Fin 256) (d : Fin 1024) :
    (X0_1 m c t : S1x256x1024.Idx → EReal) (ix3 0 n d) = kP m c (ix3 (bat t) ⟨256 * (til t).val + n.val, by omega⟩ ⟨5120 + d.val, by omega⟩) := by
  unfold X0_1 Pipeline.Window.fill
  rw [dif_pos (moved0_1 t _)]
  blk_point [iblk, V, idx t, bat, til, kP]

/-- The third window's block, the 32 rows before the tile, at an element. -/
theorem x2_at (c : Dev nD) (t : Fin cfg0.N) (n : Fin 32) (d : Fin 1024) :
    (X0_2 m c t : S1x32x1024.Idx → EReal) (ix3 0 n d) = kP m c (ix3 (bat t) ⟨32 * (8 * (til t).val - 1) + n.val, by omega⟩ ⟨4096 + d.val, by omega⟩) := by
  unfold X0_2 Pipeline.Window.fill
  rw [dif_pos (moved0_2 t _)]
  blk_point [iblk, V, idx t, bat, til, kP]

/-- The fourth window's block, the 32 rows before the tile, at an element. -/
theorem x3_at (c : Dev nD) (t : Fin cfg0.N) (n : Fin 32) (d : Fin 1024) :
    (X0_3 m c t : S1x32x1024.Idx → EReal) (ix3 0 n d) = kP m c (ix3 (bat t) ⟨32 * (8 * (til t).val - 1) + n.val, by omega⟩ ⟨5120 + d.val, by omega⟩) := by
  unfold X0_3 Pipeline.Window.fill
  rw [dif_pos (moved0_3 t _)]
  blk_point [iblk, V, idx t, bat, til, kP]

/-- The fifth window's block, at an element. -/
theorem x4_at (c : Dev nD) (t : Fin cfg0.N) (n : Fin 256) (d : Fin 1024) :
    (X0_4 m c t : S1x256x1024.Idx → EReal) (ix3 0 n d) = kP m c (ix3 (bat t) ⟨256 * (til t).val + n.val, by omega⟩ ⟨6144 + d.val, by omega⟩) := by
  unfold X0_4 Pipeline.Window.fill
  rw [dif_pos (moved0_4 t _)]
  blk_point [iblk, V, idx t, bat, til, kP]

/-- The taps' block, each row eight times, at an element. -/
theorem x5_at (c : Dev nD) (t : Fin cfg0.N) (k : Fin 31) (r : Fin 8) (d : Fin 1024) :
    (iblk m c 5 t : S31x8x1024.Idx → EReal) (ix3 k r d) = kW m c (ix2 k d) := by
  blk_point [iblk, V, idx t, kW]

/-- The bias's block, at an element. -/
theorem x6_at (c : Dev nD) (t : Fin cfg0.N) (d : Fin 1024) : (iblk m c 6 t : S1x1024.Idx → EReal) (ix2 0 d) = kC m c (ix1 d) := by
  blk_point [iblk, V, idx t, kC]

/-- The gain's block, at an element. -/
theorem x7_at (c : Dev nD) (t : Fin cfg0.N) (d : Fin 1024) : (iblk m c 7 t : S1x1024.Idx → EReal) (ix2 0 d) = kG m c (ix1 d) := by
  blk_point [iblk, V, idx t, kG]

/-- The shift's block, at an element. -/
theorem x8_at (c : Dev nD) (t : Fin cfg0.N) (d : Fin 1024) : (iblk m c 8 t : S1x1024.Idx → EReal) (ix2 0 d) = kS m c (ix1 d) := by
  blk_point [iblk, V, idx t, kS]

/-- The kept rows from row 32 on are the tile's own gated rows. -/
theorem kept_tile (p : FVec Ideal Cert.ConfRIdeal.S8x2048x15872 .bf16) (b i : Fin 8) (n k : ℕ) (hk : k = 32 + n) (hn : n < 256) (d : Fin 1024) :
    p (ix3 b ⟨256 * i.val + n, by omega⟩ ⟨4096 + d.val, by omega⟩)
        * Ideal.div 1 (1 + Ideal.exp (-p (ix3 b ⟨256 * i.val + n, by omega⟩ ⟨5120 + d.val, by omega⟩)))
      = kept p b i.val k d := by
  subst hk
  have h : 30 ≤ 256 * i.val + (32 + n) - 2 ∧ 256 * i.val + (32 + n) - 2 - 30 < 2048 := ⟨by omega, by omega⟩
  have e : (⟨256 * i.val + n, by omega⟩ : Fin 2048) = ⟨256 * i.val + (32 + n) - 2 - 30, h.2⟩ := Fin.ext (by show 256 * i.val + n = 256 * i.val + (32 + n) - 2 - 30; omega)
  rw [kept, padded, dif_pos h, glu, logistic, ← e]

/-- The kept rows below row 32 are the gated rows before the tile, and zeros before the first tile. -/
theorem kept_before (p : FVec Ideal Cert.ConfRIdeal.S8x2048x15872 .bf16) (b i : Fin 8) (n : Fin 32) (d : Fin 1024) :
    Scalar.select (Scalar.cmpi .sgt (BitVec.ofNat 32 i.val) 0#32)
        (p (ix3 b ⟨32 * (8 * i.val - 1) + n.val, by omega⟩ ⟨4096 + d.val, by omega⟩)
          * Ideal.div 1 (1 + Ideal.exp (-p (ix3 b ⟨32 * (8 * i.val - 1) + n.val, by omega⟩ ⟨5120 + d.val, by omega⟩)))) (0 : EReal)
      = kept p b i.val n.val d := by
  have hc : ∀ i : Fin 8, Scalar.cmpi .sgt (BitVec.ofNat 32 i.val) 0#32 = if i.val = 0 then 0#1 else 1#1 := by decide
  rw [hc i]
  by_cases h0 : i.val = 0
  · have h : ¬(30 ≤ 256 * i.val + n.val - 2 ∧ 256 * i.val + n.val - 2 - 30 < 2048) := by omega
    rw [if_pos h0, kept, padded, dif_neg h]
    rfl
  · have h : 30 ≤ 256 * i.val + n.val - 2 ∧ 256 * i.val + n.val - 2 - 30 < 2048 := ⟨by omega, by omega⟩
    have e : (⟨32 * (8 * i.val - 1) + n.val, by omega⟩ : Fin 2048) = ⟨256 * i.val + n.val - 2 - 30, h.2⟩ :=
      Fin.ext (by show 32 * (8 * i.val - 1) + n.val = 256 * i.val + n.val - 2 - 30; omega)
    rw [if_neg h0, kept, padded, dif_pos h, glu, logistic, ← e]
    rfl

/-- A load of 64 rows, at an element. -/
theorem ld_rows (X : FVec Ideal S1x256x1024 .bf16) (o : ℕ) (inb : ∀ a, (![0, o, 0] : Fin 3 → ℕ) a + S1x64x1024.size a ≤ S1x256x1024.size a)
    (n : Fin 64) (d : Fin 1024) (ho : o + n.val < 256) :
    View.ld (Val := Elt Ideal) (e' := .bf16) X (Rect.unit (s := S1x256x1024) ![0, o, 0] S1x64x1024.size inb) (ix3 0 n d) = X (ix3 0 ⟨o + n.val, ho⟩ d) :=
  View.ld_unit_apply_of (Val := Elt Ideal) (e := .bf16) X _ _ _ _ (ix3 0 ⟨o + n.val, ho⟩ d)
    (Fin.forall_fin_succ.mpr ⟨rfl, Fin.forall_fin_two.mpr ⟨rfl, (by show d.val = 0 + d.val; omega)⟩⟩)

/-- Slab 0's stores hold the kept rows. -/
theorem slab0_state (c : Dev nD) (t : Fin cfg0.N) :
    State (kept (kP m c) (bat t) (til t).val) (slab0 (BitVec.ofNat 32 (til t).val) (X0_0 m c t) (X0_1 m c t) (X0_2 m c t) (X0_3 m c t)) 1 0 := by
  refine base (BitVec.ofNat 32 (til t).val) _ _ _ _ _ _ _ _ _ _ (fun n d => ?_) (fun n d => ?_) (fun n d => ?_) (fun n d => ?_) (fun n d => ?_) _ _ _ _ _
  · rw [ld_rows _ 0 _ n d (by omega), ld_rows _ 0 _ n d (by omega), x0_at, x1_at]
    exact kept_tile _ _ _ (0 + n.val) _ (by omega) (by omega) d
  · rw [ld_rows _ 64 _ n d (by omega), ld_rows _ 64 _ n d (by omega), x0_at, x1_at]
    exact kept_tile _ _ _ (64 + n.val) _ (by omega) (by omega) d
  · rw [ld_rows _ 128 _ n d (by omega), ld_rows _ 128 _ n d (by omega), x0_at, x1_at]
    exact kept_tile _ _ _ (128 + n.val) _ (by omega) (by omega) d
  · rw [ld_rows _ 192 _ n d (by omega), ld_rows _ 192 _ n d (by omega), x0_at, x1_at]
    exact kept_tile _ _ _ (192 + n.val) _ (by omega) (by omega) d
  · rw [x2_at, x3_at]
    exact kept_before _ _ _ n d

/-- The body's output block is the block owed. -/
theorem block (c : Dev nD) (t : Fin cfg0.N) (y : S1x256x1024.Idx) :
    outsAt0 m c t y = owed (kP m c) (kW m c) (kC m c) (kG m c) (kS m c) (bat t) (til t) y := by
  unfold outsAt0
  unfold out0_A_9
  rw [View.read_writes_junk_eq_canon, run_tiles]
  have hS := run_stores c (grid0.coords t) (ms0_0 t) (hs0_0 t) (ms0_1 t) (hs0_1 t) (ms0_2 t) (hs0_2 t) (ms0_3 t) (hs0_3 t) scM0_0
    (X0_0 m c t) (X0_1 m c t) (X0_2 m c t) (X0_3 m c t) (g := kept (kP m c) (bat t) (til t).val) (by
      rw [run_slab0, coord t]
      simp (disch := decide) only [Memref.IsWhole.read_unread, View.ld_unit_lit']
      exact slab0_state m c t)
  generalize kernelRun0_A.sl.HS0_40 (F := Ideal) c (grid0.coords t) (ms0_0 t) (hs0_0 t) (ms0_1 t) (hs0_1 t) (ms0_2 t) (hs0_2 t) (ms0_3 t) (hs0_3 t) scM0_0
    (X0_0 m c t) (X0_1 m c t) (X0_2 m c t) (X0_3 m c t) = L at hS ⊢
  simp (disch := decide) only [Memref.IsWhole.read_unread, View.ld_unit_lit']
  have hp := piece (kP m c) (kW m c) (kC m c) (kG m c) (kS m c) (bat t) (til t) (X0_4 m c t) (iblk m c 5 t) (iblk m c 6 t) (iblk m c 7 t) (iblk m c 8 t)
    (x4_at m c t) (x5_at m c t) (x6_at m c t) (x7_at m c t) (x8_at m c t) scM0_0.view hS
  refine View.canon_apply_of_pieces (Val := Elt Ideal) (e := .bf16) (owed (kP m c) (kW m c) (kC m c) (kG m c) (kS m c) (bat t) (til t))
    (tileStores scM0_0.view L (X0_4 m c t) (iblk m c 5 t) (iblk m c 6 t) (iblk m c 7 t) (iblk m c 8 t))
    (View.PiecesOf.mem ⟨hp 7, hp 6, hp 5, hp 4, hp 3, hp 2, hp 1, hp 0, trivial⟩) y ?_
  have hy : (y 1).val < 256 := (y 1).isLt
  refine ⟨tileStore scM0_0.view L (X0_4 m c t) (iblk m c 5 t) (iblk m c 6 t) (iblk m c 7 t) (iblk m c 8 t) ⟨(y 1).val / 32, by omega⟩, ?_,
    mem_tile ⟨(y 1).val / 32, by omega⟩ y (by show 32 * ((y 1).val / 32) ≤ _; omega) (by show _ < 32 * ((y 1).val / 32) + 32; omega)⟩
  generalize (⟨(y 1).val / 32, by omega⟩ : Fin 8) = q
  unfold tileStores
  fin_cases q <;> simp

/-- The result array after the run is the module's result of the arguments. -/
theorem final (c : Dev nD) : (dats m 0 c).arrAt 9 (cfgs 0).N = T (kP m c) (kW m c) (kC m c) (kG m c) (kS m c) := by
  refine (dats m 0 c).arrAt_eq_of_covers 9 _ (by decide +kernel) fun t _ y => ?_
  blk_simp
  rw [after0_9]
  refine (block m c t y).trans ?_
  obtain ⟨i, hi⟩ : ∃ i : Cert.ConfRIdeal.S8x2048x1024.Idx, i = ((cfg0.win 9).blk t).view.emb y := ⟨_, rfl⟩
  have h0 : (i 0).val = (bat t).val := by
    have : (y 0).val < 1 := (y 0).isLt
    rw [hi]; blk_simp [idx t, bat]
  have h1 : (i 1).val = 256 * (til t).val + (y 1).val := by
    show (i 1).val = 256 * (t.val % 8) + (y 1).val
    rw [hi]; blk_simp [idx t]; omega
  have h2 : (i 2).val = (y 2).val := by rw [hi]; blk_simp [idx t]
  rw [← hi]
  unfold owed T
  congr 1
  · exact Fin.ext h0.symm
  · exact Fin.ext h1.symm
  · exact Fin.ext h2.symm

/-- The kernel's result and the reference's are the same function of the arguments over the extended reals. -/
theorem algebraic : Cert.algebraic_ConfKIdeal_ConfRIdeal := by
  intro m g m' g' _ h
  refine ⟨fun c => T (kP m c) (kW m c) (kC m c) (kG m c) (kS m c), ?_, ?_⟩
  · refine (θ_run _ _ _).mono (fun r hr c => ⟨(hr c).1.trans (final m c), (hr c).2⟩) (Cert.ConfKIdeal.Value.run_blocks m g)
  · refine (θ_run _ _ _).mono (fun r hr c => ⟨(hr c).1.trans ?_, (hr c).2⟩) (Cert.ConfRIdeal.Value.run m' g')
    obtain ⟨h0, h1, h2, h3, h4⟩ := h c
    exact (ref_term (StableHlo.launchContents m' c)).trans (congr (congr (congr (congr (congrArg T h0) h1) h2) h3) h4)

end Cert.Proof.Conf

end
-- ==== Proof.NarrowValue.lean ====
/-
  The narrow half of the input projection: what one block of the kernel computes, what the packed weight with its forty
  columns of zeros holds, what the result array holds, and that this is the reference's term.
-/
module

public import proofs.«01_k».proof.Proof.Gen.NarrowKIdeal.Value
public import proofs.«01_k».proof.Proof.Gen.NarrowRIdeal.Run
public import proofs.«01_k».proof.Defs
public import Idealize.ShloMosaic.Lib.Pipeline.ValueKit
public import Idealize.ShloMosaic.Lib.Quiescent

@[expose] public section

set_option maxRecDepth 16384

noncomputable section

namespace Cert.Proof.Narrow

open Idealize.ShloMosaic Idealize.ShloMosaic.TcCoe Idealize.SL.Sem
open Cert.NarrowKIdeal Cert.NarrowKIdeal.Gen

variable (m : (ℓ : Loc nD τ sig) → Buf (Elt Ideal) ℓ)

/-- The reference's projection by the whole weight. -/
abbrev proj (h : FVec Ideal Cert.NarrowRIdeal.S16384x2048 .bf16) (w : FVec Ideal Cert.NarrowRIdeal.S2048x16472 .f32) :
    FVec Ideal Cert.NarrowRIdeal.S16384x16472 .f32 :=
  Host.dotGeneral Cert.NarrowRIdeal.dot_S16384x2048_S2048x16472_S16384x16472_1_0_0_1_n_n none (extf .f32 h Cert.NarrowRIdeal.Gen.bitsLt_bf16_f32) w

/-- The reference's term: five column stretches of the projection laid side by side, then forty columns of zeros. -/
abbrev term (h : FVec Ideal Cert.NarrowRIdeal.S16384x2048 .bf16) (w : FVec Ideal Cert.NarrowRIdeal.S2048x16472 .f32) :
    FVec Ideal Cert.NarrowRIdeal.S16384x640 .f32 :=
  pad Cert.NarrowRIdeal.S16384x640 ![0, 0] ![0, 40] ![0, 0]
    (concatenate Cert.NarrowRIdeal.S16384x600 1
      [⟨Cert.NarrowRIdeal.S16384x512, extractStridedSlice Cert.NarrowRIdeal.S16384x512 ![0, 9744] (proj h w) Cert.NarrowRIdeal.Gen.slices_S16384x16472_S16384x512_0_9744⟩,
       ⟨Cert.NarrowRIdeal.S16384x64, extractStridedSlice Cert.NarrowRIdeal.S16384x64 ![0, 10256] (proj h w) Cert.NarrowRIdeal.Gen.slices_S16384x16472_S16384x64_0_10256⟩,
       ⟨Cert.NarrowRIdeal.S16384x8, extractStridedSlice Cert.NarrowRIdeal.S16384x8 ![0, 10320] (proj h w) Cert.NarrowRIdeal.Gen.slices_S16384x16472_S16384x8_0_10320⟩,
       ⟨Cert.NarrowRIdeal.S16384x8, extractStridedSlice Cert.NarrowRIdeal.S16384x8 ![0, 4096] (proj h w) Cert.NarrowRIdeal.Gen.slices_S16384x16472_S16384x8_0_4096⟩,
       ⟨Cert.NarrowRIdeal.S16384x8, extractStridedSlice Cert.NarrowRIdeal.S16384x8 ![0, 4104] (proj h w) Cert.NarrowRIdeal.Gen.slices_S16384x16472_S16384x8_0_4104⟩]
      Cert.NarrowRIdeal.Gen.concatenates_S16384x512_S16384x64_S16384x8_S16384x8_S16384x8_S16384x600_d1)
    (sitofp .f32 (constantI Cert.NarrowRIdeal.S_ 32 0#32)) Cert.NarrowRIdeal.Gen.pads_S16384x600_S16384x640_000_0400 Cert.NarrowRIdeal.Gen.h_S_

/-- The source column of narrow column `j`, for `j` below 600. -/
def col (j : ℕ) : ℕ := if j < 584 then j + 9744 else j + 3512

theorem col_lt (j : Fin 640) : col j.val < 16472 := by
  have := j.isLt
  unfold col; split_ifs <;> omega

/-- The reference's term at an index: the row of `h` against the weight's source column, and zero past column 600. -/
theorem term_apply (h : FVec Ideal Cert.NarrowRIdeal.S16384x2048 .bf16) (w : FVec Ideal Cert.NarrowRIdeal.S2048x16472 .f32)
    (i : Cert.NarrowRIdeal.S16384x640.Idx) :
    term h w i = if (i 1).val < 600 then ∑ k : Fin 2048, h (ix2 (i 0) k) * w (ix2 k ⟨col (i 1).val, col_lt (i 1)⟩) else 0 := by
  have key : ∀ (n : ℕ) (hn : n < 16472), n = col (i 1).val →
      ∑ k : Fin 2048, h (ix2 (i 0) k) * w (ix2 k ⟨n, hn⟩) = ∑ k : Fin 2048, h (ix2 (i 0) k) * w (ix2 k ⟨col (i 1).val, col_lt (i 1)⟩) := by
    rintro _ _ rfl; rfl
  have hi : (i 1).val < 640 := (i 1).isLt
  pointwise [term, proj]
  split_ifs <;> first | exact key _ _ (by unfold col; split_ifs <;> omega) | simp [FloatOps.sitofp]

/-- The weight under a leading axis of extent one, which the host code slices. -/
abbrev whole (w : FVec Ideal S2048x16472 .f32) : FVec Ideal S1x2048x16472 .f32 :=
  broadcastInDim S1x2048x16472 ![1, 2] bcast_S2048x16472_S1x2048x16472_1_2 w

/-- The packed weight that the host code lays out for the kernel. -/
abbrev packed (w : FVec Ideal S2048x16472 .f32) : FVec Ideal S2048x640 .bf16 :=
  concatenate S2048x640 1
    [⟨S2048x512, truncf .bf16 (shapeCast S2048x512 (extractStridedSlice S1x2048x512 ![0, 0, 9744] (whole w) slices_S1x2048x16472_S1x2048x512_0_0_9744) shapeCasts_S1x2048x512_S2048x512) bitsLt_bf16_f32⟩,
     ⟨S2048x64, truncf .bf16 (shapeCast S2048x64 (extractStridedSlice S1x2048x64 ![0, 0, 10256] (whole w) slices_S1x2048x16472_S1x2048x64_0_0_10256) shapeCasts_S1x2048x64_S2048x64) bitsLt_bf16_f32⟩,
     ⟨S2048x8, truncf .bf16 (shapeCast S2048x8 (extractStridedSlice S1x2048x8 ![0, 0, 10320] (whole w) slices_S1x2048x16472_S1x2048x8_0_0_10320) shapeCasts_S1x2048x8_S2048x8) bitsLt_bf16_f32⟩,
     ⟨S2048x8, truncf .bf16 (shapeCast S2048x8 (extractStridedSlice S1x2048x8 ![0, 0, 4096] (whole w) slices_S1x2048x16472_S1x2048x8_0_0_4096) shapeCasts_S1x2048x8_S2048x8) bitsLt_bf16_f32⟩,
     ⟨S2048x8, truncf .bf16 (shapeCast S2048x8 (extractStridedSlice S1x2048x8 ![0, 0, 4104] (whole w) slices_S1x2048x16472_S1x2048x8_0_0_4104) shapeCasts_S1x2048x8_S2048x8) bitsLt_bf16_f32⟩,
     ⟨S2048x40, broadcastInDim S2048x40 ![] bcast_S_S2048x40 (constant S_ .bf16 0x0000#16)⟩]
    concatenates_S2048x512_S2048x64_S2048x8_S2048x8_S2048x8_S2048x40_S2048x640_d1

/-- The packed weight at an index: the weight at the source column, and zero past column 600. -/
theorem packed_apply (w : FVec Ideal S2048x16472 .f32) (y : S2048x640.Idx) :
    packed w y = if (y 1).val < 600 then w (ix2 (y 0) ⟨col (y 1).val, col_lt (y 1)⟩) else 0 := by
  have key : ∀ (n : ℕ) (hn : n < 16472), n = col (y 1).val → w (ix2 (y 0) ⟨n, hn⟩) = w (ix2 (y 0) ⟨col (y 1).val, col_lt (y 1)⟩) := by
    rintro _ _ rfl; rfl
  have hi : (y 1).val < 640 := (y 1).isLt
  by_cases hj : (y 1).val < 600
  · rw [if_pos hj]
    pointwise [packed, whole]
    split_ifs <;> first | exact key _ _ (by unfold col; split_ifs <;> omega) | omega
  · rw [if_neg hj]
    pointwise [packed, whole]
    split_ifs <;> first | rfl | omega

set_option maxHeartbeats 1600000 in
/-- The kernel finds the packed weight in its second operand. -/
theorem entry (c : Dev nD) : V m c main_v17 = packed (m ((c : Thread nD τ).loc main_arg1)) := by
  unfold V hostOps0
  after_results <;> rfl

/-- The body's block at an index. -/
theorem pay_apply (x0 : FVec Ideal S1024x2048 .bf16) (x1 : FVec Ideal S2048x640 .bf16) (y : S1024x640.Idx) :
    k0_pay1 (F := Ideal) x0 x1 y = ∑ k : Fin 2048, x0 (ix2 (y 0) k) * x1 (ix2 k (y 1)) := by
  pointwise [k0_pay1]

/-- The windows' block indices at point `t`: row block `t` against the whole packed weight. -/
theorem idx : ∀ t : Fin cfg0.N, win0_0.index t = ![t.val, 0] ∧ win0_1.index t = ![0, 0] ∧ win0_2.index t = ![t.val, 0] :=
  (by decide +kernel : ∀ t : Fin grid0.N, _)

/-- The weight's block, read at an index. -/
theorem iblk1 (c : Dev nD) (t : Fin cfg0.N) (k : Fin 2048) (j n : Fin 640) (hn : n.val = j.val) :
    (iblk m c 1 t : S2048x640.Idx → EReal) (ix2 k j)
      = if n.val < 600 then (m ((c : Thread nD τ).loc main_arg1) : S2048x16472.Idx → EReal) (ix2 k ⟨col n.val, col_lt n⟩) else (0 : EReal) := by
  have e : (iblk m c 1 t : S2048x640.Idx → EReal) (ix2 k j) = packed (m ((c : Thread nD τ).loc main_arg1)) (ix2 k n) := by
    rw [← entry m c]
    blk_ext [iblk, idx t]
  exact e.trans (packed_apply _ _)

/-- What the body stores at index `y` of point `t`'s block is the reference's term at the array index of `y`. -/
theorem point (c : Dev nD) (t : Fin cfg0.N) (y : S1024x640.Idx) :
    k0_pay1 (F := Ideal) (iblk m c 0 t) (iblk m c 1 t) y
      = term (m ((c : Thread nD τ).loc main_arg0)) (m ((c : Thread nD τ).loc main_arg1)) (((cfg0.win 2).blk t).view.emb y) := by
  obtain ⟨i, hi⟩ : ∃ i : Cert.NarrowRIdeal.S16384x640.Idx, i = ((cfg0.win 2).blk t).view.emb y := ⟨_, rfl⟩
  have h0 : (i 0).val = t.val * 1024 + (y 0).val := by rw [hi]; blk_simp [idx t]
  have h1 : (i 1).val = (y 1).val := by rw [hi]; blk_simp [idx t]
  rw [← hi]
  clear hi
  refine (pay_apply _ _ y).trans (Eq.trans ?_ (term_apply _ _ i).symm)
  have hw := fun k => iblk1 m c t k (y 1) (i 1) h1
  split_ifs with hj
  · refine Finset.sum_congr rfl fun k _ => congrArg₂ (· * ·) ?_ ((hw k).trans (if_pos hj))
    blk_point [iblk, V, idx t]
  · refine Finset.sum_eq_zero fun k _ => ?_
    exact (congrArg₂ (· * ·) rfl ((hw k).trans (if_neg hj))).trans (mul_zero (M₀ := EReal) _)

/-- The result array after the run is the reference's term of the arguments. -/
theorem final (c : Dev nD) : (dats m 0 c).arrAt 2 (cfgs 0).N
    = term (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The kernel's result and the reference's are the same function of the arguments over the extended reals. -/
theorem algebraic : Cert.algebraic_NarrowKIdeal_NarrowRIdeal := by
  intro m g m' g' _ h
  refine ⟨fun c => term (m ((c : Thread nD τ).loc main_arg0)) (m ((c : Thread nD τ).loc main_arg1)), ?_, ?_⟩
  · refine (θ_run _ _ _).mono (fun r hr c => ⟨(hr c).1.trans (final m c), (hr c).2⟩) (Cert.NarrowKIdeal.Value.run_blocks m g)
  · refine (θ_run _ _ _).mono (fun r hr c => ⟨(hr c).1.trans ?_, (hr c).2⟩) (Cert.NarrowRIdeal.Value.run m' g')
    obtain ⟨h0, h1⟩ := h c
    rw [h0, h1]

/-- The reference's run leaves its arguments alone; it declares no semaphore. -/
theorem frame_ref : Cert.quiescent_NarrowRIdeal := fun m ρ _ =>
  (θ_run Cert.NarrowRIdeal.defs _ _).mono (fun r h => ⟨fun c => (h c).2, sem_eq_zero_of_no_sems (by decide) r.2⟩)
    (Cert.NarrowRIdeal.Value.run m ρ)

end Cert.Proof.Narrow

end
-- ==== Proof.NormValue.lean ====
/-
  The norm with its modulation: what one block of the kernel computes, what the result array holds, and that this is the
  reference's term.
-/
module

public import proofs.«01_k».proof.Proof.Gen.NormKIdeal.Value
public import proofs.«01_k».proof.Proof.Gen.NormRIdeal.Run
public import proofs.«01_k».proof.Defs
public import Idealize.ShloMosaic.Lib.Pipeline.ValueKit
public import Idealize.ShloMosaic.Lib.Quiescent

@[expose] public section

set_option maxRecDepth 16384

noncomputable section

namespace Cert.Proof.Norm

open Idealize.ShloMosaic Idealize.ShloMosaic.TcCoe Idealize.SL.Sem
open Cert.NormKIdeal Cert.NormKIdeal.Gen

variable (m : (ℓ : Loc nD τ sig) → Buf (Elt Ideal) ℓ)

/-- The modulation under a sequence axis of extent one. -/
abbrev wide (g : FVec Ideal Cert.NormRIdeal.S8x6144 .f32) : FVec Ideal Cert.NormRIdeal.S8x1x6144 .f32 :=
  broadcastInDim Cert.NormRIdeal.S8x1x6144 ![0, 2] Cert.NormRIdeal.Gen.bcast_S8x6144_S8x1x6144_0_2 g

/-- The reciprocal root of each row's mean square. -/
abbrev scale (x : FVec Ideal Cert.NormRIdeal.S8x2048x2048 .f32) : FVec Ideal Cert.NormRIdeal.S8x2048x1 .f32 :=
  Host.rsqrt (addf (Host.divf (broadcastInDim Cert.NormRIdeal.S8x2048x1 ![0, 1] Cert.NormRIdeal.Gen.bcast_S8x2048_S8x2048x1_0_1
    (Host.reduceAdd (mulf x x) (constant Cert.NormRIdeal.S_ .f32 0x00000000#32) Cert.NormRIdeal.Gen.reducesTo_S8x2048x2048_S8x2048_d2 Cert.NormRIdeal.Gen.h_S_))
    (broadcastInDim Cert.NormRIdeal.S8x2048x1 ![] Cert.NormRIdeal.Gen.bcast_S_S8x2048x1 (constant Cert.NormRIdeal.S_ .f32 0x45000000#32)))
    (broadcastInDim Cert.NormRIdeal.S8x2048x1 ![] Cert.NormRIdeal.Gen.bcast_S_S8x2048x1 (constant Cert.NormRIdeal.S_ .f32 0x358637BD#32)))

/-- The reference's term: `rms_norm(x) * (1 + scale) + shift`, rounded. -/
abbrev term (x : FVec Ideal Cert.NormRIdeal.S8x2048x2048 .f32) (n : FVec Ideal Cert.NormRIdeal.S2048 .f32)
    (g : FVec Ideal Cert.NormRIdeal.S8x6144 .f32) : FVec Ideal Cert.NormRIdeal.S8x2048x2048 .bf16 :=
  truncf .bf16 (addf (mulf (mulf (mulf x (broadcastInDim Cert.NormRIdeal.S8x2048x2048 ![0, 1, 2] Cert.NormRIdeal.Gen.bcast_S8x2048x1_S8x2048x2048_0_1_2 (scale x)))
      (broadcastInDim Cert.NormRIdeal.S8x2048x2048 ![0, 1, 2] Cert.NormRIdeal.Gen.bcast_S1x1x2048_S8x2048x2048_0_1_2
        (broadcastInDim Cert.NormRIdeal.S1x1x2048 ![2] Cert.NormRIdeal.Gen.bcast_S2048_S1x1x2048_2 n)))
    (broadcastInDim Cert.NormRIdeal.S8x2048x2048 ![0, 1, 2] Cert.NormRIdeal.Gen.bcast_S8x1x2048_S8x2048x2048_0_1_2
      (addf (broadcastInDim Cert.NormRIdeal.S8x1x2048 ![] Cert.NormRIdeal.Gen.bcast_S_S8x1x2048 (constant Cert.NormRIdeal.S_ .f32 0x3F800000#32))
        (extractStridedSlice Cert.NormRIdeal.S8x1x2048 ![0, 0, 2048] (wide g) Cert.NormRIdeal.Gen.slices_S8x1x6144_S8x1x2048_0_0_2048))))
    (broadcastInDim Cert.NormRIdeal.S8x2048x2048 ![0, 1, 2] Cert.NormRIdeal.Gen.bcast_S8x1x2048_S8x2048x2048_0_1_2
      (extractStridedSlice Cert.NormRIdeal.S8x1x2048 ![0, 0, 0] (wide g) Cert.NormRIdeal.Gen.slices_S8x1x6144_S8x1x2048_0_0_0))) Cert.NormRIdeal.Gen.bitsLt_bf16_f32

/-- The windows' block indices at point `t`: batch `t / 4`, row block `t % 4`; the scale is the modulation's second
    third, the shift its first. -/
theorem idx : ∀ t : Fin cfg0.N, win0_0.index t = ![t.val / 4, t.val % 4, 0] ∧ win0_1.index t = ![0, 0]
    ∧ win0_2.index t = ![t.val / 4, 0, 1] ∧ win0_3.index t = ![t.val / 4, 0, 0] ∧ win0_4.index t = ![t.val / 4, t.val % 4, 0] :=
  (by decide +kernel : ∀ t : Fin grid0.N, _)

/-- What the body stores at index `y` of point `t`'s block is the reference's term at the array index of `y`. -/
theorem point (c : Dev nD) (t : Fin cfg0.N) (y : S1x512x2048.Idx) :
    k0_pay1 (F := Ideal) (iblk m c 0 t) (iblk m c 1 t) (iblk m c 2 t) (iblk m c 3 t) y
      = term (m ((c : Thread nD τ).loc main_arg0)) (m ((c : Thread nD τ).loc main_arg1)) (m ((c : Thread nD τ).loc main_arg2))
          (((cfg0.win 4).blk t).view.emb y) := by
  obtain ⟨i, hi⟩ : ∃ i : Cert.NormRIdeal.S8x2048x2048.Idx, i = ((cfg0.win 4).blk t).view.emb y := ⟨_, rfl⟩
  have h0 : (i 0).val = t.val / 4 * 1 + (y 0).val := by rw [hi]; blk_simp [idx t]
  have h1 : (i 1).val = t.val % 4 * 512 + (y 1).val := by rw [hi]; blk_simp [idx t]
  have h2 : (i 2).val = (y 2).val := by rw [hi]; blk_simp [idx t]
  rw [← hi]
  clear hi
  pointwise [k0_pay1, term, scale, wide]
  blk_point [iblk, V, idx t]

/-- The result array after the run is the reference's term of the arguments. -/
theorem final (c : Dev nD) : (dats m 0 c).arrAt 4 (cfgs 0).N
    = term (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

/-- The kernel's result and the reference's are the same function of the arguments over the extended reals. -/
theorem algebraic : Cert.algebraic_NormKIdeal_NormRIdeal := by
  intro m g m' g' _ h
  refine ⟨fun c => term (m ((c : Thread nD τ).loc main_arg0)) (m ((c : Thread nD τ).loc main_arg1)) (m ((c : Thread nD τ).loc main_arg2)), ?_, ?_⟩
  · refine (θ_run _ _ _).mono (fun r hr c => ⟨(hr c).1.trans (final m c), (hr c).2⟩) (Cert.NormKIdeal.Value.run_blocks m g)
  · refine (θ_run _ _ _).mono (fun r hr c => ⟨(hr c).1.trans ?_, (hr c).2⟩) (Cert.NormRIdeal.Value.run m' g')
    obtain ⟨h0, h1, h2⟩ := h c
    rw [h0, h1, h2]

/-- The reference's run leaves its arguments alone; it declares no semaphore. -/
theorem frame_ref : Cert.quiescent_NormRIdeal := fun m ρ _ =>
  (θ_run Cert.NormRIdeal.defs _ _).mono (fun r h => ⟨fun c => (h c).2, sem_eq_zero_of_no_sems (by decide) r.2⟩)
    (Cert.NormRIdeal.Value.run m ρ)

end Cert.Proof.Norm

end
-- ==== Proof.AdaValue.lean ====
/-
  The modulation of every layer: the precondition gives finite entries, so that the kernel's split products come down to
  the one exact product; what one block of the kernel computes, what the result array holds, and that this is the
  reference's term.
-/
module

public import proofs.«01_k».proof.Proof.Gen.AdaKIdeal.Value
public import proofs.«01_k».proof.Proof.Gen.AdaRIdeal.Run
public import proofs.«01_k».proof.Defs
public import Idealize.ShloMosaic.Lib.Pipeline.ValueKit
public import Idealize.ShloMosaic.Lib.Quiescent
public import Idealize.ShloMosaic.Lib.ReduceAll

@[expose] public section

set_option maxRecDepth 16384

noncomputable section

namespace Cert.Proof.Ada

open Idealize.ShloMosaic Idealize.ShloMosaic.TcCoe Idealize.SL.Sem
open Cert.AdaKIdeal Cert.AdaKIdeal.Gen

variable (m : (ℓ : Loc nD τ sig) → Buf (Elt Ideal) ℓ)

/-- `x * sigmoid x` on the extended reals. -/
def silu (x : EReal) : EReal := x * Ideal.div 1 (1 + Ideal.exp (-x))

/-- An extended real whose absolute value is below `+∞` is a real number. -/
theorem real_of_abs (x : EReal) (h : max x (-x) < ⊤) : ∃ r : ℝ, x = r := by
  induction x with
  | bot => simp at h
  | top => simp at h
  | coe r => exact ⟨r, rfl⟩

/-- `silu` of a real number is a real number. -/
theorem silu_real (r : ℝ) : ∃ s : ℝ, silu r = s := by
  have hp : (1 + Real.exp (-r) : ℝ) ≠ 0 := by positivity
  have he : (1 : EReal) + Ideal.exp (-(r : EReal)) = ((1 + Real.exp (-r) : ℝ) : EReal) := by
    rw [← EReal.coe_neg, Ideal.exp_coe, ← EReal.coe_one, ← EReal.coe_add]
  refine ⟨r * (1 * (1 / (1 + Real.exp (-r)))), ?_⟩
  rw [silu, he, Ideal.div_coe hp, ← EReal.coe_one, ← EReal.coe_mul, ← EReal.coe_mul]

/-- A real number less itself is zero. -/
theorem sub_self_real (x : EReal) (h : ∃ r : ℝ, x = r) : x - x = 0 := by
  obtain ⟨r, rfl⟩ := h
  rw [← EReal.coe_sub, sub_self, EReal.coe_zero]

/-- The reference's condition: `silu` of every entry. -/
abbrev cond (c : FVec Ideal Cert.AdaRIdeal.S8x2048 .f32) : FVec Ideal Cert.AdaRIdeal.S8x2048 .f32 :=
  mulf c (Host.divf (broadcastInDim Cert.AdaRIdeal.S8x2048 ![] Cert.AdaRIdeal.Gen.bcast_S_S8x2048 (constant Cert.AdaRIdeal.S_ .f32 0x3F800000#32))
    (addf (broadcastInDim Cert.AdaRIdeal.S8x2048 ![] Cert.AdaRIdeal.Gen.bcast_S_S8x2048 (constant Cert.AdaRIdeal.S_ .f32 0x3F800000#32)) (Host.exp (Host.negf c))))

/-- One layer of the reference: the condition times the layer's weight, plus the layer's bias. -/
abbrev layer (c : FVec Ideal Cert.AdaRIdeal.S8x2048 .f32) (w : FVec Ideal Cert.AdaRIdeal.S1x2048x6144 .f32)
    (b : FVec Ideal Cert.AdaRIdeal.S1x6144 .f32) : FVec Ideal Cert.AdaRIdeal.S1x8x6144 .f32 :=
  broadcastInDim Cert.AdaRIdeal.S1x8x6144 ![1, 2] Cert.AdaRIdeal.Gen.bcast_S8x6144_S1x8x6144_1_2
    (addf (Host.dotGeneral Cert.AdaRIdeal.dot_S8x2048_S2048x6144_S8x6144_1_0_0_1_n_n none (cond c)
        (shapeCast Cert.AdaRIdeal.S2048x6144 w Cert.AdaRIdeal.Gen.shapeCasts_S1x2048x6144_S2048x6144))
      (broadcastInDim Cert.AdaRIdeal.S8x6144 ![0, 1] Cert.AdaRIdeal.Gen.bcast_S1x6144_S8x6144_0_1
        (broadcastInDim Cert.AdaRIdeal.S1x6144 ![1] Cert.AdaRIdeal.Gen.bcast_S6144_S1x6144_1
          (shapeCast Cert.AdaRIdeal.S6144 b Cert.AdaRIdeal.Gen.shapeCasts_S1x6144_S6144))))

/-- The reference's term: its four layers stacked. -/
abbrev term (c : FVec Ideal Cert.AdaRIdeal.S8x2048 .f32) (w : FVec Ideal Cert.AdaRIdeal.S4x2048x6144 .f32)
    (b : FVec Ideal Cert.AdaRIdeal.S4x6144 .f32) : FVec Ideal Cert.AdaRIdeal.S4x8x6144 .f32 :=
  concatenate Cert.AdaRIdeal.S4x8x6144 0
    [⟨Cert.AdaRIdeal.S1x8x6144, layer c (extractStridedSlice Cert.AdaRIdeal.S1x2048x6144 ![0, 0, 0] w Cert.AdaRIdeal.Gen.slices_S4x2048x6144_S1x2048x6144_0_0_0)
        (extractStridedSlice Cert.AdaRIdeal.S1x6144 ![0, 0] b Cert.AdaRIdeal.Gen.slices_S4x6144_S1x6144_0_0)⟩,
     ⟨Cert.AdaRIdeal.S1x8x6144, layer c (extractStridedSlice Cert.AdaRIdeal.S1x2048x6144 ![1, 0, 0] w Cert.AdaRIdeal.Gen.slices_S4x2048x6144_S1x2048x6144_1_0_0)
        (extractStridedSlice Cert.AdaRIdeal.S1x6144 ![1, 0] b Cert.AdaRIdeal.Gen.slices_S4x6144_S1x6144_1_0)⟩,
     ⟨Cert.AdaRIdeal.S1x8x6144, layer c (extractStridedSlice Cert.AdaRIdeal.S1x2048x6144 ![2, 0, 0] w Cert.AdaRIdeal.Gen.slices_S4x2048x6144_S1x2048x6144_2_0_0)
        (extractStridedSlice Cert.AdaRIdeal.S1x6144 ![2, 0] b Cert.AdaRIdeal.Gen.slices_S4x6144_S1x6144_2_0)⟩,
     ⟨Cert.AdaRIdeal.S1x8x6144, layer c (extractStridedSlice Cert.AdaRIdeal.S1x2048x6144 ![3, 0, 0] w Cert.AdaRIdeal.Gen.slices_S4x2048x6144_S1x2048x6144_3_0_0)
        (extractStridedSlice Cert.AdaRIdeal.S1x6144 ![3, 0] b Cert.AdaRIdeal.Gen.slices_S4x6144_S1x6144_3_0)⟩]
    Cert.AdaRIdeal.Gen.concatenates_S1x8x6144_S1x8x6144_S1x8x6144_S1x8x6144_S4x8x6144_d0

/-- The shape relations that the precondition states. -/
instance facts_finite : Cert.Pre_finite_modulation.Facts where
  bcast_S_S8x2048 := by decide
  reducesTo_S8x2048_S_d0_1 := by decide
  h_S_ := by decide
  bcast_S_S4x2048x6144 := by decide
  reducesTo_S4x2048x6144_S_d0_1_2 := by decide

/-- A comparison of an absolute value with `+∞` that holds makes the entry a real number. -/
theorem real_of_cmp {s : Shape} (x : FVec Ideal s .f32) (i : s.Idx) (hb : Cert.Pre_finite_modulation.S_.BroadcastsInDim s (![] : Fin 0 → Fin s.rank))
    (h : cmpf .olt (Host.absf x) (broadcastInDim s ![] hb (constant Cert.Pre_finite_modulation.S_ .f32 0x7F800000#32)) i = 1#1) :
    ∃ r : ℝ, x i = (r : EReal) := by
  refine real_of_abs (x i) ?_
  have ht : Ideal.ofBits .f32 0x7F800000#32 = ⊤ := by simp [Ideal.ofBits, Ideal.ieee]
  have e : Ideal.cmp .olt (max (x i) (-(x i))) (Ideal.ofBits .f32 0x7F800000#32) = 1#1 := h
  rw [ht] at e
  by_contra hn
  simp only [Ideal.cmp, decide_eq_false hn] at e
  exact absurd e (by decide)

/-- The precondition makes every entry of the condition and of the weight a real number. -/
theorem finite (h : Cert.Pre_AdaKIdeal_finite_modulation m) (c : Dev nD) :
    (∀ i : S8x2048.Idx, ∃ r : ℝ, (m ((c : Thread nD τ).loc main_arg0) : S8x2048.Idx → EReal) i = (r : EReal))
    ∧ ∀ i : S4x2048x6144.Idx, ∃ r : ℝ, (m ((c : Thread nD τ).loc main_arg1) : S4x2048x6144.Idx → EReal) i = (r : EReal) := by
  have : Subsingleton Cert.Pre_finite_modulation.S_.Idx := ⟨fun a b => funext fun k => k.elim0⟩
  obtain ⟨e0, e1⟩ := IntOp.andi_eq_one.1 (congrFun (h c) (Shape.Idx.first Cert.Pre_finite_modulation.Facts.h_S_))
  exact ⟨fun i => real_of_cmp _ i _ (Host.reduce_andi_all _ _ _ _ _ e0 i), fun i => real_of_cmp _ i _ (Host.reduce_andi_all _ _ _ _ _ e1 i)⟩

/-- One entry of the result: a condition row against a weight column, plus the bias. -/
theorem term_apply (c : FVec Ideal Cert.AdaRIdeal.S8x2048 .f32) (w : FVec Ideal Cert.AdaRIdeal.S4x2048x6144 .f32)
    (b : FVec Ideal Cert.AdaRIdeal.S4x6144 .f32) (i : Cert.AdaRIdeal.S4x8x6144.Idx) :
    term c w b i = ∑ k : Fin 2048, silu (c (ix2 (i 1) k)) * w (ix3 (i 0) k (i 2)) + b (ix2 (i 0) (i 2)) := by
  have key : ∀ n : Fin 4, n.val = (i 0).val →
      ∑ k : Fin 2048, silu (c (ix2 (i 1) k)) * w (ix3 n k (i 2)) + b (ix2 n (i 2))
        = ∑ k : Fin 2048, silu (c (ix2 (i 1) k)) * w (ix3 (i 0) k (i 2)) + b (ix2 (i 0) (i 2)) := by
    intro n hn
    obtain rfl : n = i 0 := Fin.ext hn
    rfl
  have hi : (i 0).val < 4 := (i 0).isLt
  pointwise [term, layer, cond]
  split_ifs
  · exact key 0 (by show 0 = (i 0).val; omega)
  · exact key 1 (by show 1 = (i 0).val; omega)
  · exact key 2 (by show 2 = (i 0).val; omega)
  · exact key 3 (by show 3 = (i 0).val; omega)

/-- The body's block at an index: three split products whose last two vanish on real entries, plus the bias. -/
theorem pay_apply (x0 : FVec Ideal S8x2048 .f32) (x1 : FVec Ideal S1x2048x512 .f32) (x2 : FVec Ideal S1x1x512 .f32) (y : S1x8x512.Idx)
    (h0 : ∀ i, ∃ r : ℝ, x0 i = r) (h1 : ∀ i, ∃ r : ℝ, x1 i = r) :
    k0_pay1 (F := Ideal) x0 x1 x2 y = ∑ k : Fin 2048, silu (x0 (ix2 (y 1) k)) * x1 (ix3 0 k (y 2)) + x2 (ix3 0 0 (y 2)) := by
  have hc : ∀ k : Fin 2048, silu (x0 (ix2 (y 1) k)) - silu (x0 (ix2 (y 1) k)) = 0 := by
    intro k
    obtain ⟨r, hr⟩ := h0 (ix2 (y 1) k)
    exact sub_self_real _ (by rw [hr]; exact silu_real r)
  have hw : ∀ k : Fin 2048, x1 (ix3 0 k (y 2)) - x1 (ix3 0 k (y 2)) = 0 := fun k => sub_self_real _ (h1 _)
  have split : ∑ k : Fin 2048, silu (x0 (ix2 (y 1) k)) * x1 (ix3 0 k (y 2))
      + (∑ k : Fin 2048, (silu (x0 (ix2 (y 1) k)) - silu (x0 (ix2 (y 1) k))) * x1 (ix3 0 k (y 2))
        + ∑ k : Fin 2048, silu (x0 (ix2 (y 1) k)) * (x1 (ix3 0 k (y 2)) - x1 (ix3 0 k (y 2))))
      = ∑ k : Fin 2048, silu (x0 (ix2 (y 1) k)) * x1 (ix3 0 k (y 2)) := by
    simp only [hc, hw, zero_mul, mul_zero, Finset.sum_const_zero, add_zero]
  rw [← split]
  pointwise [k0_pay1]
  simp only [silu, zero_sub]

/-- The windows' block indices at point `t`: layer `t / 12`, column block `t % 12`. -/
theorem idx : ∀ t : Fin cfg0.N, win0_0.index t = ![0, 0] ∧ win0_1.index t = ![t.val / 12, 0, t.val % 12]
    ∧ win0_2.index t = ![t.val / 12, 0, t.val % 12] ∧ win0_3.index t = ![t.val / 12, 0, t.val % 12] :=
  (by decide +kernel : ∀ t : Fin grid0.N, _)

/-- What the body stores at index `y` of point `t`'s block is the reference's term at the array index of `y`. -/
theorem point (h : Cert.Pre_AdaKIdeal_finite_modulation m) (c : Dev nD) (t : Fin cfg0.N) (y : S1x8x512.Idx) :
    k0_pay1 (F := Ideal) (iblk m c 0 t) (iblk m c 1 t) (iblk m c 2 t) y
      = term (m ((c : Thread nD τ).loc main_arg0)) (m ((c : Thread nD τ).loc main_arg1)) (m ((c : Thread nD τ).loc main_arg2))
          (((cfg0.win 3).blk t).view.emb y) := by
  obtain ⟨i, hi⟩ : ∃ i : Cert.AdaRIdeal.S4x8x6144.Idx, i = ((cfg0.win 3).blk t).view.emb y := ⟨_, rfl⟩
  have h0 : (i 0).val = t.val / 12 + (y 0).val := by rw [hi]; blk_simp [idx t]
  have h1 : (i 1).val = (y 1).val := by rw [hi]; blk_simp [idx t]
  have h2 : (i 2).val = t.val % 12 * 512 + (y 2).val := by rw [hi]; blk_simp [idx t]
  rw [← hi]
  clear hi
  obtain ⟨f0, f1⟩ := finite m h c
  refine (pay_apply _ _ _ y (fun j => ?_) (fun j => ?_)).trans (Eq.trans ?_ (term_apply _ _ _ i).symm)
  · exact f0 _
  · exact f1 _
  · blk_point [iblk, V, idx t]

/-- The result array after the run is the reference's term of the arguments. -/
theorem final (h : Cert.Pre_AdaKIdeal_finite_modulation m) (c : Dev nD) : (dats m 0 c).arrAt 3 (cfgs 0).N
    = term (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m h c t y

/-- The kernel's result and the reference's are the same function of finite arguments over the extended reals. -/
theorem algebraic : Cert.algebraic_AdaKIdeal_AdaRIdeal_pre_finite_modulation := by
  intro m g m' g' hpre h
  refine ⟨fun c => term (m ((c : Thread nD τ).loc main_arg0)) (m ((c : Thread nD τ).loc main_arg1)) (m ((c : Thread nD τ).loc main_arg2)), ?_, ?_⟩
  · refine (θ_run _ _ _).mono (fun r hr c => ⟨(hr c).1.trans (final m hpre c), (hr c).2⟩) (Cert.AdaKIdeal.Value.run_blocks m g)
  · refine (θ_run _ _ _).mono (fun r hr c => ⟨(hr c).1.trans ?_, (hr c).2⟩) (Cert.AdaRIdeal.Value.run m' g')
    obtain ⟨h0, h1, h2⟩ := h c
    rw [h0, h1, h2]

/-- The reference's run leaves its arguments alone; it declares no semaphore. -/
theorem frame_ref : Cert.quiescent_AdaRIdeal := fun m ρ _ =>
  (θ_run Cert.AdaRIdeal.defs _ _).mono (fun r h => ⟨fun c => (h c).2, sem_eq_zero_of_no_sems (by decide) r.2⟩)
    (Cert.AdaRIdeal.Value.run m ρ)

end Cert.Proof.Ada

end
-- ==== Proof.BiasBucket.lean ====
/-
  The bucket of a relative position: the kernel counts thresholds, the reference takes a logarithm; over the reals the two
  agree at every distance a tile meets.
-/
module

public import Idealize.ShloMosaic.Lib.Pipeline.ValueKit
public import Mathlib.Data.BitVec

@[expose] public section

noncomputable section

namespace Cert.Proof.Bias

open Idealize.ShloMosaic

/-- A bucket from the choice `large` of the far distances' part. -/
def bucketOf (large : BitVec 32 → BitVec 32) (rel : BitVec 32) : BitVec 32 :=
  IntOp.addi (Scalar.select (IntOp.cmpi .sgt rel 0#32) 16#32 0#32)
    (Scalar.select (IntOp.cmpi .slt (IntOp.absi rel) 8#32) (IntOp.absi rel) (IntOp.minsi (large (IntOp.absi rel)) 15#32))

/-- One threshold's contribution. -/
def step (n thr : BitVec 32) : BitVec 32 := Scalar.select (IntOp.cmpi .sge n thr) 1#32 0#32

/-- The far part by counting thresholds. -/
def counted (n : BitVec 32) : BitVec 32 :=
  IntOp.addi (IntOp.addi (IntOp.addi (IntOp.addi (IntOp.addi (IntOp.addi (IntOp.addi 8#32 (step n 12#32)) (step n 16#32))
    (step n 23#32)) (step n 32#32)) (step n 46#32)) (step n 64#32)) (step n 91#32)

/-- The far part by the integer logarithm of the square. -/
def squared (n : BitVec 32) : BitVec 32 := 8#32 + BitVec.ofNat 32 (Nat.log2 (n.toNat * n.toNat / 64))

/-- The far part as the reference states it. -/
def logged (n : BitVec 32) : BitVec 32 :=
  IntOp.addi 8#32 (Ideal.fptosi 32 (Ideal.div (Ideal.log (Ideal.div (((IntOp.maxsi n 1#32).toInt : ℝ) : EReal) ((8 : ℝ) : EReal)))
    (Ideal.log ((16 : ℝ) : EReal)) * ((8 : ℝ) : EReal)))

/-- Eight sixteenth-logarithms of an eighth round down to the integer logarithm of the square. -/
theorem floor_log (n : ℕ) (h : 8 ≤ n) :
    ⌊Real.log ((n : ℝ) / 8) / Real.log 16 * 8⌋ = ((Nat.log2 (n * n / 64) : ℕ) : ℤ) := by
  have hn : (8 : ℝ) ≤ (n : ℝ) := by exact_mod_cast h
  have h2 : Real.log 2 ≠ 0 := (Real.log_pos (by norm_num)).ne'
  have e16 : Real.log 16 = 4 * Real.log 2 := by
    rw [show (16 : ℝ) = 2 ^ 4 by norm_num, Real.log_pow]; norm_num
  have hq : (((n * n : ℕ) : ℝ) / 64) = ((n : ℝ) / 8) ^ 2 := by push_cast; ring
  have hpos : (0 : ℝ) < Real.log 2 := Real.log_pos (by norm_num)
  have e : Real.log ((n : ℝ) / 8) / Real.log 16 * 8 = Real.log (((n * n : ℕ) : ℝ) / 64) / Real.log 2 := by
    rw [hq, Real.log_pow, e16]
    push_cast
    field_simp
    ring
  have hm : n * n / 64 ≠ 0 := by
    have : 8 * 8 ≤ n * n := Nat.mul_le_mul h h
    omega
  have hlo : 2 ^ Nat.log2 (n * n / 64) * 64 ≤ n * n := by
    have := Nat.log2_self_le hm
    omega
  have hhi : n * n < 2 ^ (Nat.log2 (n * n / 64) + 1) * 64 := by
    have := (Nat.log2_lt hm).mp (Nat.lt_succ_self (Nat.log2 (n * n / 64)))
    omega
  have rlo : (2 : ℝ) ^ Nat.log2 (n * n / 64) ≤ ((n * n : ℕ) : ℝ) / 64 := by
    rw [le_div_iff₀ (by norm_num)]
    exact_mod_cast hlo
  have rhi : ((n * n : ℕ) : ℝ) / 64 < (2 : ℝ) ^ (Nat.log2 (n * n / 64) + 1) := by
    rw [div_lt_iff₀ (by norm_num)]
    exact_mod_cast hhi
  have llo := Real.log_le_log (by positivity) rlo
  have lhi := Real.log_lt_log (lt_of_lt_of_le (by positivity) rlo) rhi
  rw [Real.log_pow] at llo lhi
  rw [e, Int.floor_eq_iff, le_div_iff₀ hpos, div_lt_iff₀ hpos]
  push_cast at llo lhi ⊢
  exact ⟨llo, lhi⟩

/-- At the distances a tile meets, from eight on, the logarithm's far part is the square's. -/
theorem logged_eq (n : BitVec 32) (h : 8 ≤ n.toNat) (h' : n.toNat < 512) : logged n = squared n := by
  have hi : n.toInt = (n.toNat : ℤ) := BitVec.toInt_eq_toNat_of_lt (by omega)
  have hm : IntOp.maxsi n 1#32 = n := by
    unfold IntOp.maxsi
    rw [if_pos]
    simp only [BitVec.slt, hi]
    exact decide_eq_true (by show (1 : ℤ) < _; omega)
  have hn : (8 : ℝ) ≤ (n.toNat : ℝ) := by exact_mod_cast h
  have h16 : Real.log 16 ≠ 0 := (Real.log_pos (by norm_num)).ne'
  have hf := floor_log n.toNat h
  have hx : (0 : ℝ) ≤ Real.log ((n.toNat : ℝ) / 8) / Real.log 16 * 8 := by
    have : 0 ≤ Real.log ((n.toNat : ℝ) / 8) := Real.log_nonneg (by linarith)
    have : 0 ≤ Real.log 16 := Real.log_nonneg (by norm_num)
    positivity
  have hl : Nat.log2 (n.toNat * n.toNat / 64) < 12 := by
    have h0 : 8 * 8 ≤ n.toNat * n.toNat := Nat.mul_le_mul h h
    have : n.toNat * n.toNat ≤ 511 * 511 := Nat.mul_le_mul (by omega) (by omega)
    rw [Nat.log2_lt (by omega)]
    omega
  have key : Ideal.div (Ideal.log (Ideal.div (((n.toNat : ℤ) : ℝ) : EReal) ((8 : ℝ) : EReal))) (Ideal.log ((16 : ℝ) : EReal)) * ((8 : ℝ) : EReal)
      = ((Real.log ((n.toNat : ℝ) / 8) / Real.log 16 * 8 : ℝ) : EReal) := by
    rw [Ideal.div_coe (by norm_num), ← EReal.coe_mul, Ideal.log_coe, Ideal.log_coe, if_neg, if_neg (by norm_num), Ideal.div_coe h16,
      ← EReal.coe_mul, ← EReal.coe_mul]
    · congr 1
      push_cast
      ring_nf
    · push_cast
      have : (0 : ℝ) < (n.toNat : ℝ) * (1 / 8) := by positivity
      linarith
  unfold logged squared
  rw [hm, hi, key, Ideal.fptosi, Ideal.toIntClamped_coe, if_pos hx, hf]
  show 8#32 + _ = _
  congr 1
  rw [min_eq_right (by norm_num; omega), max_eq_right (by norm_num)]
  rfl

/-- The relative position of key row `k` and query column `q` in a tile of distance `d`. -/
def relPos (d k q : ℕ) : BitVec 32 :=
  IntOp.addi (IntOp.subi (BitVec.ofNat 32 k) (BitVec.ofNat 32 q)) (IntOp.muli (IntOp.subi (BitVec.ofNat 32 d) 3#32) 128#32)

theorem relPos_eq (d k q : ℕ) (hd : d < 4) (hk : k < 256) (hq : q < 128) :
    relPos d k q = BitVec.ofNat 32 (k + 127 - q + 128 * d) - 511#32 := by
  have h : BitVec.ofNat 32 k + 127 = BitVec.ofNat 32 (k + 127 - q) + BitVec.ofNat 32 q := by
    rw [← BitVec.ofNat_add, Nat.sub_add_cancel (by omega), BitVec.ofNat_add]
    rfl
  show BitVec.ofNat 32 k - BitVec.ofNat 32 q + (BitVec.ofNat 32 d - (3 : BitVec 32)) * (128 : BitVec 32)
    = BitVec.ofNat 32 (k + 127 - q + 128 * d) - (511 : BitVec 32)
  rw [BitVec.ofNat_add, BitVec.ofNat_mul, show BitVec.ofNat 32 128 = (128 : BitVec 32) from rfl]
  linear_combination h

/-- Over every relative position, decided: the absolute value stays in range, the two integer buckets agree, and a bucket is one of the 32. -/
theorem all_rel : ∀ (a : Fin 24) (b : Fin 32), (IntOp.absi (BitVec.ofNat 32 (32 * a.val + b.val) - 511#32)).toNat < 512
    ∧ bucketOf counted (BitVec.ofNat 32 (32 * a.val + b.val) - 511#32) = bucketOf squared (BitVec.ofNat 32 (32 * a.val + b.val) - 511#32)
    ∧ (bucketOf counted (BitVec.ofNat 32 (32 * a.val + b.val) - 511#32)).toNat < 32 := by
  decide +kernel

/-- The reference's bucket is the integer one when the absolute value is in range. -/
theorem bucket_logged (rel : BitVec 32) (h : (IntOp.absi rel).toNat < 512) : bucketOf logged rel = bucketOf squared rel := by
  unfold bucketOf
  congr 1
  by_cases h8 : 8 ≤ (IntOp.absi rel).toNat
  · rw [logged_eq _ h8 h]
  · have hi : (IntOp.absi rel).toInt = ((IntOp.absi rel).toNat : ℤ) := BitVec.toInt_eq_toNat_of_lt (by omega)
    have : IntOp.cmpi .slt (IntOp.absi rel) 8#32 = 1 := by
      simp only [IntOp.cmpi, BitVec.slt, hi]
      rw [decide_eq_true (by show _ < (8 : ℤ); omega)]
      rfl
    rw [this]
    exact (ValueIdx.select_one _ _).trans (ValueIdx.select_one _ _).symm

/-- The two buckets of a tile's position agree, and are below 32. -/
theorem bucket_eq (d k q : ℕ) (hd : d < 4) (hk : k < 256) (hq : q < 128) :
    bucketOf logged (relPos d k q) = bucketOf counted (relPos d k q) ∧ (bucketOf counted (relPos d k q)).toNat < 32 := by
  obtain ⟨r, hr⟩ : ∃ r, r = k + 127 - q + 128 * d := ⟨_, rfl⟩
  have e : r = 32 * (r / 32) + r % 32 := by omega
  rw [relPos_eq d k q hd hk hq, ← hr, e]
  obtain ⟨h1, h2, h3⟩ := all_rel ⟨r / 32, by omega⟩ ⟨r % 32, by omega⟩
  exact ⟨(bucket_logged _ h1).trans h2.symm, h3⟩

/-- A bucket below 32 needs no wrapping and no clamping. -/
theorem wrap_eq (b : BitVec 32) (h : b.toNat < 32) :
    min (Scalar.select (IntOp.cmpi .slt b 0#32) (IntOp.addi b 32#32) b).toInt.toNat 31 = b.toNat := by
  have hi : b.toInt = (b.toNat : ℤ) := BitVec.toInt_eq_toNat_of_lt (by omega)
  have : IntOp.cmpi .slt b 0#32 = 0 := by
    simp only [IntOp.cmpi, BitVec.slt, hi]
    rw [decide_eq_false (by show ¬ _ < (0 : ℤ); omega)]
    rfl
  rw [this, show Scalar.select (0 : BitVec 1) (IntOp.addi b 32#32) b = b from rfl, hi]
  omega

/-- The word picked by comparing a bucket with `0, 1, …, n - 1` in turn, the last match winning. -/
def pick {α : Type} (z : α) (w : ℕ → α) (b : BitVec 32) : ℕ → α
  | 0 => z
  | n + 1 => Scalar.select (IntOp.cmpi .eq b (BitVec.ofNat 32 n)) (w n) (pick z w b n)

/-- A bucket below the count picks its own word. -/
theorem pick_eq {α : Type} (z : α) (w : ℕ → α) (b : BitVec 32) : ∀ n, n ≤ 32 → b.toNat < n → pick z w b n = w b.toNat
  | 0, _, h => absurd h (Nat.not_lt_zero _)
  | n + 1, hn, h => by
    unfold pick
    by_cases e : b.toNat = n
    · have : b = BitVec.ofNat 32 n := BitVec.eq_of_toNat_eq (by rw [BitVec.toNat_ofNat]; omega)
      rw [show IntOp.cmpi .eq b (BitVec.ofNat 32 n) = 1 by rw [← this]; simp [IntOp.cmpi], e]
      rfl
    · have : IntOp.cmpi .eq b (BitVec.ofNat 32 n) = 0 := by
        have hb : b ≠ BitVec.ofNat 32 n := fun h' => e (by rw [h', BitVec.toNat_ofNat]; omega)
        show BitVec.ofBool (b == BitVec.ofNat 32 n) = 0#1
        rw [beq_eq_false_iff_ne.mpr hb]
        rfl
      rw [this]
      exact pick_eq z w b n (by omega) (by omega)

end Cert.Proof.Bias

end
-- ==== Proof.BiasRef.lean ====
/-
  The reference's bias tiles at an index: the table's row at the position's bucket.
-/
module

public import proofs.«01_k».proof.Proof.Gen.BiasRIdeal.Run
public import proofs.«01_k».proof.Proof.BiasBucket
public import proofs.«01_k».proof.Defs
public import Idealize.ShloMosaic.Lib.Pipeline.ValueKit
public import Idealize.ShloMosaic.Lib.Quiescent

@[expose] public section

set_option maxRecDepth 16384

noncomputable section

namespace Cert.Proof.Bias

open Idealize.ShloMosaic Idealize.ShloMosaic.TcCoe Idealize.SL.Sem
open Cert.BiasRIdeal Cert.BiasRIdeal.Gen

/-- The reference's relative positions. -/
def relT : IVec S4x256x128 32 :=
  addi (broadcastInDim S4x256x128 ![0, 1, 2] bcast_S1x256x128_S4x256x128_0_1_2
      (subi (broadcastInDim S1x256x128 ![0, 1, 2] bcast_S1x256x1_S1x256x128_0_1_2 (broadcastInDim S1x256x1 ![1] bcast_S256_S1x256x1_1 (iotaInDim S256 32 0)))
        (broadcastInDim S1x256x128 ![0, 1, 2] bcast_S1x1x128_S1x256x128_0_1_2 (broadcastInDim S1x1x128 ![2] bcast_S128_S1x1x128_2 (iotaInDim S128 32 0)))))
    (broadcastInDim S4x256x128 ![0, 1, 2] bcast_S4x1x1_S4x256x128_0_1_2 (broadcastInDim S4x1x1 ![0] bcast_S4_S4x1x1_0
      (muli (subi (iotaInDim S4 32 0) (broadcastInDim S4 ![] bcast_S_S4 (constantI S_ 32 3#32))) (broadcastInDim S4 ![] bcast_S_S4 (constantI S_ 32 128#32)))))

/-- An integer everywhere. -/
abbrev splat (x : BitVec 32) : IVec S4x256x128 32 := broadcastInDim S4x256x128 ![] bcast_S_S4x256x128 (constantI S_ 32 x)

/-- A float's word everywhere. -/
abbrev splatF (x : BitVec 32) : FVec Ideal S4x256x128 .f32 := broadcastInDim S4x256x128 ![] bcast_S_S4x256x128 (constant S_ .f32 x)

/-- The reference's far part. -/
def largeT : IVec S4x256x128 32 :=
  addi (splat 8#32) (fptosi 32 (mulf (Host.divf (Host.log (Host.divf (sitofp .f32 (maxsi (absi relT) (splat 1#32))) (splatF 0x41000000#32)))
    (broadcastInDim S4x256x128 ![] bcast_S_S4x256x128 (Host.log (constant S_ .f32 0x41800000#32)))) (splatF 0x41000000#32) : FVec Ideal S4x256x128 .f32))

/-- The reference's buckets. -/
def bucketT : IVec S4x256x128 32 :=
  addi (id (select (cmpi .sgt relT (splat 0#32)) (splat 16#32) (splat 0#32)))
    (select (cmpi .slt (absi relT) (splat 8#32)) (absi relT) (minsi largeT (splat 15#32)))

/-- The reference's term. -/
def term (x : FVec Ideal S32x8 .f32) : FVec Ideal S4x8x256x128 .f32 :=
  transpose S4x8x256x128 [0, 3, 1, 2] (Host.gather gather_S32x8_S4x256x128x1_S4x256x128x8_3_0_n_n_0_3_18 x
    (broadcastInDim S4x256x128x1 ![0, 1, 2] bcast_S4x256x128_S4x256x128x1_0_1_2
      (select (cmpi .slt bucketT (splat 0#32)) (addi bucketT (splat 32#32)) bucketT))) transposes_S4x256x128x8_S4x8x256x128_0_3_1_2

/-- It is the run's result. -/
theorem res_eq (m : (ℓ : Loc nD τ sig) → Buf (Elt Ideal) ℓ) (c : Dev nD) :
    Cert.BiasRIdeal.Value.res_out0 m c = term (m ((c : Thread nD τ).loc main_arg0)) := rfl

/-- The position at an index. -/
theorem relT_apply (d : Fin 4) (k : Fin 256) (q : Fin 128) : relT (ix3 d k q) = relPos d.val k.val q.val := by
  pointwise [relT]
  rfl

/-- The word of eight. -/
theorem eight : (FloatOps.ofBits .f32 0x41000000#32 : Ideal .f32) = ((8 : ℝ) : EReal) := by
  show Ideal.ofBits .f32 0x41000000#32 = _
  simp [Ideal.ofBits, Ideal.ieee, -EReal.coe_mul]
  norm_num

/-- The word of sixteen. -/
theorem sixteen : (FloatOps.ofBits .f32 0x41800000#32 : Ideal .f32) = ((16 : ℝ) : EReal) := by
  show Ideal.ofBits .f32 0x41800000#32 = _
  simp [Ideal.ofBits, Ideal.ieee, -EReal.coe_mul]
  norm_num

/-- The far part at an index. -/
theorem largeT_apply (y : S4x256x128.Idx) : largeT y = logged (IntOp.absi (relT y)) := by
  unfold logged
  rw [← eight, ← sixteen]
  rfl

/-- The bucket at an index. -/
theorem bucketT_apply (d : Fin 4) (k : Fin 256) (q : Fin 128) : bucketT (ix3 d k q) = bucketOf logged (relPos d.val k.val q.val) := by
  unfold bucketOf
  rw [← relT_apply, ← largeT_apply]
  rfl

/-- The gather at an index: the row the index names, read signed and clamped. -/
theorem gather_apply (x : FVec Ideal S32x8 .f32) (idx : IVec S4x256x128x1 32) (d : Fin 4) (k : Fin 256) (q : Fin 128) (h : Fin 8) :
    Host.gather gather_S32x8_S4x256x128x1_S4x256x128x8_3_0_n_n_0_3_18 x idx (ix4 d k q h)
      = x (ix2 ⟨min (idx (ix4 d k q 0)).toInt.toNat 31, by omega⟩ h) := by
  unfold Host.gather
  congr 1
  funext a
  refine Fin.ext ?_
  show GatherDims.start _ (ix4 d k q h) idx a + GatherDims.batchCoord _ (ix4 d k q h) a + GatherDims.offCoord _ (ix4 d k q h) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl : (0 : Fin 2) ∈ [(0 : Fin 2)])).trans ?_
    have hsi : GatherDims.siIdx gather_S32x8_S4x256x128x1_S4x256x128x8_3_0_n_n_0_3_18 (ix4 d k q h)
        ⟨List.idxOf (0 : Fin 2) [0], by decide⟩ = ix4 d k q 0 := by
      funext b; refine Fin.ext ?_
      match b with
      | ⟨0, _⟩ => rfl
      | ⟨1, _⟩ => rfl
      | ⟨2, _⟩ => rfl
      | ⟨3, _⟩ => rfl
    exact congrArg (fun i => min (idx i).toInt.toNat 31) hsi
  | ⟨1, _⟩ =>
    unfold GatherDims.start
    rw [dif_neg (by show ¬ (1 : Fin 2) ∈ [(0 : Fin 2)]; decide), Nat.zero_add]
    rfl

/-- The start indices at an index. -/
theorem starts_apply (v : IVec S4x256x128 32) (d : Fin 4) (k : Fin 256) (q : Fin 128) :
    broadcastInDim S4x256x128x1 ![0, 1, 2] bcast_S4x256x128_S4x256x128x1_0_1_2 v (ix4 d k q 0) = v (ix3 d k q) := by
  unfold broadcastInDim
  refine congrArg v (funext fun a => Fin.ext ?_)
  match a with
  | ⟨0, _⟩ => rfl
  | ⟨1, _⟩ => rfl
  | ⟨2, _⟩ => rfl

/-- The gathered tiles, transposed, at an index. -/
theorem moved_apply (x : FVec Ideal S32x8 .f32) (v : IVec S4x256x128 32) (d : Fin 4) (h : Fin 8) (k : Fin 256) (q : Fin 128) :
    transpose S4x8x256x128 [0, 3, 1, 2] (Host.gather gather_S32x8_S4x256x128x1_S4x256x128x8_3_0_n_n_0_3_18 x
      (broadcastInDim S4x256x128x1 ![0, 1, 2] bcast_S4x256x128_S4x256x128x1_0_1_2 v)) transposes_S4x256x128x8_S4x8x256x128_0_3_1_2 (ix4 d h k q)
      = x (ix2 ⟨min (v (ix3 d k q)).toInt.toNat 31, by omega⟩ h) := by
  refine (transpose_apply _ _ _ _ (ix4 d k q h) fun b => ?_).trans ?_
  · match b with
    | ⟨0, _⟩ => rfl
    | ⟨1, _⟩ => rfl
    | ⟨2, _⟩ => rfl
    | ⟨3, _⟩ => rfl
  · rw [gather_apply]
    exact congrArg (fun r => x (ix2 r h)) (Fin.ext (congrArg (fun w : BitVec 32 => min w.toInt.toNat 31) (starts_apply v d k q)))

/-- The reference's term at an index. -/
theorem term_apply (x : FVec Ideal S32x8 .f32) (d : Fin 4) (h : Fin 8) (k : Fin 256) (q : Fin 128) :
    term x (ix4 d h k q) = x (ix2 ⟨(bucketOf counted (relPos d.val k.val q.val)).toNat, (bucket_eq d.val k.val q.val d.isLt k.isLt q.isLt).2⟩ h) := by
  obtain ⟨e, hlt⟩ := bucket_eq d.val k.val q.val d.isLt k.isLt q.isLt
  have hb := bucketT_apply d k q
  rw [e] at hb
  refine (moved_apply x _ d h k q).trans (congrArg (fun r => x (ix2 r h)) (Fin.ext ?_))
  have key := wrap_eq _ hlt
  rw [← hb] at key
  exact key.trans (congrArg BitVec.toNat hb)

/-- The reference's run leaves its arguments alone; it declares no semaphore. -/
theorem frame_ref : Cert.quiescent_BiasRIdeal := fun m ρ _ =>
  (θ_run Cert.BiasRIdeal.defs _ _).mono (fun r h => ⟨fun c => (h c).2, sem_eq_zero_of_no_sems (by decide) r.2⟩)
    (Cert.BiasRIdeal.Value.run m ρ)

end Cert.Proof.Bias

end
-- ==== Proof.BiasValue.lean ====
/-
  The bias tiles the kernel stores, tile by tile, and the equation with the reference.
-/
module

public import proofs.«01_k».proof.Proof.Gen.BiasKIdeal.Value
public import proofs.«01_k».proof.Proof.BiasRef

@[expose] public section

set_option maxRecDepth 65536

noncomputable section

namespace Cert.Proof.Bias

open Idealize.ShloMosaic Idealize.ShloMosaic.TcCoe Idealize.SL.Sem
open Cert.BiasKIdeal Cert.BiasKIdeal.Gen

/-- A tile's relative positions: the row less the column, moved by a distance. -/
def moved (v : BitVec 32) : IVec S256x128 32 :=
  addi (subi (iota .tc S256x128 32 [0] iota_S256x128_d0_w32) (iota .tc S256x128 32 [1] iota_S256x128_d1_w32)) (broadcast S256x128 v)

/-- One threshold's contribution, everywhere. -/
def stepV (n : IVec S256x128 32) (thr : BitVec 32) : IVec S256x128 32 :=
  select (cmpi .sge n (broadcast S256x128 thr)) (broadcast S256x128 1#32) (broadcast S256x128 0#32)

/-- The kernel's buckets of a tile's positions. -/
def bucketV (rel : IVec S256x128 32) : IVec S256x128 32 :=
  addi (select (cmpi .sgt rel (broadcast S256x128 0#32)) (broadcast S256x128 16#32) (broadcast S256x128 0#32))
    (select (cmpi .slt (absi rel) (broadcast S256x128 8#32)) (absi rel)
      (minsi (addi (addi (addi (addi (addi (addi (addi (broadcast S256x128 8#32) (stepV (absi rel) 12#32)) (stepV (absi rel) 16#32))
        (stepV (absi rel) 23#32)) (stepV (absi rel) 32#32)) (stepV (absi rel) 46#32)) (stepV (absi rel) 64#32)) (stepV (absi rel) 91#32))
        (broadcast S256x128 15#32)))

/-- The words picked by a tile's buckets, over the first `n` rows of a table's column. -/
def pickV (b : IVec S256x128 32) (w : ℕ → Ideal .f32) : ℕ → FVec Ideal S256x128 .f32
  | 0 => broadcast S256x128 (Scalar.ofBits .f32 0x00000000#32)
  | n + 1 => select (cmpi .eq b (broadcast S256x128 (BitVec.ofNat 32 n))) (broadcast S256x128 (w n)) (pickV b w n)

theorem inb_word (r : ℕ) (h : Fin 8) : ∀ a, (![r % 32, h.val] : Fin 2 → ℕ) a + S1x1.size a ≤ S32x8.size a :=
  Fin.forall_fin_two.mpr ⟨(by show r % 32 + 1 ≤ 32; omega), (by show h.val + 1 ≤ 8; omega)⟩

theorem inb_tile (d : Fin 4) (h : Fin 8) : ∀ a, (![d.val, h.val, 0, 0] : Fin 4 → ℕ) a + S1x1x256x128.size a ≤ S4x8x256x128.size a :=
  Fin.forall_fin_succ.mpr ⟨(by show d.val + 1 ≤ 4; omega), Fin.forall_fin_succ.mpr ⟨(by show h.val + 1 ≤ 8; omega),
    Fin.forall_fin_two.mpr ⟨Nat.le_refl 256, Nat.le_refl 128⟩⟩⟩

section Run

variable (c : Dev nD) (a0 : Memref sig .tc .smem S32x8 .f32) (h0 : a0.IsWhole) (a1 : Memref sig .tc .vmem S4x8x256x128 .f32) (h1 : a1.IsWhole)
  (x0 : Vec Ideal S32x8 .f32)

/-- The table's word at row `r`, column `h`, as the body reads it. -/
def word (h : Fin 8) (r : ℕ) : Ideal .f32 :=
  a0.view.readAt (Elt Ideal) (Rect.unit (s := S32x8) ![r % 32, h.val] S1x1.size (inb_word r h)).toLoadRect (h0.unread x0) (Shape.Idx.first (Nat.lt_of_lt_of_eq Nat.one_pos numel1_S1x1.symm))

/-- One tile's store. -/
def tileStore (d : Fin 4) (v : IVec S256x128 32) (h : Fin 8) : View.Piece (Elt Ideal) S4x8x256x128 .f32 :=
  ⟨Rect.unit (s := S4x8x256x128) ![d.val, h.val, 0, 0] S1x1x256x128.size (inb_tile d h),
    shapeCast S1x1x256x128 (pickV (bucketV v) (word a0 h0 x0 h) 32) shapeCasts_S256x128_S1x1x256x128⟩

/-- One distance's stores, the last first, before those of the distances already stored. -/
def headStores (d : Fin 4) (v : IVec S256x128 32) (L : List (View.Piece (Elt Ideal) S4x8x256x128 .f32)) :
    List (View.Piece (Elt Ideal) S4x8x256x128 .f32) :=
  tileStore a0 h0 x0 d v 7 :: tileStore a0 h0 x0 d v 6 :: tileStore a0 h0 x0 d v 5 :: tileStore a0 h0 x0 d v 4 ::
    tileStore a0 h0 x0 d v 3 :: tileStore a0 h0 x0 d v 2 :: tileStore a0 h0 x0 d v 1 :: tileStore a0 h0 x0 d v 0 :: L

/-- All the stores, the last first. -/
def stores : List (View.Piece (Elt Ideal) S4x8x256x128 .f32) :=
  headStores a0 h0 x0 3 (moved 0#32) (headStores a0 h0 x0 2 (moved 4294967168#32) (headStores a0 h0 x0 1 (moved 4294967040#32)
    (headStores a0 h0 x0 0 (moved 4294966912#32) [])))

set_option maxHeartbeats 0 in
/-- The run's stores are these. -/
theorem run_stores : (kernelRun0_A (F := Ideal) c a0 h0 a1 h1 x0).1 = stores a0 h0 x0 := rfl

/-- The word the body reads is the table's. -/
theorem word_eq (h : Fin 8) (r : ℕ) (hr : r < 32) : word a0 h0 x0 h r = x0 (ix2 ⟨r, hr⟩ h) := by
  show View.ld (Val := Elt Ideal) (e' := .f32) (View.read (Elt Ideal) a0.view (h0.unread x0))
    (Rect.unit (s := S32x8) ![r % 32, h.val] S1x1.size (inb_word r h)) (Shape.Idx.first (Nat.lt_of_lt_of_eq Nat.one_pos numel1_S1x1.symm)) = _
  rw [Memref.IsWhole.read_unread]
  generalize (Shape.Idx.first (Nat.lt_of_lt_of_eq Nat.one_pos numel1_S1x1.symm) : S1x1.Idx) = z
  have z0 : (z 0).val < 1 := (z 0).isLt
  have z1 : (z 1).val < 1 := (z 1).isLt
  exact View.ld_unit_apply_of (Val := Elt Ideal) (e := .f32) x0 _ _ _ z (ix2 ⟨r, hr⟩ h)
    (Fin.forall_fin_two.mpr ⟨(by show r = r % 32 + (z 0).val; omega), (by show h.val = h.val + (z 1).val; omega)⟩)

end Run

/-- A tile's relative position, at an index. -/
theorem moved_at (d : Fin 4) (v : BitVec 32) (hv : v = IntOp.muli (IntOp.subi (BitVec.ofNat 32 d.val) 3#32) 128#32) (k : Fin 256) (q : Fin 128) :
    moved v (ix2 k q) = relPos d.val k.val q.val := by
  subst hv
  pointwise [moved]
  rfl

/-- A tile's bucket, at an index. -/
theorem bucketV_at (rel : IVec S256x128 32) (y : S256x128.Idx) : bucketV rel y = bucketOf counted (rel y) := rfl

/-- The word picked, at an index. -/
theorem pickV_at (b : IVec S256x128 32) (w : ℕ → Ideal .f32) (y : S256x128.Idx) :
    ∀ n, pickV b w n y = pick (Scalar.ofBits (F := Ideal) .f32 0x00000000#32) w (b y) n
  | 0 => rfl
  | n + 1 => by
    show Scalar.select (IntOp.cmpi .eq (b y) (BitVec.ofNat 32 n)) (w n) (pickV b w n y) = _
    rw [pickV_at b w y n]
    rfl

/-- The tile stored, at an index, is the reference's term there. -/
theorem tile_at (a0 : Memref sig .tc .smem S32x8 .f32) (h0 : a0.IsWhole) (x0 : Vec Ideal S32x8 .f32) (d : Fin 4) (v : BitVec 32)
    (hv : v = IntOp.muli (IntOp.subi (BitVec.ofNat 32 d.val) 3#32) 128#32) (h : Fin 8) (k : Fin 256) (q : Fin 128) :
    pickV (bucketV (moved v)) (word a0 h0 x0 h) 32 (ix2 k q) = term x0 (ix4 d h k q) := by
  have hlt := (bucket_eq d.val k.val q.val d.isLt k.isLt q.isLt).2
  rw [pickV_at, bucketV_at, moved_at d v hv k q, pick_eq _ _ _ _ (Nat.le_refl 32) hlt, word_eq _ _ _ _ _ hlt, term_apply]

/-- Each store's tile is the reference's term on the store's rectangle. -/
theorem piece (a0 : Memref sig .tc .smem S32x8 .f32) (h0 : a0.IsWhole) (x0 : Vec Ideal S32x8 .f32) (d : Fin 4) (v : BitVec 32)
    (hv : v = IntOp.muli (IntOp.subi (BitVec.ofNat 32 d.val) 3#32) 128#32) (h : Fin 8) (y : S1x1x256x128.Idx) :
    shapeCast S1x1x256x128 (pickV (bucketV (moved v)) (word a0 h0 x0 h) 32) shapeCasts_S256x128_S1x1x256x128 y
      = term x0 ((Rect.unit (s := S4x8x256x128) ![d.val, h.val, 0, 0] S1x1x256x128.size (inb_tile d h)).emb y) := by
  have hy0 : (y 0).val < 1 := (y 0).isLt
  have hy1 : (y 1).val < 1 := (y 1).isLt
  have e : (Rect.unit (s := S4x8x256x128) ![d.val, h.val, 0, 0] S1x1x256x128.size (inb_tile d h)).emb y = ix4 d h (y 2) (y 3) := by
    refine funext fun a => Fin.ext ?_
    match a with
    | ⟨0, _⟩ => show d.val + 1 * (y 0).val = d.val; omega
    | ⟨1, _⟩ => show h.val + 1 * (y 1).val = h.val; omega
    | ⟨2, _⟩ => show 0 + 1 * (y 2).val = (y 2).val; omega
    | ⟨3, _⟩ => show 0 + 1 * (y 3).val = (y 3).val; omega
  rw [e]
  refine Eq.trans ?_ (tile_at a0 h0 x0 d v hv h (y 2) (y 3))
  generalize pickV (bucketV (moved v)) (word a0 h0 x0 h) 32 = f
  pointwise []

/-- Every index lies in the tile of its distance and head. -/
theorem mem_tile (y : S4x8x256x128.Idx) : y ∈ (Rect.unit (s := S4x8x256x128) ![(y 0).val, (y 1).val, 0, 0] S1x1x256x128.size (inb_tile (y 0) (y 1))).set := by
  have h2 : (y 2).val < 256 := (y 2).isLt
  have h3 : (y 3).val < 128 := (y 3).isLt
  refine Rect.mem_set_unit.mpr fun a => ?_
  match a with
  | ⟨0, _⟩ => show (y 0).val ≤ (y 0).val ∧ (y 0).val < (y 0).val + 1; omega
  | ⟨1, _⟩ => show (y 1).val ≤ (y 1).val ∧ (y 1).val < (y 1).val + 1; omega
  | ⟨2, _⟩ => show 0 ≤ (y 2).val ∧ (y 2).val < 0 + 256; omega
  | ⟨3, _⟩ => show 0 ≤ (y 3).val ∧ (y 3).val < 0 + 128; omega

/-- The distance a tile's positions are moved by. -/
def dist (d : Fin 4) : BitVec 32 := ![4294966912#32, 4294967040#32, 4294967168#32, 0#32] d

theorem dist_eq : ∀ d : Fin 4, dist d = IntOp.muli (IntOp.subi (BitVec.ofNat 32 d.val) 3#32) 128#32 := by decide +kernel

/-- The stores are the tiles, one for each distance and head. -/
theorem mem_stores (a0 : Memref sig .tc .smem S32x8 .f32) (h0 : a0.IsWhole) (x0 : Vec Ideal S32x8 .f32) (p : View.Piece (Elt Ideal) S4x8x256x128 .f32) :
    p ∈ stores a0 h0 x0 ↔ ∃ d h, p = tileStore a0 h0 x0 d (moved (dist d)) h := by
  have key : ∀ (d : Fin 4) (v : IVec S256x128 32) (L : List (View.Piece (Elt Ideal) S4x8x256x128 .f32)),
      p ∈ headStores a0 h0 x0 d v L ↔ (∃ h, p = tileStore a0 h0 x0 d v h) ∨ p ∈ L := by
    intro d v L
    have e : (∃ h, p = tileStore a0 h0 x0 d v h) ↔ p ∈ [tileStore a0 h0 x0 d v 7, tileStore a0 h0 x0 d v 6, tileStore a0 h0 x0 d v 5,
        tileStore a0 h0 x0 d v 4, tileStore a0 h0 x0 d v 3, tileStore a0 h0 x0 d v 2, tileStore a0 h0 x0 d v 1, tileStore a0 h0 x0 d v 0] := by
      constructor
      · rintro ⟨h, rfl⟩
        fin_cases h <;> simp
      · intro hp
        simp only [List.mem_cons, List.not_mem_nil, or_false] at hp
        obtain hp | hp | hp | hp | hp | hp | hp | hp := hp <;> exact ⟨_, hp⟩
    rw [e, ← List.mem_append]
    rfl
  rw [stores, key, key, key, key]
  constructor
  · rintro (⟨h, hp⟩ | ⟨h, hp⟩ | ⟨h, hp⟩ | ⟨h, hp⟩ | hp)
    · exact ⟨3, h, hp⟩
    · exact ⟨2, h, hp⟩
    · exact ⟨1, h, hp⟩
    · exact ⟨0, h, hp⟩
    · exact absurd hp List.not_mem_nil
  · rintro ⟨d, h, hp⟩
    match d with
    | ⟨0, _⟩ => exact .inr (.inr (.inr (.inl ⟨h, hp⟩)))
    | ⟨1, _⟩ => exact .inr (.inr (.inl ⟨h, hp⟩))
    | ⟨2, _⟩ => exact .inr (.inl ⟨h, hp⟩)
    | ⟨3, _⟩ => exact .inl ⟨h, hp⟩

/-- The kernel's block is the reference's term of the table. -/
theorem block (c : Dev nD) (a0 : Memref sig .tc .smem S32x8 .f32) (h0 : a0.IsWhole) (a1 : Memref sig .tc .vmem S4x8x256x128 .f32) (h1 : a1.IsWhole)
    (x0 : Vec Ideal S32x8 .f32) (y : S4x8x256x128.Idx) : out0_A_1 (F := Ideal) c a0 h0 a1 h1 x0 y = term x0 y := by
  unfold out0_A_1
  rw [View.read_writes_junk_eq_canon, run_stores]
  refine View.canon_apply_of_pieces (Val := Elt Ideal) (e := .f32) (term x0) (stores a0 h0 x0) (fun p hp => ?_) y
    ⟨tileStore a0 h0 x0 (y 0) (moved (dist (y 0))) (y 1), (mem_stores a0 h0 x0 _).mpr ⟨y 0, y 1, rfl⟩, mem_tile y⟩
  obtain ⟨d, h, rfl⟩ := (mem_stores a0 h0 x0 p).mp hp
  exact piece a0 h0 x0 d (dist d) (dist_eq d) h

variable (m : (ℓ : Loc nD τ sig) → Buf (Elt Ideal) ℓ)

/-- The windows' block indices at the one point. -/
theorem idx : ∀ t : Fin cfg0.N, win0_0.index t = ![0, 0] ∧ win0_1.index t = ![0, 0, 0, 0] :=
  (by decide +kernel : ∀ t : Fin grid0.N, _)

/-- The table's block is the table. -/
theorem table (c : Dev nD) (t : Fin cfg0.N) : (iblk m c 0 t : S32x8.Idx → EReal) = m ((c : Thread nD τ).loc main_arg0) := by
  funext y
  blk_point [iblk, V, idx t]

/-- The result array after the run is the reference's term of the table. -/
theorem final (c : Dev nD) : (dats m 0 c).arrAt 1 (cfgs 0).N = term (m ((c : Thread nD τ).loc main_arg0)) := by
  refine (dats m 0 c).arrAt_eq_of_covers 1 _ (by decide +kernel) fun t _ y => ?_
  blk_simp
  rw [after0_1]
  unfold outsAt0
  rw [table m c t]
  refine (block c _ _ _ _ _ y).trans (congrArg _ (funext fun a => Fin.ext ?_))
  match a with
  | ⟨0, _⟩ => blk_simp [idx t]
  | ⟨1, _⟩ => blk_simp [idx t]
  | ⟨2, _⟩ => blk_simp [idx t]
  | ⟨3, _⟩ => blk_simp [idx t]

/-- The kernel's tiles and the reference's are the same function of the table over the extended reals. -/
theorem algebraic : Cert.algebraic_BiasKIdeal_BiasRIdeal := by
  intro m g m' g' _ h
  refine ⟨fun c => term (m ((c : Thread nD τ).loc main_arg0)), ?_, ?_⟩
  · exact (θ_run _ _ _).mono (fun r hr c => ⟨(hr c).1.trans (final m c), (hr c).2⟩) (Cert.BiasKIdeal.Value.run_blocks m g)
  · refine (θ_run _ _ _).mono (fun r hr c => ⟨(hr c).1.trans ?_, (hr c).2⟩) (Cert.BiasRIdeal.Value.run m' g')
    exact (res_eq m' c).trans (congrArg term (h c))

end Cert.Proof.Bias

end
-- ==== Proof.GdnBody.lean ====
/-
  The gated-delta body keeps what it owns: its two counted loops and its straight-line stretches are gone through by the
  lemmas of Keep.lean.
-/
module

public import proofs.«01_k».proof.Proof.Keep
public import proofs.«01_k».proof.Proof.Gen.GdnK.Skeleton

@[expose] public section

noncomputable section

namespace Cert.Proof.Gdn

open Idealize.ShloMosaic Idealize.ShloMosaic.TcCoe Cert.GdnK Cert.GdnK.Gen Cert.Proof.Keep
open Idealize.SL Idealize.SL.RA Idealize.SL.BI Idealize.SL.Sem

variable {F : FTy → Type} [FloatOps F]

local notation "𝕄" => MT nD τ sig Unit (Elt F) ℕ (UR sig nD τ) ℕ

set_option maxHeartbeats 0 in
set_option maxRecDepth 65536 in
/-- The body, at any grid point, from an assertion owning each of its 20 memrefs, runs without a fault and ends with the
    assertion again. -/
theorem keeps_body (c : Dev nD) (O : sProp 𝕄) (i : grid0.Coords) (arg2 : Memref sig .tc .smem S8x2 .f32) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S4x256 .f32) (harg7 : arg7.IsWhole) (arg8 : Memref sig .tc .vmem S4x256 .f32) (harg8 : arg8.IsWhole) (arg9 : Memref sig .tc .vmem S4x256 .f32) (harg9 : arg9.IsWhole) (arg10 : Memref sig .tc .vmem S1x2x32x64 .f32) (harg10 : arg10.IsWhole) (arg11 : Memref sig .tc .vmem S1x2x32x64 .f32) (harg11 : arg11.IsWhole) (arg12 : Memref sig .tc .vmem S1x128 .f32) (harg12 : arg12.IsWhole) (arg13 : Memref sig .tc .vmem S1x2048x256 .bf16) (harg13 : arg13.IsWhole) (arg14 : Memref sig .tc .vmem S2056x128 .f32) (harg14 : arg14.IsWhole) (arg15 : Memref sig .tc .vmem S2x2048x128 .f32) (harg15 : arg15.IsWhole) (arg16 : Memref sig .tc .vmem S2x2048x128 .f32) (harg16 : arg16.IsWhole) (arg17 : Memref sig .tc .vmem S2x2048x128 .f32) (harg17 : arg17.IsWhole) (arg18 : Memref sig .tc .vmem S2x32x64 .f32) (harg18 : arg18.IsWhole) (arg19 : Memref sig .tc .vmem S2x32x64 .f32) (harg19 : arg19.IsWhole) (arg20 : Memref sig .tc .vmem S2x32x192x128 .bf16) (harg20 : arg20.IsWhole) (arg21 : Memref sig .tc .vmem S2x32x128x128 .f32) (harg21 : arg21.IsWhole)
    (o2 : Has (U := UR sig nD τ) c O arg2) (o3 : Has (U := UR sig nD τ) c O arg3) (o4 : Has (U := UR sig nD τ) c O arg4) (o5 : Has (U := UR sig nD τ) c O arg5) (o6 : Has (U := UR sig nD τ) c O arg6) (o7 : Has (U := UR sig nD τ) c O arg7) (o8 : Has (U := UR sig nD τ) c O arg8) (o9 : Has (U := UR sig nD τ) c O arg9) (o10 : Has (U := UR sig nD τ) c O arg10) (o11 : Has (U := UR sig nD τ) c O arg11) (o12 : Has (U := UR sig nD τ) c O arg12) (o13 : Has (U := UR sig nD τ) c O arg13) (o14 : Has (U := UR sig nD τ) c O arg14) (o15 : Has (U := UR sig nD τ) c O arg15) (o16 : Has (U := UR sig nD τ) c O arg16) (o17 : Has (U := UR sig nD τ) c O arg17) (o18 : Has (U := UR sig nD τ) c O arg18) (o19 : Has (U := UR sig nD τ) c O arg19) (o20 : Has (U := UR sig nD τ) c O arg20) (o21 : Has (U := UR sig nD τ) c O arg21) :
    Keeps (U := UR sig nD τ) (defs₀ (F := F)) c O (cc0__gdn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [cc0__gdn_kernel_eq_skeleton]
  unfold cc0__gdn_kernel_skel
  repeat' first
    | with_reducible exact keeps_pure _
    | with_reducible exact keeps_load (by assumption)
    | with_reducible exact keeps_store (by assumption)
    | with_reducible refine keeps_for fun k a => ?_
    | with_reducible refine keeps_bind ?_ fun x => ?_
    | split
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    | (rw [k0_part54_eq_skeleton]; unfold k0_part54_skel)
    | (rw [k0_part55_eq_skeleton]; unfold k0_part55_skel)
    | (rw [k0_part56_eq_skeleton]; unfold k0_part56_skel)
    | (rw [k0_part57_eq_skeleton]; unfold k0_part57_skel)
    | (rw [k0_part58_eq_skeleton]; unfold k0_part58_skel)
    | (rw [k0_part59_eq_skeleton]; unfold k0_part59_skel)
    | (rw [k0_part60_eq_skeleton]; unfold k0_part60_skel)
    | (rw [k0_part61_eq_skeleton]; unfold k0_part61_skel)
    | (rw [k0_part62_eq_skeleton]; unfold k0_part62_skel)
    | (rw [k0_part63_eq_skeleton]; unfold k0_part63_skel)
    | (rw [k0_part64_eq_skeleton]; unfold k0_part64_skel)
    | (rw [k0_part65_eq_skeleton]; unfold k0_part65_skel)
    | (rw [k0_part66_eq_skeleton]; unfold k0_part66_skel)
    | (rw [k0_part67_eq_skeleton]; unfold k0_part67_skel)
    | (rw [k0_part68_eq_skeleton]; unfold k0_part68_skel)
    | (rw [k0_part69_eq_skeleton]; unfold k0_part69_skel)
    | (rw [k0_part70_eq_skeleton]; unfold k0_part70_skel)
    | (rw [k0_part71_eq_skeleton]; unfold k0_part71_skel)
    | (rw [k0_part72_eq_skeleton]; unfold k0_part72_skel)
    | (rw [k0_part73_eq_skeleton]; unfold k0_part73_skel)
    | (rw [k0_part74_eq_skeleton]; unfold k0_part74_skel)
    | (rw [k0_part75_eq_skeleton]; unfold k0_part75_skel)
    | (rw [k0_part76_eq_skeleton]; unfold k0_part76_skel)
    | (rw [k0_part77_eq_skeleton]; unfold k0_part77_skel)
    | (rw [k0_part78_eq_skeleton]; unfold k0_part78_skel)
    | (rw [k0_part79_eq_skeleton]; unfold k0_part79_skel)
    | (rw [k0_part80_eq_skeleton]; unfold k0_part80_skel)
    | (rw [k0_part81_eq_skeleton]; unfold k0_part81_skel)
    | (rw [k0_part82_eq_skeleton]; unfold k0_part82_skel)
    | (rw [k0_part83_eq_skeleton]; unfold k0_part83_skel)
    | (rw [k0_part84_eq_skeleton]; unfold k0_part84_skel)
    | (rw [k0_part85_eq_skeleton]; unfold k0_part85_skel)
    | (rw [k0_part86_eq_skeleton]; unfold k0_part86_skel)
    | (rw [k0_part87_eq_skeleton]; unfold k0_part87_skel)
    | (rw [k0_part88_eq_skeleton]; unfold k0_part88_skel)
    | (rw [k0_part89_eq_skeleton]; unfold k0_part89_skel)
    | (rw [k0_part90_eq_skeleton]; unfold k0_part90_skel)
    | (rw [k0_part91_eq_skeleton]; unfold k0_part91_skel)
    | (rw [k0_part92_eq_skeleton]; unfold k0_part92_skel)
    | (rw [k0_part93_eq_skeleton]; unfold k0_part93_skel)
    | (rw [k0_part94_eq_skeleton]; unfold k0_part94_skel)
    | (rw [k0_part95_eq_skeleton]; unfold k0_part95_skel)
    | (rw [k0_part96_eq_skeleton]; unfold k0_part96_skel)
    | (rw [k0_part97_eq_skeleton]; unfold k0_part97_skel)
    | (rw [k0_part98_eq_skeleton]; unfold k0_part98_skel)
    | (rw [k0_part99_eq_skeleton]; unfold k0_part99_skel)
    | (rw [k0_part100_eq_skeleton]; unfold k0_part100_skel)
    | (rw [k0_part101_eq_skeleton]; unfold k0_part101_skel)
    | (rw [k0_part102_eq_skeleton]; unfold k0_part102_skel)
    | (rw [k0_part103_eq_skeleton]; unfold k0_part103_skel)
    | (rw [k0_part104_eq_skeleton]; unfold k0_part104_skel)
    | (rw [k0_part105_eq_skeleton]; unfold k0_part105_skel)
    | (rw [k0_part106_eq_skeleton]; unfold k0_part106_skel)
    | (rw [k0_part107_eq_skeleton]; unfold k0_part107_skel)
    | (rw [k0_part108_eq_skeleton]; unfold k0_part108_skel)
    | (rw [k0_part109_eq_skeleton]; unfold k0_part109_skel)
    | (rw [k0_part110_eq_skeleton]; unfold k0_part110_skel)
    | (rw [k0_part111_eq_skeleton]; unfold k0_part111_skel)
    | (rw [k0_part112_eq_skeleton]; unfold k0_part112_skel)
    | (rw [k0_part113_eq_skeleton]; unfold k0_part113_skel)
    | (rw [k0_part114_eq_skeleton]; unfold k0_part114_skel)
    | (rw [k0_part115_eq_skeleton]; unfold k0_part115_skel)
    | (rw [k0_part116_eq_skeleton]; unfold k0_part116_skel)
    | (rw [k0_part117_eq_skeleton]; unfold k0_part117_skel)
    | (rw [k0_part118_eq_skeleton]; unfold k0_part118_skel)
    | (rw [k0_part119_eq_skeleton]; unfold k0_part119_skel)
    | (rw [k0_part120_eq_skeleton]; unfold k0_part120_skel)
    | (rw [k0_part121_eq_skeleton]; unfold k0_part121_skel)
    | unfold k0_t1_body
    | unfold k0_t2_body
    | exact keeps_smem (by assumption)

end Cert.Proof.Gdn

end
-- ==== Proof.GdnFrame.lean ====
/-
  The frame of the gated-delta call, for any float arithmetic: its body keeps the staging buffers, the eight scratch buffers
  and the generator register it is handed, whatever they hold, so the launch runs to its end and leaves the argument
  arrays alone.
-/
module

public import proofs.«01_k».proof.Proof.GdnBody
public import proofs.«01_k».proof.Proof.Gen.GdnK.Frame
public import proofs.«01_k».proof.Defs

@[expose] public section

noncomputable section

namespace Cert.Proof.Gdn

open Idealize.ShloMosaic Idealize.ShloMosaic.TcCoe Cert.GdnK Cert.GdnK.Gen Cert.Proof.Keep
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's data: each window's array as the region finds it, and nothing said of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- What the body is handed at point `t`, its staging buffers at any contents. -/
def held (c : Dev nD) (t : Fin cfg0.N) : sProp 𝕄 :=
  iprop((rdat m c).Φ t.castSucc ∗ (rdat m c).owesAt () t.castSucc
    ∗ (∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X) ∗ (∃ X, ⌜True⌝ ∗ owns (c : Thread nD τ) (st0_9 t) fullShare X) ∗ (∃ X, ⌜True⌝ ∗ owns (c : Thread nD τ) (st0_10 t) fullShare X) ∗ (∃ X, ⌜True⌝ ∗ owns (c : Thread nD τ) (st0_11 t) fullShare X))

/-- The `k`-th scratch buffer, owned by the class invariant, is owned by what the body is handed. -/
theorem has_scratch (c : Dev nD) (t : Fin cfg0.N) (b : Ref sig .tc)
    (h : Has (U := UR sig nD τ) c (Pipeline.scopedRest (τ := τ) (Ix := Unit) (Name := ℕ) (U := UR sig nD τ) (Lvl := ℕ) (Val := Elt F) spec0 c) (Memref.whole b)) :
    Has (U := UR sig nD τ) c (held m c t) (Memref.whole b) :=
  has_left (show Has (U := UR sig nD τ) c (Pipeline.ΦA spec0 c) (Memref.whole b) from has_left h)

/-- The body at point `t` keeps what it is handed. -/
theorem keeps_point (c : Dev nD) (t : Fin cfg0.N) :
    Keeps (U := UR sig nD τ) (defs₀ (F := F)) c (held m c t) (bodyAt0 t) := by
  refine keeps_body c (held m c t) _ _ _ _ _ _ _ _ _ _ _ _ _ _ _ _ _ _ _ _ _ _ _ _ _ _ _ _ _ _ _ _ _ _ _ _ _ _ _ _ _
    (has_right (has_right (has_left (has_any (st0_0 t)))))
    (has_right (has_right (has_right (has_left (has_any (st0_1 t))))))
    (has_right (has_right (has_right (has_right (has_left (has_any (st0_2 t)))))))
    (has_right (has_right (has_right (has_right (has_right (has_left (has_any (st0_3 t))))))))
    (has_right (has_right (has_right (has_right (has_right (has_right (has_left (has_any (st0_4 t)))))))))
    (has_right (has_right (has_right (has_right (has_right (has_right (has_right (has_left (has_any (st0_5 t))))))))))
    (has_right (has_right (has_right (has_right (has_right (has_right (has_right (has_right (has_left (has_any (st0_6 t)))))))))))
    (has_right (has_right (has_right (has_right (has_right (has_right (has_right (has_right (has_right (has_left (has_any (st0_7 t))))))))))))
    (has_right (has_right (has_right (has_right (has_right (has_right (has_right (has_right (has_right (has_right (has_left (has_any (st0_8 t)))))))))))))
    (has_right (has_right (has_right (has_right (has_right (has_right (has_right (has_right (has_right (has_right (has_right (has_left (has_any (st0_9 t))))))))))))))
    (has_right (has_right (has_right (has_right (has_right (has_right (has_right (has_right (has_right (has_right (has_right (has_right (has_left (has_any (st0_10 t)))))))))))))))
    (has_right (has_right (has_right (has_right (has_right (has_right (has_right (has_right (has_right (has_right (has_right (has_right (has_right (has_any (st0_11 t)))))))))))))))
    ?_ ?_ ?_ ?_ ?_ ?_ ?_ ?_
  all_goals refine has_scratch m c t _ ?_; rw [scopedRest0_eq]
  · exact has_left (has_whole cc0_scratch0)
  · exact has_right (has_left (has_whole cc0_scratch1))
  · exact has_right (has_right (has_left (has_whole cc0_scratch2)))
  · exact has_right (has_right (has_right (has_left (has_whole cc0_scratch3))))
  · exact has_right (has_right (has_right (has_right (has_left (has_whole cc0_scratch4)))))
  · exact has_right (has_right (has_right (has_right (has_right (has_left (has_whole cc0_scratch5))))))
  · exact has_right (has_right (has_right (has_right (has_right (has_right (has_left (has_whole cc0_scratch6)))))))
  · exact has_right (has_right (has_right (has_right (has_right (has_right (has_right (has_whole cc0_scratch7)))))))

/-- The body called by the pipeline at point `t` is the body at the current staging buffers. -/
theorem row (t : Fin cfg0.N) : defs₀ (F := F) .tc cfg0.body (cfg0.bodyArgs t (cfg0.slots t)) = bodyAt0 t := by
  unfold defs₀; rw [Defs.onTc_tc]

set_option maxRecDepth 65536 in
/-- The body's obligation at every point, of any contents the staging buffers may hold. -/
theorem obligation (c : Dev nD) : (rdat m c).BodyObligation (defs₀ (F := F)) Variants.none () Set.univ := fun t Y _ => by
  rw [bigSep_W0, bigSep_W0, row]
  refine BIBase.Entails.trans ?_ (keeps_point m c t)
  unfold held
  iintro ⟨H, Ho, H0, H1, H2, H3, H4, H5, H6, H7, H8, H9, H10, H11⟩
  isplitl [H]; · iexact H
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  isplitl [H4]
  · iexists (Y 4); isplitr; · ipureintro; trivial
    iexact H4
  isplitl [H5]
  · iexists (Y 5); isplitr; · ipureintro; trivial
    iexact H5
  isplitl [H6]
  · iexists (Y 6); isplitr; · ipureintro; trivial
    iexact H6
  isplitl [H7]
  · iexists (Y 7); isplitr; · ipureintro; trivial
    iexact H7
  isplitl [H8]
  · iexists (Y 8); isplitr; · ipureintro; trivial
    iexact H8
  isplitl [H9]
  · iexists (Y 9); isplitr; · ipureintro; trivial
    iexact H9
  isplitl [H10]
  · iexists (Y 10); isplitr; · ipureintro; trivial
    iexact H10
  iexists (Y 11); isplitr; · ipureintro; trivial
  iexact H11

set_option backward.isDefEq.respectTransparency.types false in
/-- The launch: from any memory with zero counters it runs to its end without a fault, leaves every argument array as it
    was and every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  RDat.θ_run_frame_track_shared cfgs (0 : Fin 1) launch₀0 defs₀ Variants.none (rdat m) m ρ main
    (hbody := fun c => obligation m c) (hq := fun _ _ _ => rfl) (howed := fun _ _ => rfl) (V := V m)
    (hmain := hmain m Variants.none) (hA := fun _ _ => rfl) (hin := fun _ => .rfl) (hout := fun _ => .rfl) (Q' := _)
    (hQ' := fun r h => ⟨fun c =>
      ⟨(h.1.arr_in c 4 rfl).trans (V_main_arg0 m c),
        ((h.1 c).2 main_arg1 (Pipeline.mem_restRefs_of main_arg1 (by decide) (by decide))).trans (V_main_arg1 m c),
        (h.1.arr_in c 7 rfl).trans (V_main_arg2 m c),
        ((h.1 c).2 main_arg3 (Pipeline.mem_restRefs_of main_arg3 (by decide) (by decide))).trans (V_main_arg3 m c),
        ((h.1 c).2 main_arg4 (Pipeline.mem_restRefs_of main_arg4 (by decide) (by decide))).trans (V_main_arg4 m c),
        ((h.1 c).2 main_arg5 (Pipeline.mem_restRefs_of main_arg5 (by decide) (by decide))).trans (V_main_arg5 m c)⟩, h.2⟩)

/-- The frame of the gated-delta call. -/
theorem frame_gdn : Cert.quiescent_GdnK := fun m ρ _ => run_main (F := Bits) m ρ

end Cert.Proof.Gdn

end
-- ==== Proof.GdnIdeal.lean ====
/-
  The frame of the gated-delta call at the ideal instance: its text is that of the call at the machine's floats, so the one
  run serves it too.
-/
module

public import proofs.«01_k».proof.Proof.GdnFrame
public import proofs.«01_k».proof.Proof.Gen.GdnKIdeal

@[expose] public section

noncomputable section

namespace Cert.Proof.Gdn

open Idealize.ShloMosaic Idealize.ShloMosaic.TcCoe

variable {F : FTy → Type} [FloatOps F]

set_option maxHeartbeats 0 in
set_option maxRecDepth 65536 in
/-- The two printed bodies are one text. -/
theorem body_same : @Cert.GdnK.cc0__gdn_kernel F _ _ = @Cert.GdnKIdeal.cc0__gdn_kernel F _ _ := rfl

set_option maxHeartbeats 0 in
set_option maxRecDepth 65536 in
/-- So the two body tables are one table. -/
theorem table_same : Cert.GdnK.defs₀ (F := F) = Cert.GdnKIdeal.defs₀ (F := F) := by
  refine congrArg (Defs.onTc (nD := Cert.GdnK.nD) (τ := Cert.GdnK.τ) (sig := Cert.GdnK.sig) (Val := Elt F) (Λ := Cert.GdnK.Λ₀)) ?_
  funext l x
  match l, x with
  | ⟨0, _⟩, (t, s) =>
    dsimp only
    rw [body_same]
    rfl

set_option maxRecDepth 65536 in
/-- The body tables with the pipelines' rows added are one as well. -/
theorem defs_same : Cert.GdnK.defs (F := F) = Cert.GdnKIdeal.defs (F := F) :=
  congrArg (Pipeline.defs (Cert.GdnK.pcfgs (F := F))) table_same

set_option maxHeartbeats 4000000 in
set_option maxRecDepth 65536 in
/-- The frame of the gated-delta call over the reals. -/
theorem frame_gdn_ideal : Cert.quiescent_GdnKIdeal := fun m ρ _ => by
  have h := run_main (F := Ideal) m ρ
  rw [defs_same] at h
  exact h

end Cert.Proof.Gdn

end
-- ==== Proof.lean ====
module

public import proofs.«01_k».proof.Defs
public import proofs.«01_k».proof.Proof.Gen.Kernel
public import proofs.«01_k».proof.Proof.Gen.WideK.Frame
public import proofs.«01_k».proof.Proof.Gen.MergeK.Frame
public import proofs.«01_k».proof.Proof.Gen.OutK.Frame
public import proofs.«01_k».proof.Proof.Gen.ConfK.Frame
public import proofs.«01_k».proof.Proof.Gen.NarrowK.Frame
public import proofs.«01_k».proof.Proof.Gen.NormK.Frame
public import proofs.«01_k».proof.Proof.Gen.AdaK.Frame
public import proofs.«01_k».proof.Proof.Gen.NarrowKIdeal.Value
public import proofs.«01_k».proof.Proof.Gen.NormKIdeal.Value
public import proofs.«01_k».proof.Proof.Gen.AdaKIdeal.Value
public import proofs.«01_k».proof.Proof.Gen.NarrowRIdeal.Run
public import proofs.«01_k».proof.Proof.Gen.NormRIdeal.Run
public import proofs.«01_k».proof.Proof.Gen.AdaRIdeal.Run
public import proofs.«01_k».proof.Proof.Gen.WideKIdeal.Value
public import proofs.«01_k».proof.Proof.Gen.MergeKIdeal.Value
public import proofs.«01_k».proof.Proof.Gen.OutKIdeal.Value
public import proofs.«01_k».proof.Proof.Gen.ConfKIdeal.Value
public import proofs.«01_k».proof.Proof.Gen.WideRIdeal.Run
public import proofs.«01_k».proof.Proof.Gen.MergeRIdeal.Run
public import proofs.«01_k».proof.Proof.Gen.OutRIdeal.Run
public import proofs.«01_k».proof.Proof.Gen.ConfRIdeal.Run
public import proofs.«01_k».proof.Proof.Gen.BiasK.Frame
public import proofs.«01_k».proof.Proof.Gen.BiasKIdeal.Value
public import proofs.«01_k».proof.Proof.Gen.BiasRIdeal.Run
public import proofs.«01_k».proof.Proof.Gen.GdnK.Frame
public import proofs.«01_k».proof.Proof.Gen.GdnKIdeal.Frame
public import proofs.«01_k».proof.Proof.DsaFrame
public import proofs.«01_k».proof.Proof.WideValue
public import proofs.«01_k».proof.Proof.MergeValue
public import proofs.«01_k».proof.Proof.OutValue
public import proofs.«01_k».proof.Proof.ConfValue
public import proofs.«01_k».proof.Proof.NarrowValue
public import proofs.«01_k».proof.Proof.NormValue
public import proofs.«01_k».proof.Proof.AdaValue
public import proofs.«01_k».proof.Proof.BiasValue
public import proofs.«01_k».proof.Proof.GdnIdeal

@[expose] public section

noncomputable section

namespace Cert.Proof

open Idealize.ShloMosaic Idealize.SL.Sem

/-- The convolution's reference leaves its arguments alone; it declares no semaphore. -/
theorem frame_conf_ref : Cert.quiescent_ConfRIdeal := fun m ρ _ =>
  (θ_run Cert.ConfRIdeal.defs _ _).mono (fun r h => ⟨fun c => (h c).2, sem_eq_zero_of_no_sems (by decide) r.2⟩)
    (Cert.ConfRIdeal.Value.run m ρ)

/-- All the claims. -/
theorem claim : Cert.Claim :=
  ⟨Cert.Kernel.Gen.facts, Cert.WideK.Gen.facts, Cert.WideKIdeal.Gen.facts, Cert.WideRIdeal.Gen.facts,
    Cert.MergeK.Gen.facts, Cert.MergeKIdeal.Gen.facts, Cert.MergeRIdeal.Gen.facts,
    Cert.OutK.Gen.facts, Cert.OutKIdeal.Gen.facts, Cert.OutRIdeal.Gen.facts,
    Cert.ConfK.Gen.facts, Cert.ConfKIdeal.Gen.facts, Cert.ConfRIdeal.Gen.facts,
    Cert.NarrowK.Gen.facts, Cert.NarrowKIdeal.Gen.facts, Cert.NarrowRIdeal.Gen.facts,
    Cert.NormK.Gen.facts, Cert.NormKIdeal.Gen.facts, Cert.NormRIdeal.Gen.facts,
    Cert.AdaK.Gen.facts, Cert.AdaKIdeal.Gen.facts, Cert.AdaRIdeal.Gen.facts,
    Cert.BiasK.Gen.facts, Cert.BiasKIdeal.Gen.facts, Cert.BiasRIdeal.Gen.facts,
    Cert.GdnK.Gen.facts, Cert.GdnKIdeal.Gen.facts, Ada.facts_finite,
    Dsa.frame_kernel,
    fun m ρ _ => Cert.WideK.Gen.frame m ρ, fun m ρ _ => Cert.WideKIdeal.Gen.frame m ρ, Wide.frame_ref,
    fun m ρ _ => Cert.MergeK.Gen.frame m ρ, fun m ρ _ => Cert.MergeKIdeal.Gen.frame m ρ, Merge.frame_ref,
    fun m ρ _ => Cert.OutK.Gen.frame m ρ, fun m ρ _ => Cert.OutKIdeal.Gen.frame m ρ, Out.frame_ref,
    fun m ρ _ => Cert.ConfK.Gen.frame m ρ, fun m ρ _ => Cert.ConfKIdeal.Gen.frame m ρ, frame_conf_ref,
    fun m ρ _ => Cert.NarrowK.Gen.frame m ρ, fun m ρ _ => Cert.NarrowKIdeal.Gen.frame m ρ, Narrow.frame_ref,
    fun m ρ _ => Cert.NormK.Gen.frame m ρ, fun m ρ _ => Cert.NormKIdeal.Gen.frame m ρ, Norm.frame_ref,
    fun m ρ _ => Cert.AdaK.Gen.frame m ρ, fun m ρ _ => Cert.AdaKIdeal.Gen.frame m ρ, fun m ρ _ => Cert.AdaKIdeal.Gen.frame m ρ,
    Ada.frame_ref, fun m ρ _ => Ada.frame_ref m ρ trivial,
    fun m ρ _ => Cert.BiasK.Gen.frame m ρ, fun m ρ _ => Cert.BiasKIdeal.Gen.frame m ρ, Bias.frame_ref,
    Gdn.frame_gdn, Gdn.frame_gdn_ideal,
    trivial, Wide.algebraic, trivial, Merge.algebraic, trivial, Out.algebraic, trivial, Conf.algebraic,
    trivial, Narrow.algebraic, trivial, Norm.algebraic, trivial, Ada.algebraic, trivial, Bias.algebraic, trivial⟩

end Cert.Proof

end
